-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S4096x2048 : Shape := ⟨2, ![4096, 2048]⟩
abbrev S4x128x4096 : Shape := ⟨3, ![4, 128, 4096]⟩
abbrev S4x128x2048 : Shape := ⟨3, ![4, 128, 2048]⟩
abbrev S4x7x128x256 : Shape := ⟨4, ![4, 7, 128, 256]⟩
abbrev S_ : Shape := ⟨0, ![]⟩
abbrev S3 : Shape := ⟨1, ![3]⟩
abbrev S4 : Shape := ⟨1, ![4]⟩
abbrev S4x7 : Shape := ⟨2, ![4, 7]⟩
abbrev S1x128x4096 : Shape := ⟨3, ![1, 128, 4096]⟩
abbrev S128x2048 : Shape := ⟨2, ![128, 2048]⟩
abbrev S1x128x2048 : Shape := ⟨3, ![1, 128, 2048]⟩
abbrev S1x1 : Shape := ⟨2, ![1, 1]⟩
abbrev S1x1x128x256 : Shape := ⟨4, ![1, 1, 128, 256]⟩
abbrev S128x256 : Shape := ⟨2, ![128, 256]⟩
abbrev S1x128x256 : Shape := ⟨3, ![1, 128, 256]⟩

abbrev nBuf : Space → Nat
  | .hbm => 5
  | .vmem => 6
  | .smem => 2
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4096x2048, .f32⟩
  | .local _ .vmem, ⟨3, _⟩ => ⟨S4x128x4096, .fp8e5m2⟩
  | .local _ .vmem, ⟨4, _⟩ => ⟨S4x128x2048, .bf16⟩
  | .local _ .vmem, ⟨5, _⟩ => ⟨S4x7x128x256, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 2 → Bool
  | ⟨0, _⟩ => false
  | ⟨1, _⟩ => true
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2048_i32 : BitVec 32 := 2048#32
  let v31 : BitVec 32 := Scalar.muli v19 c2048_i32
  ![0, v31.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v36 : Index := Scalar.indexCast v19
  let c0_14 : Index := 0#32
  let c0_15 : Index := 0#32
  ![v36.toNat, 0, 0]
def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_16 : BitVec 32 := 1#32
  let v41 : BitVec 32 := Scalar.addi v19 c1_i32_16
  let c4_i32 : BitVec 32 := 4#32
  let c0_i32_17 : BitVec 32 := 0#32
  let v42 : BitVec 1 := Scalar.cmpi .eq c4_i32 c0_i32_17
  let c1_i32_18 : BitVec 32 := 1#32
  let v43 : BitVec 32 := Scalar.select v42 c1_i32_18 c4_i32
  let v44 : BitVec 32 := Scalar.remsi v41 v43
  let c0_i32_20 : BitVec 32 := 0#32
  let v46 : BitVec 1 := Scalar.cmpi .slt v44 c0_i32_20
  let c0_i32_21 : BitVec 32 := 0#32
  let v47 : BitVec 1 := Scalar.cmpi .slt v43 c0_i32_21
  let v48 : BitVec 1 := Scalar.xori v46 v47
  let c0_i32_19 : BitVec 32 := 0#32
  let v45 : BitVec 1 := Scalar.cmpi .ne v44 c0_i32_19
  let v49 : BitVec 1 := Scalar.andi v48 v45
  let v50 : BitVec 32 := Scalar.addi v44 v43
  let v51 : BitVec 32 := Scalar.select v49 v50 v44
  let c8_i32_22 : BitVec 32 := 8#32
  let v52 : BitVec 32 := Scalar.muli v51 c8_i32_22
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v53 : BitVec 32 := Scalar.addi v52 v29
  let c1_i32_24 : BitVec 32 := 1#32
  let v54 : BitVec 32 := Scalar.muli v53 c1_i32_24
  let v55 : BitVec 32 := Scalar.addi c0_i32_25 v54
  v55.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v56 : BitVec 32 := Scalar.addi v19 c2_i32
  let c4_i32_26 : BitVec 32 := 4#32
  let c0_i32_27 : BitVec 32 := 0#32
  let v57 : BitVec 1 := Scalar.cmpi .eq c4_i32_26 c0_i32_27
  let c1_i32_28 : BitVec 32 := 1#32
  let v58 : BitVec 32 := Scalar.select v57 c1_i32_28 c4_i32_26
  let v59 : BitVec 32 := Scalar.remsi v56 v58
  let c0_i32_30 : BitVec 32 := 0#32
  let v61 : BitVec 1 := Scalar.cmpi .slt v59 c0_i32_30
  let c0_i32_31 : BitVec 32 := 0#32
  let v62 : BitVec 1 := Scalar.cmpi .slt v58 c0_i32_31
  let v63 : BitVec 1 := Scalar.xori v61 v62
  let c0_i32_29 : BitVec 32 := 0#32
  let v60 : BitVec 1 := Scalar.cmpi .ne v59 c0_i32_29
  let v64 : BitVec 1 := Scalar.andi v63 v60
  let v65 : BitVec 32 := Scalar.addi v59 v58
  let v66 : BitVec 32 := Scalar.select v64 v65 v59
  let c8_i32_32 : BitVec 32 := 8#32
  let v67 : BitVec 32 := Scalar.muli v66 c8_i32_32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_34 : BitVec 32 := 1#32
  let v69 : BitVec 32 := Scalar.muli v68 c1_i32_34
  let v70 : BitVec 32 := Scalar.addi c0_i32_35 v69
  v70.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v71 : BitVec 32 := Scalar.addi v19 c3_i32
  let c4_i32_36 : BitVec 32 := 4#32
  let c0_i32_37 : BitVec 32 := 0#32
  let v72 : BitVec 1 := Scalar.cmpi .eq c4_i32_36 c0_i32_37
  let c1_i32_38 : BitVec 32 := 1#32
  let v73 : BitVec 32 := Scalar.select v72 c1_i32_38 c4_i32_36
  let v74 : BitVec 32 := Scalar.remsi v71 v73
  let c0_i32_40 : BitVec 32 := 0#32
  let v76 : BitVec 1 := Scalar.cmpi .slt v74 c0_i32_40
  let c0_i32_41 : BitVec 32 := 0#32
  let v77 : BitVec 1 := Scalar.cmpi .slt v73 c0_i32_41
  let v78 : BitVec 1 := Scalar.xori v76 v77
  let c0_i32_39 : BitVec 32 := 0#32
  let v75 : BitVec 1 := Scalar.cmpi .ne v74 c0_i32_39
  let v79 : BitVec 1 := Scalar.andi v78 v75
  let v80 : BitVec 32 := Scalar.addi v74 v73
  let v81 : BitVec 32 := Scalar.select v79 v80 v74
  let c8_i32_42 : BitVec 32 := 8#32
  let v82 : BitVec 32 := Scalar.muli v81 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v83 : BitVec 32 := Scalar.addi v82 v29
  let c1_i32_44 : BitVec 32 := 1#32
  let v84 : BitVec 32 := Scalar.muli v83 c1_i32_44
  let v85 : BitVec 32 := Scalar.addi c0_i32_45 v84
  v85.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_46 : BitVec 32 := 1#32
  let v86 : BitVec 32 := Scalar.addi v29 c1_i32_46
  let c8_i32_47 : BitVec 32 := 8#32
  let c0_i32_48 : BitVec 32 := 0#32
  let v87 : BitVec 1 := Scalar.cmpi .eq c8_i32_47 c0_i32_48
  let c1_i32_49 : BitVec 32 := 1#32
  let v88 : BitVec 32 := Scalar.select v87 c1_i32_49 c8_i32_47
  let v89 : BitVec 32 := Scalar.remsi v86 v88
  let c0_i32_51 : BitVec 32 := 0#32
  let v91 : BitVec 1 := Scalar.cmpi .slt v89 c0_i32_51
  let c0_i32_52 : BitVec 32 := 0#32
  let v92 : BitVec 1 := Scalar.cmpi .slt v88 c0_i32_52
  let v93 : BitVec 1 := Scalar.xori v91 v92
  let c0_i32_50 : BitVec 32 := 0#32
  let v90 : BitVec 1 := Scalar.cmpi .ne v89 c0_i32_50
  let v94 : BitVec 1 := Scalar.andi v93 v90
  let v95 : BitVec 32 := Scalar.addi v89 v88
  let v96 : BitVec 32 := Scalar.select v94 v95 v89
  let v97 : BitVec 32 := Scalar.addi v30 v96
  let c1_i32_54 : BitVec 32 := 1#32
  let v98 : BitVec 32 := Scalar.muli v97 c1_i32_54
  let v99 : BitVec 32 := Scalar.addi c0_i32_55 v98
  v99.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_56 : BitVec 32 := 2#32
  let v100 : BitVec 32 := Scalar.addi v29 c2_i32_56
  let c8_i32_57 : BitVec 32 := 8#32
  let c0_i32_58 : BitVec 32 := 0#32
  let v101 : BitVec 1 := Scalar.cmpi .eq c8_i32_57 c0_i32_58
  let c1_i32_59 : BitVec 32 := 1#32
  let v102 : BitVec 32 := Scalar.select v101 c1_i32_59 c8_i32_57
  let v103 : BitVec 32 := Scalar.remsi v100 v102
  let c0_i32_61 : BitVec 32 := 0#32
  let v105 : BitVec 1 := Scalar.cmpi .slt v103 c0_i32_61
  let c0_i32_62 : BitVec 32 := 0#32
  let v106 : BitVec 1 := Scalar.cmpi .slt v102 c0_i32_62
  let v107 : BitVec 1 := Scalar.xori v105 v106
  let c0_i32_60 : BitVec 32 := 0#32
  let v104 : BitVec 1 := Scalar.cmpi .ne v103 c0_i32_60
  let v108 : BitVec 1 := Scalar.andi v107 v104
  let v109 : BitVec 32 := Scalar.addi v103 v102
  let v110 : BitVec 32 := Scalar.select v108 v109 v103
  let v111 : BitVec 32 := Scalar.addi v30 v110
  let c1_i32_64 : BitVec 32 := 1#32
  let v112 : BitVec 32 := Scalar.muli v111 c1_i32_64
  let v113 : BitVec 32 := Scalar.addi c0_i32_65 v112
  v113.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_66 : BitVec 32 := 3#32
  let v114 : BitVec 32 := Scalar.addi v29 c3_i32_66
  let c8_i32_67 : BitVec 32 := 8#32
  let c0_i32_68 : BitVec 32 := 0#32
  let v115 : BitVec 1 := Scalar.cmpi .eq c8_i32_67 c0_i32_68
  let c1_i32_69 : BitVec 32 := 1#32
  let v116 : BitVec 32 := Scalar.select v115 c1_i32_69 c8_i32_67
  let v117 : BitVec 32 := Scalar.remsi v114 v116
  let c0_i32_71 : BitVec 32 := 0#32
  let v119 : BitVec 1 := Scalar.cmpi .slt v117 c0_i32_71
  let c0_i32_72 : BitVec 32 := 0#32
  let v120 : BitVec 1 := Scalar.cmpi .slt v116 c0_i32_72
  let v121 : BitVec 1 := Scalar.xori v119 v120
  let c0_i32_70 : BitVec 32 := 0#32
  let v118 : BitVec 1 := Scalar.cmpi .ne v117 c0_i32_70
  let v122 : BitVec 1 := Scalar.andi v121 v118
  let v123 : BitVec 32 := Scalar.addi v117 v116
  let v124 : BitVec 32 := Scalar.select v122 v123 v117
  let v125 : BitVec 32 := Scalar.addi v30 v124
  let c1_i32_74 : BitVec 32 := 1#32
  let v126 : BitVec 32 := Scalar.muli v125 c1_i32_74
  let v127 : BitVec 32 := Scalar.addi c0_i32_75 v126
  v127.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_76 : BitVec 32 := 4#32
  let v128 : BitVec 32 := Scalar.addi v29 c4_i32_76
  let c8_i32_77 : BitVec 32 := 8#32
  let c0_i32_78 : BitVec 32 := 0#32
  let v129 : BitVec 1 := Scalar.cmpi .eq c8_i32_77 c0_i32_78
  let c1_i32_79 : BitVec 32 := 1#32
  let v130 : BitVec 32 := Scalar.select v129 c1_i32_79 c8_i32_77
  let v131 : BitVec 32 := Scalar.remsi v128 v130
  let c0_i32_81 : BitVec 32 := 0#32
  let v133 : BitVec 1 := Scalar.cmpi .slt v131 c0_i32_81
  let c0_i32_82 : BitVec 32 := 0#32
  let v134 : BitVec 1 := Scalar.cmpi .slt v130 c0_i32_82
  let v135 : BitVec 1 := Scalar.xori v133 v134
  let c0_i32_80 : BitVec 32 := 0#32
  let v132 : BitVec 1 := Scalar.cmpi .ne v131 c0_i32_80
  let v136 : BitVec 1 := Scalar.andi v135 v132
  let v137 : BitVec 32 := Scalar.addi v131 v130
  let v138 : BitVec 32 := Scalar.select v136 v137 v131
  let v139 : BitVec 32 := Scalar.addi v30 v138
  let c1_i32_84 : BitVec 32 := 1#32
  let v140 : BitVec 32 := Scalar.muli v139 c1_i32_84
  let v141 : BitVec 32 := Scalar.addi c0_i32_85 v140
  v141.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v142 : BitVec 32 := Scalar.addi v29 c5_i32
  let c8_i32_86 : BitVec 32 := 8#32
  let c0_i32_87 : BitVec 32 := 0#32
  let v143 : BitVec 1 := Scalar.cmpi .eq c8_i32_86 c0_i32_87
  let c1_i32_88 : BitVec 32 := 1#32
  let v144 : BitVec 32 := Scalar.select v143 c1_i32_88 c8_i32_86
  let v145 : BitVec 32 := Scalar.remsi v142 v144
  let c0_i32_90 : BitVec 32 := 0#32
  let v147 : BitVec 1 := Scalar.cmpi .slt v145 c0_i32_90
  let c0_i32_91 : BitVec 32 := 0#32
  let v148 : BitVec 1 := Scalar.cmpi .slt v144 c0_i32_91
  let v149 : BitVec 1 := Scalar.xori v147 v148
  let c0_i32_89 : BitVec 32 := 0#32
  let v146 : BitVec 1 := Scalar.cmpi .ne v145 c0_i32_89
  let v150 : BitVec 1 := Scalar.andi v149 v146
  let v151 : BitVec 32 := Scalar.addi v145 v144
  let v152 : BitVec 32 := Scalar.select v150 v151 v145
  let v153 : BitVec 32 := Scalar.addi v30 v152
  let c1_i32_93 : BitVec 32 := 1#32
  let v154 : BitVec 32 := Scalar.muli v153 c1_i32_93
  let v155 : BitVec 32 := Scalar.addi c0_i32_94 v154
  v155.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v156 : BitVec 32 := Scalar.addi v29 c6_i32
  let c8_i32_95 : BitVec 32 := 8#32
  let c0_i32_96 : BitVec 32 := 0#32
  let v157 : BitVec 1 := Scalar.cmpi .eq c8_i32_95 c0_i32_96
  let c1_i32_97 : BitVec 32 := 1#32
  let v158 : BitVec 32 := Scalar.select v157 c1_i32_97 c8_i32_95
  let v159 : BitVec 32 := Scalar.remsi v156 v158
  let c0_i32_99 : BitVec 32 := 0#32
  let v161 : BitVec 1 := Scalar.cmpi .slt v159 c0_i32_99
  let c0_i32_100 : BitVec 32 := 0#32
  let v162 : BitVec 1 := Scalar.cmpi .slt v158 c0_i32_100
  let v163 : BitVec 1 := Scalar.xori v161 v162
  let c0_i32_98 : BitVec 32 := 0#32
  let v160 : BitVec 1 := Scalar.cmpi .ne v159 c0_i32_98
  let v164 : BitVec 1 := Scalar.andi v163 v160
  let v165 : BitVec 32 := Scalar.addi v159 v158
  let v166 : BitVec 32 := Scalar.select v164 v165 v159
  let v167 : BitVec 32 := Scalar.addi v30 v166
  let c1_i32_102 : BitVec 32 := 1#32
  let v168 : BitVec 32 := Scalar.muli v167 c1_i32_102
  let v169 : BitVec 32 := Scalar.addi c0_i32_103 v168
  v169.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v170 : BitVec 32 := Scalar.addi v29 c7_i32
  let c8_i32_104 : BitVec 32 := 8#32
  let c0_i32_105 : BitVec 32 := 0#32
  let v171 : BitVec 1 := Scalar.cmpi .eq c8_i32_104 c0_i32_105
  let c1_i32_106 : BitVec 32 := 1#32
  let v172 : BitVec 32 := Scalar.select v171 c1_i32_106 c8_i32_104
  let v173 : BitVec 32 := Scalar.remsi v170 v172
  let c0_i32_108 : BitVec 32 := 0#32
  let v175 : BitVec 1 := Scalar.cmpi .slt v173 c0_i32_108
  let c0_i32_109 : BitVec 32 := 0#32
  let v176 : BitVec 1 := Scalar.cmpi .slt v172 c0_i32_109
  let v177 : BitVec 1 := Scalar.xori v175 v176
  let c0_i32_107 : BitVec 32 := 0#32
  let v174 : BitVec 1 := Scalar.cmpi .ne v173 c0_i32_107
  let v178 : BitVec 1 := Scalar.andi v177 v174
  let v179 : BitVec 32 := Scalar.addi v173 v172
  let v180 : BitVec 32 := Scalar.select v178 v179 v173
  let v181 : BitVec 32 := Scalar.addi v30 v180
  let c1_i32_111 : BitVec 32 := 1#32
  let v182 : BitVec 32 := Scalar.muli v181 c1_i32_111
  let v183 : BitVec 32 := Scalar.addi c0_i32_112 v182
  v183.toNat
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  ![v19.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_124 : BitVec 32 := 0#32
  let c0_i32_125 : BitVec 32 := 0#32
  ![v19.toNat, 0, 0]
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_113 : BitVec 32 := 1#32
  let v184 : BitVec 32 := Scalar.addi v19 c1_i32_113
  let c4_i32_114 : BitVec 32 := 4#32
  let c0_i32_115 : BitVec 32 := 0#32
  let v185 : BitVec 1 := Scalar.cmpi .eq c4_i32_114 c0_i32_115
  let c1_i32_116 : BitVec 32 := 1#32
  let v186 : BitVec 32 := Scalar.select v185 c1_i32_116 c4_i32_114
  let v187 : BitVec 32 := Scalar.remsi v184 v186
  let c0_i32_118 : BitVec 32 := 0#32
  let v189 : BitVec 1 := Scalar.cmpi .slt v187 c0_i32_118
  let c0_i32_119 : BitVec 32 := 0#32
  let v190 : BitVec 1 := Scalar.cmpi .slt v186 c0_i32_119
  let v191 : BitVec 1 := Scalar.xori v189 v190
  let c0_i32_117 : BitVec 32 := 0#32
  let v188 : BitVec 1 := Scalar.cmpi .ne v187 c0_i32_117
  let v192 : BitVec 1 := Scalar.andi v191 v188
  let v193 : BitVec 32 := Scalar.addi v187 v186
  let v194 : BitVec 32 := Scalar.select v192 v193 v187
  let c8_i32_120 : BitVec 32 := 8#32
  let v195 : BitVec 32 := Scalar.muli v194 c8_i32_120
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v196 : BitVec 32 := Scalar.addi v195 v29
  let c1_i32_122 : BitVec 32 := 1#32
  let v197 : BitVec 32 := Scalar.muli v196 c1_i32_122
  let v198 : BitVec 32 := Scalar.addi c0_i32_123 v197
  v198.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_128 : BitVec 32 := 2#32
  let v207 : BitVec 32 := Scalar.addi v19 c2_i32_128
  let c4_i32_129 : BitVec 32 := 4#32
  let c0_i32_130 : BitVec 32 := 0#32
  let v208 : BitVec 1 := Scalar.cmpi .eq c4_i32_129 c0_i32_130
  let c1_i32_131 : BitVec 32 := 1#32
  let v209 : BitVec 32 := Scalar.select v208 c1_i32_131 c4_i32_129
  let v210 : BitVec 32 := Scalar.remsi v207 v209
  let c0_i32_133 : BitVec 32 := 0#32
  let v212 : BitVec 1 := Scalar.cmpi .slt v210 c0_i32_133
  let c0_i32_134 : BitVec 32 := 0#32
  let v213 : BitVec 1 := Scalar.cmpi .slt v209 c0_i32_134
  let v214 : BitVec 1 := Scalar.xori v212 v213
  let c0_i32_132 : BitVec 32 := 0#32
  let v211 : BitVec 1 := Scalar.cmpi .ne v210 c0_i32_132
  let v215 : BitVec 1 := Scalar.andi v214 v211
  let v216 : BitVec 32 := Scalar.addi v210 v209
  let v217 : BitVec 32 := Scalar.select v215 v216 v210
  let c8_i32_135 : BitVec 32 := 8#32
  let v218 : BitVec 32 := Scalar.muli v217 c8_i32_135
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v219 : BitVec 32 := Scalar.addi v218 v29
  let c1_i32_137 : BitVec 32 := 1#32
  let v220 : BitVec 32 := Scalar.muli v219 c1_i32_137
  let v221 : BitVec 32 := Scalar.addi c0_i32_138 v220
  v221.toNat
def k0_dev13 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_143 : BitVec 32 := 3#32
  let v230 : BitVec 32 := Scalar.addi v19 c3_i32_143
  let c4_i32_144 : BitVec 32 := 4#32
  let c0_i32_145 : BitVec 32 := 0#32
  let v231 : BitVec 1 := Scalar.cmpi .eq c4_i32_144 c0_i32_145
  let c1_i32_146 : BitVec 32 := 1#32
  let v232 : BitVec 32 := Scalar.select v231 c1_i32_146 c4_i32_144
  let v233 : BitVec 32 := Scalar.remsi v230 v232
  let c0_i32_148 : BitVec 32 := 0#32
  let v235 : BitVec 1 := Scalar.cmpi .slt v233 c0_i32_148
  let c0_i32_149 : BitVec 32 := 0#32
  let v236 : BitVec 1 := Scalar.cmpi .slt v232 c0_i32_149
  let v237 : BitVec 1 := Scalar.xori v235 v236
  let c0_i32_147 : BitVec 32 := 0#32
  let v234 : BitVec 1 := Scalar.cmpi .ne v233 c0_i32_147
  let v238 : BitVec 1 := Scalar.andi v237 v234
  let v239 : BitVec 32 := Scalar.addi v233 v232
  let v240 : BitVec 32 := Scalar.select v238 v239 v233
  let c8_i32_150 : BitVec 32 := 8#32
  let v241 : BitVec 32 := Scalar.muli v240 c8_i32_150
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v242 : BitVec 32 := Scalar.addi v241 v29
  let c1_i32_152 : BitVec 32 := 1#32
  let v243 : BitVec 32 := Scalar.muli v242 c1_i32_152
  let v244 : BitVec 32 := Scalar.addi c0_i32_153 v243
  v244.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v266 : Index := Scalar.indexCast v19
  let c0_165 : Index := 0#32
  let c0_166 : Index := 0#32
  ![v266.toNat, 0, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_176 : BitVec 32 := 0#32
  ![v19.toNat, 0]
def k0_off7 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_174 : BitVec 32 := 0#32
  let c0_i32_179 : BitVec 32 := 0#32
  let c0_i32_180 : BitVec 32 := 0#32
  ![v19.toNat, 0, 0, 0]
def k0_off8 (d0 : Dev nD) (c1_i32_167 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_181 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v270 : BitVec 32 := Scalar.addi v29 c1_i32_167
  let c8_i32_168 : BitVec 32 := 8#32
  let c0_i32_169 : BitVec 32 := 0#32
  let v271 : BitVec 1 := Scalar.cmpi .eq c8_i32_168 c0_i32_169
  let c1_i32_170 : BitVec 32 := 1#32
  let v272 : BitVec 32 := Scalar.select v271 c1_i32_170 c8_i32_168
  let v273 : BitVec 32 := Scalar.remsi v270 v272
  let c0_i32_172 : BitVec 32 := 0#32
  let v275 : BitVec 1 := Scalar.cmpi .slt v273 c0_i32_172
  let c0_i32_173 : BitVec 32 := 0#32
  let v276 : BitVec 1 := Scalar.cmpi .slt v272 c0_i32_173
  let v277 : BitVec 1 := Scalar.xori v275 v276
  let c0_i32_171 : BitVec 32 := 0#32
  let v274 : BitVec 1 := Scalar.cmpi .ne v273 c0_i32_171
  let v278 : BitVec 1 := Scalar.andi v277 v274
  let v279 : BitVec 32 := Scalar.addi v273 v272
  let v280 : BitVec 32 := Scalar.select v278 v279 v273
  let c256_i32 : BitVec 32 := 256#32
  let v281 : BitVec 32 := Scalar.muli v280 c256_i32
  ![v19.toNat, 0, v281.toNat]
def k0_dev14 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_167 : BitVec 32 := 1#32
  let v270 : BitVec 32 := Scalar.addi v29 c1_i32_167
  let c8_i32_168 : BitVec 32 := 8#32
  let c0_i32_169 : BitVec 32 := 0#32
  let v271 : BitVec 1 := Scalar.cmpi .eq c8_i32_168 c0_i32_169
  let c1_i32_170 : BitVec 32 := 1#32
  let v272 : BitVec 32 := Scalar.select v271 c1_i32_170 c8_i32_168
  let v273 : BitVec 32 := Scalar.remsi v270 v272
  let c0_i32_172 : BitVec 32 := 0#32
  let v275 : BitVec 1 := Scalar.cmpi .slt v273 c0_i32_172
  let c0_i32_173 : BitVec 32 := 0#32
  let v276 : BitVec 1 := Scalar.cmpi .slt v272 c0_i32_173
  let v277 : BitVec 1 := Scalar.xori v275 v276
  let c0_i32_171 : BitVec 32 := 0#32
  let v274 : BitVec 1 := Scalar.cmpi .ne v273 c0_i32_171
  let v278 : BitVec 1 := Scalar.andi v277 v274
  let v279 : BitVec 32 := Scalar.addi v273 v272
  let v280 : BitVec 32 := Scalar.select v278 v279 v273
  let v282 : BitVec 32 := Scalar.addi v30 v280
  let c1_i32_177 : BitVec 32 := 1#32
  let v283 : BitVec 32 := Scalar.muli v282 c1_i32_177
  let v284 : BitVec 32 := Scalar.addi c0_i32_178 v283
  v284.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_192 : BitVec 32 := 1#32
  ![v19.toNat, 1]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_190 : BitVec 32 := 1#32
  let c0_i32_195 : BitVec 32 := 0#32
  let c0_i32_196 : BitVec 32 := 0#32
  ![v19.toNat, 1, 0, 0]
def k0_dev15 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_182 : BitVec 32 := 2#32
  let v293 : BitVec 32 := Scalar.addi v29 c2_i32_182
  let c8_i32_183 : BitVec 32 := 8#32
  let c0_i32_184 : BitVec 32 := 0#32
  let v294 : BitVec 1 := Scalar.cmpi .eq c8_i32_183 c0_i32_184
  let c1_i32_185 : BitVec 32 := 1#32
  let v295 : BitVec 32 := Scalar.select v294 c1_i32_185 c8_i32_183
  let v296 : BitVec 32 := Scalar.remsi v293 v295
  let c0_i32_187 : BitVec 32 := 0#32
  let v298 : BitVec 1 := Scalar.cmpi .slt v296 c0_i32_187
  let c0_i32_188 : BitVec 32 := 0#32
  let v299 : BitVec 1 := Scalar.cmpi .slt v295 c0_i32_188
  let v300 : BitVec 1 := Scalar.xori v298 v299
  let c0_i32_186 : BitVec 32 := 0#32
  let v297 : BitVec 1 := Scalar.cmpi .ne v296 c0_i32_186
  let v301 : BitVec 1 := Scalar.andi v300 v297
  let v302 : BitVec 32 := Scalar.addi v296 v295
  let v303 : BitVec 32 := Scalar.select v301 v302 v296
  let v305 : BitVec 32 := Scalar.addi v30 v303
  let c1_i32_193 : BitVec 32 := 1#32
  let v306 : BitVec 32 := Scalar.muli v305 c1_i32_193
  let v307 : BitVec 32 := Scalar.addi c0_i32_194 v306
  v307.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_208 : BitVec 32 := 2#32
  ![v19.toNat, 2]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_206 : BitVec 32 := 2#32
  let c0_i32_211 : BitVec 32 := 0#32
  let c0_i32_212 : BitVec 32 := 0#32
  ![v19.toNat, 2, 0, 0]
def k0_dev16 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_198 : BitVec 32 := 3#32
  let v316 : BitVec 32 := Scalar.addi v29 c3_i32_198
  let c8_i32_199 : BitVec 32 := 8#32
  let c0_i32_200 : BitVec 32 := 0#32
  let v317 : BitVec 1 := Scalar.cmpi .eq c8_i32_199 c0_i32_200
  let c1_i32_201 : BitVec 32 := 1#32
  let v318 : BitVec 32 := Scalar.select v317 c1_i32_201 c8_i32_199
  let v319 : BitVec 32 := Scalar.remsi v316 v318
  let c0_i32_203 : BitVec 32 := 0#32
  let v321 : BitVec 1 := Scalar.cmpi .slt v319 c0_i32_203
  let c0_i32_204 : BitVec 32 := 0#32
  let v322 : BitVec 1 := Scalar.cmpi .slt v318 c0_i32_204
  let v323 : BitVec 1 := Scalar.xori v321 v322
  let c0_i32_202 : BitVec 32 := 0#32
  let v320 : BitVec 1 := Scalar.cmpi .ne v319 c0_i32_202
  let v324 : BitVec 1 := Scalar.andi v323 v320
  let v325 : BitVec 32 := Scalar.addi v319 v318
  let v326 : BitVec 32 := Scalar.select v324 v325 v319
  let v328 : BitVec 32 := Scalar.addi v30 v326
  let c1_i32_209 : BitVec 32 := 1#32
  let v329 : BitVec 32 := Scalar.muli v328 c1_i32_209
  let v330 : BitVec 32 := Scalar.addi c0_i32_210 v329
  v330.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_224 : BitVec 32 := 3#32
  ![v19.toNat, 3]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_222 : BitVec 32 := 3#32
  let c0_i32_227 : BitVec 32 := 0#32
  let c0_i32_228 : BitVec 32 := 0#32
  ![v19.toNat, 3, 0, 0]
def k0_dev17 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_214 : BitVec 32 := 4#32
  let v339 : BitVec 32 := Scalar.addi v29 c4_i32_214
  let c8_i32_215 : BitVec 32 := 8#32
  let c0_i32_216 : BitVec 32 := 0#32
  let v340 : BitVec 1 := Scalar.cmpi .eq c8_i32_215 c0_i32_216
  let c1_i32_217 : BitVec 32 := 1#32
  let v341 : BitVec 32 := Scalar.select v340 c1_i32_217 c8_i32_215
  let v342 : BitVec 32 := Scalar.remsi v339 v341
  let c0_i32_219 : BitVec 32 := 0#32
  let v344 : BitVec 1 := Scalar.cmpi .slt v342 c0_i32_219
  let c0_i32_220 : BitVec 32 := 0#32
  let v345 : BitVec 1 := Scalar.cmpi .slt v341 c0_i32_220
  let v346 : BitVec 1 := Scalar.xori v344 v345
  let c0_i32_218 : BitVec 32 := 0#32
  let v343 : BitVec 1 := Scalar.cmpi .ne v342 c0_i32_218
  let v347 : BitVec 1 := Scalar.andi v346 v343
  let v348 : BitVec 32 := Scalar.addi v342 v341
  let v349 : BitVec 32 := Scalar.select v347 v348 v342
  let v351 : BitVec 32 := Scalar.addi v30 v349
  let c1_i32_225 : BitVec 32 := 1#32
  let v352 : BitVec 32 := Scalar.muli v351 c1_i32_225
  let v353 : BitVec 32 := Scalar.addi c0_i32_226 v352
  v353.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_240 : BitVec 32 := 4#32
  ![v19.toNat, 4]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_238 : BitVec 32 := 4#32
  let c0_i32_243 : BitVec 32 := 0#32
  let c0_i32_244 : BitVec 32 := 0#32
  ![v19.toNat, 4, 0, 0]
def k0_dev18 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_230 : BitVec 32 := 5#32
  let v362 : BitVec 32 := Scalar.addi v29 c5_i32_230
  let c8_i32_231 : BitVec 32 := 8#32
  let c0_i32_232 : BitVec 32 := 0#32
  let v363 : BitVec 1 := Scalar.cmpi .eq c8_i32_231 c0_i32_232
  let c1_i32_233 : BitVec 32 := 1#32
  let v364 : BitVec 32 := Scalar.select v363 c1_i32_233 c8_i32_231
  let v365 : BitVec 32 := Scalar.remsi v362 v364
  let c0_i32_235 : BitVec 32 := 0#32
  let v367 : BitVec 1 := Scalar.cmpi .slt v365 c0_i32_235
  let c0_i32_236 : BitVec 32 := 0#32
  let v368 : BitVec 1 := Scalar.cmpi .slt v364 c0_i32_236
  let v369 : BitVec 1 := Scalar.xori v367 v368
  let c0_i32_234 : BitVec 32 := 0#32
  let v366 : BitVec 1 := Scalar.cmpi .ne v365 c0_i32_234
  let v370 : BitVec 1 := Scalar.andi v369 v366
  let v371 : BitVec 32 := Scalar.addi v365 v364
  let v372 : BitVec 32 := Scalar.select v370 v371 v365
  let v374 : BitVec 32 := Scalar.addi v30 v372
  let c1_i32_241 : BitVec 32 := 1#32
  let v375 : BitVec 32 := Scalar.muli v374 c1_i32_241
  let v376 : BitVec 32 := Scalar.addi c0_i32_242 v375
  v376.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c5_i32_256 : BitVec 32 := 5#32
  ![v19.toNat, 5]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c5_i32_254 : BitVec 32 := 5#32
  let c0_i32_259 : BitVec 32 := 0#32
  let c0_i32_260 : BitVec 32 := 0#32
  ![v19.toNat, 5, 0, 0]
def k0_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_246 : BitVec 32 := 6#32
  let v385 : BitVec 32 := Scalar.addi v29 c6_i32_246
  let c8_i32_247 : BitVec 32 := 8#32
  let c0_i32_248 : BitVec 32 := 0#32
  let v386 : BitVec 1 := Scalar.cmpi .eq c8_i32_247 c0_i32_248
  let c1_i32_249 : BitVec 32 := 1#32
  let v387 : BitVec 32 := Scalar.select v386 c1_i32_249 c8_i32_247
  let v388 : BitVec 32 := Scalar.remsi v385 v387
  let c0_i32_251 : BitVec 32 := 0#32
  let v390 : BitVec 1 := Scalar.cmpi .slt v388 c0_i32_251
  let c0_i32_252 : BitVec 32 := 0#32
  let v391 : BitVec 1 := Scalar.cmpi .slt v387 c0_i32_252
  let v392 : BitVec 1 := Scalar.xori v390 v391
  let c0_i32_250 : BitVec 32 := 0#32
  let v389 : BitVec 1 := Scalar.cmpi .ne v388 c0_i32_250
  let v393 : BitVec 1 := Scalar.andi v392 v389
  let v394 : BitVec 32 := Scalar.addi v388 v387
  let v395 : BitVec 32 := Scalar.select v393 v394 v388
  let v397 : BitVec 32 := Scalar.addi v30 v395
  let c1_i32_257 : BitVec 32 := 1#32
  let v398 : BitVec 32 := Scalar.muli v397 c1_i32_257
  let v399 : BitVec 32 := Scalar.addi c0_i32_258 v398
  v399.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c6_i32_272 : BitVec 32 := 6#32
  ![v19.toNat, 6]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c6_i32_270 : BitVec 32 := 6#32
  let c0_i32_275 : BitVec 32 := 0#32
  let c0_i32_276 : BitVec 32 := 0#32
  ![v19.toNat, 6, 0, 0]
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_262 : BitVec 32 := 7#32
  let v408 : BitVec 32 := Scalar.addi v29 c7_i32_262
  let c8_i32_263 : BitVec 32 := 8#32
  let c0_i32_264 : BitVec 32 := 0#32
  let v409 : BitVec 1 := Scalar.cmpi .eq c8_i32_263 c0_i32_264
  let c1_i32_265 : BitVec 32 := 1#32
  let v410 : BitVec 32 := Scalar.select v409 c1_i32_265 c8_i32_263
  let v411 : BitVec 32 := Scalar.remsi v408 v410
  let c0_i32_267 : BitVec 32 := 0#32
  let v413 : BitVec 1 := Scalar.cmpi .slt v411 c0_i32_267
  let c0_i32_268 : BitVec 32 := 0#32
  let v414 : BitVec 1 := Scalar.cmpi .slt v410 c0_i32_268
  let v415 : BitVec 1 := Scalar.xori v413 v414
  let c0_i32_266 : BitVec 32 := 0#32
  let v412 : BitVec 1 := Scalar.cmpi .ne v411 c0_i32_266
  let v416 : BitVec 1 := Scalar.andi v415 v412
  let v417 : BitVec 32 := Scalar.addi v411 v410
  let v418 : BitVec 32 := Scalar.select v416 v417 v411
  let v420 : BitVec 32 := Scalar.addi v30 v418
  let c1_i32_273 : BitVec 32 := 1#32
  let v421 : BitVec 32 := Scalar.muli v420 c1_i32_273
  let v422 : BitVec 32 := Scalar.addi c0_i32_274 v421
  v422.toNat
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v435 : Index := Scalar.indexCast v19
  let c0_280 : Index := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_279 : BitVec 32 := 256#32
  let v434 : BitVec 32 := Scalar.muli v29 c256_i32_279
  let v436 : Index := Scalar.indexCast v434
  ![v435.toNat, 0, v436.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_278 : BitVec 32 := 8#32
  let v431 : BitVec 32 := Scalar.muli v19 c8_i32_278
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v432 : BitVec 32 := Scalar.addi v431 v29
  let c128_i32 : BitVec 32 := 128#32
  let v433 : BitVec 32 := Scalar.muli v432 c128_i32
  let v440 : Index := Scalar.indexCast v433
  let c0_281 : Index := 0#32
  ![v440.toNat, 0]
def k0_off23 (d0 : Dev nD) (c1_i32_282 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  ![v452.toNat]
def k0_off24 (d0 : Dev nD) (c1_i32_282 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c0_i32_293 : BitVec 32 := 0#32
  let c0_i32_294 : BitVec 32 := 0#32
  ![v452.toNat, 0, 0]
def k0_off25 (d0 : Dev nD) (c1_i32_282 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let v461 : Index := Scalar.indexCast v452
  let c0_297 : Index := 0#32
  let c0_298 : Index := 0#32
  ![v461.toNat, 0, 0]
def k0_off26 (d0 : Dev nD) (c1_i32_282 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let v470 : Index := Scalar.indexCast v452
  let c0_302 : Index := 0#32
  let c0_303 : Index := 0#32
  ![v470.toNat, 0, 0]
def k0_off27 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c0_i32_314 : BitVec 32 := 0#32
  ![v452.toNat, 0]
def k0_off28 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c0_i32_312 : BitVec 32 := 0#32
  let c0_i32_317 : BitVec 32 := 0#32
  let c0_i32_318 : BitVec 32 := 0#32
  ![v452.toNat, 0, 0, 0]
def k0_off29 (d0 : Dev nD) (c1_i32_282 : BitVec 32) (c1_i32_304 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c0_i32_319 : BitVec 32 := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v474 : BitVec 32 := Scalar.addi v29 c1_i32_304
  let c8_i32_305 : BitVec 32 := 8#32
  let c0_i32_306 : BitVec 32 := 0#32
  let v475 : BitVec 1 := Scalar.cmpi .eq c8_i32_305 c0_i32_306
  let c1_i32_307 : BitVec 32 := 1#32
  let v476 : BitVec 32 := Scalar.select v475 c1_i32_307 c8_i32_305
  let v477 : BitVec 32 := Scalar.remsi v474 v476
  let c0_i32_309 : BitVec 32 := 0#32
  let v479 : BitVec 1 := Scalar.cmpi .slt v477 c0_i32_309
  let c0_i32_310 : BitVec 32 := 0#32
  let v480 : BitVec 1 := Scalar.cmpi .slt v476 c0_i32_310
  let v481 : BitVec 1 := Scalar.xori v479 v480
  let c0_i32_308 : BitVec 32 := 0#32
  let v478 : BitVec 1 := Scalar.cmpi .ne v477 c0_i32_308
  let v482 : BitVec 1 := Scalar.andi v481 v478
  let v483 : BitVec 32 := Scalar.addi v477 v476
  let v484 : BitVec 32 := Scalar.select v482 v483 v477
  let c256_i32_311 : BitVec 32 := 256#32
  let v485 : BitVec 32 := Scalar.muli v484 c256_i32_311
  ![v452.toNat, 0, v485.toNat]
def k0_dev21 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_304 : BitVec 32 := 1#32
  let v474 : BitVec 32 := Scalar.addi v29 c1_i32_304
  let c8_i32_305 : BitVec 32 := 8#32
  let c0_i32_306 : BitVec 32 := 0#32
  let v475 : BitVec 1 := Scalar.cmpi .eq c8_i32_305 c0_i32_306
  let c1_i32_307 : BitVec 32 := 1#32
  let v476 : BitVec 32 := Scalar.select v475 c1_i32_307 c8_i32_305
  let v477 : BitVec 32 := Scalar.remsi v474 v476
  let c0_i32_309 : BitVec 32 := 0#32
  let v479 : BitVec 1 := Scalar.cmpi .slt v477 c0_i32_309
  let c0_i32_310 : BitVec 32 := 0#32
  let v480 : BitVec 1 := Scalar.cmpi .slt v476 c0_i32_310
  let v481 : BitVec 1 := Scalar.xori v479 v480
  let c0_i32_308 : BitVec 32 := 0#32
  let v478 : BitVec 1 := Scalar.cmpi .ne v477 c0_i32_308
  let v482 : BitVec 1 := Scalar.andi v481 v478
  let v483 : BitVec 32 := Scalar.addi v477 v476
  let v484 : BitVec 32 := Scalar.select v482 v483 v477
  let v486 : BitVec 32 := Scalar.addi v30 v484
  let c1_i32_315 : BitVec 32 := 1#32
  let v487 : BitVec 32 := Scalar.muli v486 c1_i32_315
  let v488 : BitVec 32 := Scalar.addi c0_i32_316 v487
  v488.toNat
def k0_off30 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c1_i32_330 : BitVec 32 := 1#32
  ![v452.toNat, 1]
def k0_off31 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c1_i32_328 : BitVec 32 := 1#32
  let c0_i32_333 : BitVec 32 := 0#32
  let c0_i32_334 : BitVec 32 := 0#32
  ![v452.toNat, 1, 0, 0]
def k0_dev22 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_320 : BitVec 32 := 2#32
  let v497 : BitVec 32 := Scalar.addi v29 c2_i32_320
  let c8_i32_321 : BitVec 32 := 8#32
  let c0_i32_322 : BitVec 32 := 0#32
  let v498 : BitVec 1 := Scalar.cmpi .eq c8_i32_321 c0_i32_322
  let c1_i32_323 : BitVec 32 := 1#32
  let v499 : BitVec 32 := Scalar.select v498 c1_i32_323 c8_i32_321
  let v500 : BitVec 32 := Scalar.remsi v497 v499
  let c0_i32_325 : BitVec 32 := 0#32
  let v502 : BitVec 1 := Scalar.cmpi .slt v500 c0_i32_325
  let c0_i32_326 : BitVec 32 := 0#32
  let v503 : BitVec 1 := Scalar.cmpi .slt v499 c0_i32_326
  let v504 : BitVec 1 := Scalar.xori v502 v503
  let c0_i32_324 : BitVec 32 := 0#32
  let v501 : BitVec 1 := Scalar.cmpi .ne v500 c0_i32_324
  let v505 : BitVec 1 := Scalar.andi v504 v501
  let v506 : BitVec 32 := Scalar.addi v500 v499
  let v507 : BitVec 32 := Scalar.select v505 v506 v500
  let v509 : BitVec 32 := Scalar.addi v30 v507
  let c1_i32_331 : BitVec 32 := 1#32
  let v510 : BitVec 32 := Scalar.muli v509 c1_i32_331
  let v511 : BitVec 32 := Scalar.addi c0_i32_332 v510
  v511.toNat
def k0_off32 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c2_i32_346 : BitVec 32 := 2#32
  ![v452.toNat, 2]
def k0_off33 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c2_i32_344 : BitVec 32 := 2#32
  let c0_i32_349 : BitVec 32 := 0#32
  let c0_i32_350 : BitVec 32 := 0#32
  ![v452.toNat, 2, 0, 0]
def k0_dev23 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_336 : BitVec 32 := 3#32
  let v520 : BitVec 32 := Scalar.addi v29 c3_i32_336
  let c8_i32_337 : BitVec 32 := 8#32
  let c0_i32_338 : BitVec 32 := 0#32
  let v521 : BitVec 1 := Scalar.cmpi .eq c8_i32_337 c0_i32_338
  let c1_i32_339 : BitVec 32 := 1#32
  let v522 : BitVec 32 := Scalar.select v521 c1_i32_339 c8_i32_337
  let v523 : BitVec 32 := Scalar.remsi v520 v522
  let c0_i32_341 : BitVec 32 := 0#32
  let v525 : BitVec 1 := Scalar.cmpi .slt v523 c0_i32_341
  let c0_i32_342 : BitVec 32 := 0#32
  let v526 : BitVec 1 := Scalar.cmpi .slt v522 c0_i32_342
  let v527 : BitVec 1 := Scalar.xori v525 v526
  let c0_i32_340 : BitVec 32 := 0#32
  let v524 : BitVec 1 := Scalar.cmpi .ne v523 c0_i32_340
  let v528 : BitVec 1 := Scalar.andi v527 v524
  let v529 : BitVec 32 := Scalar.addi v523 v522
  let v530 : BitVec 32 := Scalar.select v528 v529 v523
  let v532 : BitVec 32 := Scalar.addi v30 v530
  let c1_i32_347 : BitVec 32 := 1#32
  let v533 : BitVec 32 := Scalar.muli v532 c1_i32_347
  let v534 : BitVec 32 := Scalar.addi c0_i32_348 v533
  v534.toNat
def k0_off34 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c3_i32_362 : BitVec 32 := 3#32
  ![v452.toNat, 3]
def k0_off35 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c3_i32_360 : BitVec 32 := 3#32
  let c0_i32_365 : BitVec 32 := 0#32
  let c0_i32_366 : BitVec 32 := 0#32
  ![v452.toNat, 3, 0, 0]
def k0_dev24 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_352 : BitVec 32 := 4#32
  let v543 : BitVec 32 := Scalar.addi v29 c4_i32_352
  let c8_i32_353 : BitVec 32 := 8#32
  let c0_i32_354 : BitVec 32 := 0#32
  let v544 : BitVec 1 := Scalar.cmpi .eq c8_i32_353 c0_i32_354
  let c1_i32_355 : BitVec 32 := 1#32
  let v545 : BitVec 32 := Scalar.select v544 c1_i32_355 c8_i32_353
  let v546 : BitVec 32 := Scalar.remsi v543 v545
  let c0_i32_357 : BitVec 32 := 0#32
  let v548 : BitVec 1 := Scalar.cmpi .slt v546 c0_i32_357
  let c0_i32_358 : BitVec 32 := 0#32
  let v549 : BitVec 1 := Scalar.cmpi .slt v545 c0_i32_358
  let v550 : BitVec 1 := Scalar.xori v548 v549
  let c0_i32_356 : BitVec 32 := 0#32
  let v547 : BitVec 1 := Scalar.cmpi .ne v546 c0_i32_356
  let v551 : BitVec 1 := Scalar.andi v550 v547
  let v552 : BitVec 32 := Scalar.addi v546 v545
  let v553 : BitVec 32 := Scalar.select v551 v552 v546
  let v555 : BitVec 32 := Scalar.addi v30 v553
  let c1_i32_363 : BitVec 32 := 1#32
  let v556 : BitVec 32 := Scalar.muli v555 c1_i32_363
  let v557 : BitVec 32 := Scalar.addi c0_i32_364 v556
  v557.toNat
def k0_off36 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c4_i32_378 : BitVec 32 := 4#32
  ![v452.toNat, 4]
def k0_off37 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c4_i32_376 : BitVec 32 := 4#32
  let c0_i32_381 : BitVec 32 := 0#32
  let c0_i32_382 : BitVec 32 := 0#32
  ![v452.toNat, 4, 0, 0]
def k0_dev25 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_368 : BitVec 32 := 5#32
  let v566 : BitVec 32 := Scalar.addi v29 c5_i32_368
  let c8_i32_369 : BitVec 32 := 8#32
  let c0_i32_370 : BitVec 32 := 0#32
  let v567 : BitVec 1 := Scalar.cmpi .eq c8_i32_369 c0_i32_370
  let c1_i32_371 : BitVec 32 := 1#32
  let v568 : BitVec 32 := Scalar.select v567 c1_i32_371 c8_i32_369
  let v569 : BitVec 32 := Scalar.remsi v566 v568
  let c0_i32_373 : BitVec 32 := 0#32
  let v571 : BitVec 1 := Scalar.cmpi .slt v569 c0_i32_373
  let c0_i32_374 : BitVec 32 := 0#32
  let v572 : BitVec 1 := Scalar.cmpi .slt v568 c0_i32_374
  let v573 : BitVec 1 := Scalar.xori v571 v572
  let c0_i32_372 : BitVec 32 := 0#32
  let v570 : BitVec 1 := Scalar.cmpi .ne v569 c0_i32_372
  let v574 : BitVec 1 := Scalar.andi v573 v570
  let v575 : BitVec 32 := Scalar.addi v569 v568
  let v576 : BitVec 32 := Scalar.select v574 v575 v569
  let v578 : BitVec 32 := Scalar.addi v30 v576
  let c1_i32_379 : BitVec 32 := 1#32
  let v579 : BitVec 32 := Scalar.muli v578 c1_i32_379
  let v580 : BitVec 32 := Scalar.addi c0_i32_380 v579
  v580.toNat
def k0_off38 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c5_i32_394 : BitVec 32 := 5#32
  ![v452.toNat, 5]
def k0_off39 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c5_i32_392 : BitVec 32 := 5#32
  let c0_i32_397 : BitVec 32 := 0#32
  let c0_i32_398 : BitVec 32 := 0#32
  ![v452.toNat, 5, 0, 0]
def k0_dev26 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_384 : BitVec 32 := 6#32
  let v589 : BitVec 32 := Scalar.addi v29 c6_i32_384
  let c8_i32_385 : BitVec 32 := 8#32
  let c0_i32_386 : BitVec 32 := 0#32
  let v590 : BitVec 1 := Scalar.cmpi .eq c8_i32_385 c0_i32_386
  let c1_i32_387 : BitVec 32 := 1#32
  let v591 : BitVec 32 := Scalar.select v590 c1_i32_387 c8_i32_385
  let v592 : BitVec 32 := Scalar.remsi v589 v591
  let c0_i32_389 : BitVec 32 := 0#32
  let v594 : BitVec 1 := Scalar.cmpi .slt v592 c0_i32_389
  let c0_i32_390 : BitVec 32 := 0#32
  let v595 : BitVec 1 := Scalar.cmpi .slt v591 c0_i32_390
  let v596 : BitVec 1 := Scalar.xori v594 v595
  let c0_i32_388 : BitVec 32 := 0#32
  let v593 : BitVec 1 := Scalar.cmpi .ne v592 c0_i32_388
  let v597 : BitVec 1 := Scalar.andi v596 v593
  let v598 : BitVec 32 := Scalar.addi v592 v591
  let v599 : BitVec 32 := Scalar.select v597 v598 v592
  let v601 : BitVec 32 := Scalar.addi v30 v599
  let c1_i32_395 : BitVec 32 := 1#32
  let v602 : BitVec 32 := Scalar.muli v601 c1_i32_395
  let v603 : BitVec 32 := Scalar.addi c0_i32_396 v602
  v603.toNat
def k0_off40 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c6_i32_410 : BitVec 32 := 6#32
  ![v452.toNat, 6]
def k0_off41 (d0 : Dev nD) (c1_i32_282 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c6_i32_408 : BitVec 32 := 6#32
  let c0_i32_413 : BitVec 32 := 0#32
  let c0_i32_414 : BitVec 32 := 0#32
  ![v452.toNat, 6, 0, 0]
def k0_dev27 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_400 : BitVec 32 := 7#32
  let v612 : BitVec 32 := Scalar.addi v29 c7_i32_400
  let c8_i32_401 : BitVec 32 := 8#32
  let c0_i32_402 : BitVec 32 := 0#32
  let v613 : BitVec 1 := Scalar.cmpi .eq c8_i32_401 c0_i32_402
  let c1_i32_403 : BitVec 32 := 1#32
  let v614 : BitVec 32 := Scalar.select v613 c1_i32_403 c8_i32_401
  let v615 : BitVec 32 := Scalar.remsi v612 v614
  let c0_i32_405 : BitVec 32 := 0#32
  let v617 : BitVec 1 := Scalar.cmpi .slt v615 c0_i32_405
  let c0_i32_406 : BitVec 32 := 0#32
  let v618 : BitVec 1 := Scalar.cmpi .slt v614 c0_i32_406
  let v619 : BitVec 1 := Scalar.xori v617 v618
  let c0_i32_404 : BitVec 32 := 0#32
  let v616 : BitVec 1 := Scalar.cmpi .ne v615 c0_i32_404
  let v620 : BitVec 1 := Scalar.andi v619 v616
  let v621 : BitVec 32 := Scalar.addi v615 v614
  let v622 : BitVec 32 := Scalar.select v620 v621 v615
  let v624 : BitVec 32 := Scalar.addi v30 v622
  let c1_i32_411 : BitVec 32 := 1#32
  let v625 : BitVec 32 := Scalar.muli v624 c1_i32_411
  let v626 : BitVec 32 := Scalar.addi c0_i32_412 v625
  v626.toNat
def k0_off42 (d0 : Dev nD) (c1_i32_282 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let v639 : Index := Scalar.indexCast v452
  let c0_419 : Index := 0#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32_418 : BitVec 32 := 256#32
  let v638 : BitVec 32 := Scalar.muli v29 c256_i32_418
  let v640 : Index := Scalar.indexCast v638
  ![v639.toNat, 0, v640.toNat]
def k0_off43 (d0 : Dev nD) (c1_i32_282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v442 : BitVec 32 := Scalar.addi v19 c1_i32_282
  let c4_i32_283 : BitVec 32 := 4#32
  let c0_i32_284 : BitVec 32 := 0#32
  let v443 : BitVec 1 := Scalar.cmpi .eq c4_i32_283 c0_i32_284
  let c1_i32_285 : BitVec 32 := 1#32
  let v444 : BitVec 32 := Scalar.select v443 c1_i32_285 c4_i32_283
  let v445 : BitVec 32 := Scalar.remsi v442 v444
  let c0_i32_287 : BitVec 32 := 0#32
  let v447 : BitVec 1 := Scalar.cmpi .slt v445 c0_i32_287
  let c0_i32_288 : BitVec 32 := 0#32
  let v448 : BitVec 1 := Scalar.cmpi .slt v444 c0_i32_288
  let v449 : BitVec 1 := Scalar.xori v447 v448
  let c0_i32_286 : BitVec 32 := 0#32
  let v446 : BitVec 1 := Scalar.cmpi .ne v445 c0_i32_286
  let v450 : BitVec 1 := Scalar.andi v449 v446
  let v451 : BitVec 32 := Scalar.addi v445 v444
  let v452 : BitVec 32 := Scalar.select v450 v451 v445
  let c8_i32_416 : BitVec 32 := 8#32
  let v635 : BitVec 32 := Scalar.muli v452 c8_i32_416
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v636 : BitVec 32 := Scalar.addi v635 v29
  let c128_i32_417 : BitVec 32 := 128#32
  let v637 : BitVec 32 := Scalar.muli v636 c128_i32_417
  let v644 : Index := Scalar.indexCast v637
  let c0_420 : Index := 0#32
  ![v644.toNat, 0]
def k0_dev28 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_443 : BitVec 32 := 1#32
  let v678 : BitVec 32 := Scalar.addi v29 c1_i32_443
  let c8_i32_444 : BitVec 32 := 8#32
  let c0_i32_445 : BitVec 32 := 0#32
  let v679 : BitVec 1 := Scalar.cmpi .eq c8_i32_444 c0_i32_445
  let c1_i32_446 : BitVec 32 := 1#32
  let v680 : BitVec 32 := Scalar.select v679 c1_i32_446 c8_i32_444
  let v681 : BitVec 32 := Scalar.remsi v678 v680
  let c0_i32_448 : BitVec 32 := 0#32
  let v683 : BitVec 1 := Scalar.cmpi .slt v681 c0_i32_448
  let c0_i32_449 : BitVec 32 := 0#32
  let v684 : BitVec 1 := Scalar.cmpi .slt v680 c0_i32_449
  let v685 : BitVec 1 := Scalar.xori v683 v684
  let c0_i32_447 : BitVec 32 := 0#32
  let v682 : BitVec 1 := Scalar.cmpi .ne v681 c0_i32_447
  let v686 : BitVec 1 := Scalar.andi v685 v682
  let v687 : BitVec 32 := Scalar.addi v681 v680
  let v688 : BitVec 32 := Scalar.select v686 v687 v681
  let v690 : BitVec 32 := Scalar.addi v30 v688
  let c1_i32_454 : BitVec 32 := 1#32
  let v691 : BitVec 32 := Scalar.muli v690 c1_i32_454
  let v692 : BitVec 32 := Scalar.addi c0_i32_455 v691
  v692.toNat
def k0_dev29 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_459 : BitVec 32 := 2#32
  let v701 : BitVec 32 := Scalar.addi v29 c2_i32_459
  let c8_i32_460 : BitVec 32 := 8#32
  let c0_i32_461 : BitVec 32 := 0#32
  let v702 : BitVec 1 := Scalar.cmpi .eq c8_i32_460 c0_i32_461
  let c1_i32_462 : BitVec 32 := 1#32
  let v703 : BitVec 32 := Scalar.select v702 c1_i32_462 c8_i32_460
  let v704 : BitVec 32 := Scalar.remsi v701 v703
  let c0_i32_464 : BitVec 32 := 0#32
  let v706 : BitVec 1 := Scalar.cmpi .slt v704 c0_i32_464
  let c0_i32_465 : BitVec 32 := 0#32
  let v707 : BitVec 1 := Scalar.cmpi .slt v703 c0_i32_465
  let v708 : BitVec 1 := Scalar.xori v706 v707
  let c0_i32_463 : BitVec 32 := 0#32
  let v705 : BitVec 1 := Scalar.cmpi .ne v704 c0_i32_463
  let v709 : BitVec 1 := Scalar.andi v708 v705
  let v710 : BitVec 32 := Scalar.addi v704 v703
  let v711 : BitVec 32 := Scalar.select v709 v710 v704
  let v713 : BitVec 32 := Scalar.addi v30 v711
  let c1_i32_470 : BitVec 32 := 1#32
  let v714 : BitVec 32 := Scalar.muli v713 c1_i32_470
  let v715 : BitVec 32 := Scalar.addi c0_i32_471 v714
  v715.toNat
def k0_dev30 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_475 : BitVec 32 := 3#32
  let v724 : BitVec 32 := Scalar.addi v29 c3_i32_475
  let c8_i32_476 : BitVec 32 := 8#32
  let c0_i32_477 : BitVec 32 := 0#32
  let v725 : BitVec 1 := Scalar.cmpi .eq c8_i32_476 c0_i32_477
  let c1_i32_478 : BitVec 32 := 1#32
  let v726 : BitVec 32 := Scalar.select v725 c1_i32_478 c8_i32_476
  let v727 : BitVec 32 := Scalar.remsi v724 v726
  let c0_i32_480 : BitVec 32 := 0#32
  let v729 : BitVec 1 := Scalar.cmpi .slt v727 c0_i32_480
  let c0_i32_481 : BitVec 32 := 0#32
  let v730 : BitVec 1 := Scalar.cmpi .slt v726 c0_i32_481
  let v731 : BitVec 1 := Scalar.xori v729 v730
  let c0_i32_479 : BitVec 32 := 0#32
  let v728 : BitVec 1 := Scalar.cmpi .ne v727 c0_i32_479
  let v732 : BitVec 1 := Scalar.andi v731 v728
  let v733 : BitVec 32 := Scalar.addi v727 v726
  let v734 : BitVec 32 := Scalar.select v732 v733 v727
  let v736 : BitVec 32 := Scalar.addi v30 v734
  let c1_i32_486 : BitVec 32 := 1#32
  let v737 : BitVec 32 := Scalar.muli v736 c1_i32_486
  let v738 : BitVec 32 := Scalar.addi c0_i32_487 v737
  v738.toNat
def k0_dev31 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_491 : BitVec 32 := 4#32
  let v747 : BitVec 32 := Scalar.addi v29 c4_i32_491
  let c8_i32_492 : BitVec 32 := 8#32
  let c0_i32_493 : BitVec 32 := 0#32
  let v748 : BitVec 1 := Scalar.cmpi .eq c8_i32_492 c0_i32_493
  let c1_i32_494 : BitVec 32 := 1#32
  let v749 : BitVec 32 := Scalar.select v748 c1_i32_494 c8_i32_492
  let v750 : BitVec 32 := Scalar.remsi v747 v749
  let c0_i32_496 : BitVec 32 := 0#32
  let v752 : BitVec 1 := Scalar.cmpi .slt v750 c0_i32_496
  let c0_i32_497 : BitVec 32 := 0#32
  let v753 : BitVec 1 := Scalar.cmpi .slt v749 c0_i32_497
  let v754 : BitVec 1 := Scalar.xori v752 v753
  let c0_i32_495 : BitVec 32 := 0#32
  let v751 : BitVec 1 := Scalar.cmpi .ne v750 c0_i32_495
  let v755 : BitVec 1 := Scalar.andi v754 v751
  let v756 : BitVec 32 := Scalar.addi v750 v749
  let v757 : BitVec 32 := Scalar.select v755 v756 v750
  let v759 : BitVec 32 := Scalar.addi v30 v757
  let c1_i32_502 : BitVec 32 := 1#32
  let v760 : BitVec 32 := Scalar.muli v759 c1_i32_502
  let v761 : BitVec 32 := Scalar.addi c0_i32_503 v760
  v761.toNat
def k0_dev32 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_507 : BitVec 32 := 5#32
  let v770 : BitVec 32 := Scalar.addi v29 c5_i32_507
  let c8_i32_508 : BitVec 32 := 8#32
  let c0_i32_509 : BitVec 32 := 0#32
  let v771 : BitVec 1 := Scalar.cmpi .eq c8_i32_508 c0_i32_509
  let c1_i32_510 : BitVec 32 := 1#32
  let v772 : BitVec 32 := Scalar.select v771 c1_i32_510 c8_i32_508
  let v773 : BitVec 32 := Scalar.remsi v770 v772
  let c0_i32_512 : BitVec 32 := 0#32
  let v775 : BitVec 1 := Scalar.cmpi .slt v773 c0_i32_512
  let c0_i32_513 : BitVec 32 := 0#32
  let v776 : BitVec 1 := Scalar.cmpi .slt v772 c0_i32_513
  let v777 : BitVec 1 := Scalar.xori v775 v776
  let c0_i32_511 : BitVec 32 := 0#32
  let v774 : BitVec 1 := Scalar.cmpi .ne v773 c0_i32_511
  let v778 : BitVec 1 := Scalar.andi v777 v774
  let v779 : BitVec 32 := Scalar.addi v773 v772
  let v780 : BitVec 32 := Scalar.select v778 v779 v773
  let v782 : BitVec 32 := Scalar.addi v30 v780
  let c1_i32_518 : BitVec 32 := 1#32
  let v783 : BitVec 32 := Scalar.muli v782 c1_i32_518
  let v784 : BitVec 32 := Scalar.addi c0_i32_519 v783
  v784.toNat
def k0_dev33 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_523 : BitVec 32 := 6#32
  let v793 : BitVec 32 := Scalar.addi v29 c6_i32_523
  let c8_i32_524 : BitVec 32 := 8#32
  let c0_i32_525 : BitVec 32 := 0#32
  let v794 : BitVec 1 := Scalar.cmpi .eq c8_i32_524 c0_i32_525
  let c1_i32_526 : BitVec 32 := 1#32
  let v795 : BitVec 32 := Scalar.select v794 c1_i32_526 c8_i32_524
  let v796 : BitVec 32 := Scalar.remsi v793 v795
  let c0_i32_528 : BitVec 32 := 0#32
  let v798 : BitVec 1 := Scalar.cmpi .slt v796 c0_i32_528
  let c0_i32_529 : BitVec 32 := 0#32
  let v799 : BitVec 1 := Scalar.cmpi .slt v795 c0_i32_529
  let v800 : BitVec 1 := Scalar.xori v798 v799
  let c0_i32_527 : BitVec 32 := 0#32
  let v797 : BitVec 1 := Scalar.cmpi .ne v796 c0_i32_527
  let v801 : BitVec 1 := Scalar.andi v800 v797
  let v802 : BitVec 32 := Scalar.addi v796 v795
  let v803 : BitVec 32 := Scalar.select v801 v802 v796
  let v805 : BitVec 32 := Scalar.addi v30 v803
  let c1_i32_534 : BitVec 32 := 1#32
  let v806 : BitVec 32 := Scalar.muli v805 c1_i32_534
  let v807 : BitVec 32 := Scalar.addi c0_i32_535 v806
  v807.toNat
def k0_dev34 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_539 : BitVec 32 := 7#32
  let v816 : BitVec 32 := Scalar.addi v29 c7_i32_539
  let c8_i32_540 : BitVec 32 := 8#32
  let c0_i32_541 : BitVec 32 := 0#32
  let v817 : BitVec 1 := Scalar.cmpi .eq c8_i32_540 c0_i32_541
  let c1_i32_542 : BitVec 32 := 1#32
  let v818 : BitVec 32 := Scalar.select v817 c1_i32_542 c8_i32_540
  let v819 : BitVec 32 := Scalar.remsi v816 v818
  let c0_i32_544 : BitVec 32 := 0#32
  let v821 : BitVec 1 := Scalar.cmpi .slt v819 c0_i32_544
  let c0_i32_545 : BitVec 32 := 0#32
  let v822 : BitVec 1 := Scalar.cmpi .slt v818 c0_i32_545
  let v823 : BitVec 1 := Scalar.xori v821 v822
  let c0_i32_543 : BitVec 32 := 0#32
  let v820 : BitVec 1 := Scalar.cmpi .ne v819 c0_i32_543
  let v824 : BitVec 1 := Scalar.andi v823 v820
  let v825 : BitVec 32 := Scalar.addi v819 v818
  let v826 : BitVec 32 := Scalar.select v824 v825 v819
  let v828 : BitVec 32 := Scalar.addi v30 v826
  let c1_i32_550 : BitVec 32 := 1#32
  let v829 : BitVec 32 := Scalar.muli v828 c1_i32_550
  let v830 : BitVec 32 := Scalar.addi c0_i32_551 v829
  v830.toNat
def k0_dev35 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_582 : BitVec 32 := 1#32
  let v882 : BitVec 32 := Scalar.addi v29 c1_i32_582
  let c8_i32_583 : BitVec 32 := 8#32
  let c0_i32_584 : BitVec 32 := 0#32
  let v883 : BitVec 1 := Scalar.cmpi .eq c8_i32_583 c0_i32_584
  let c1_i32_585 : BitVec 32 := 1#32
  let v884 : BitVec 32 := Scalar.select v883 c1_i32_585 c8_i32_583
  let v885 : BitVec 32 := Scalar.remsi v882 v884
  let c0_i32_587 : BitVec 32 := 0#32
  let v887 : BitVec 1 := Scalar.cmpi .slt v885 c0_i32_587
  let c0_i32_588 : BitVec 32 := 0#32
  let v888 : BitVec 1 := Scalar.cmpi .slt v884 c0_i32_588
  let v889 : BitVec 1 := Scalar.xori v887 v888
  let c0_i32_586 : BitVec 32 := 0#32
  let v886 : BitVec 1 := Scalar.cmpi .ne v885 c0_i32_586
  let v890 : BitVec 1 := Scalar.andi v889 v886
  let v891 : BitVec 32 := Scalar.addi v885 v884
  let v892 : BitVec 32 := Scalar.select v890 v891 v885
  let v894 : BitVec 32 := Scalar.addi v30 v892
  let c1_i32_593 : BitVec 32 := 1#32
  let v895 : BitVec 32 := Scalar.muli v894 c1_i32_593
  let v896 : BitVec 32 := Scalar.addi c0_i32_594 v895
  v896.toNat
def k0_dev36 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_598 : BitVec 32 := 2#32
  let v905 : BitVec 32 := Scalar.addi v29 c2_i32_598
  let c8_i32_599 : BitVec 32 := 8#32
  let c0_i32_600 : BitVec 32 := 0#32
  let v906 : BitVec 1 := Scalar.cmpi .eq c8_i32_599 c0_i32_600
  let c1_i32_601 : BitVec 32 := 1#32
  let v907 : BitVec 32 := Scalar.select v906 c1_i32_601 c8_i32_599
  let v908 : BitVec 32 := Scalar.remsi v905 v907
  let c0_i32_603 : BitVec 32 := 0#32
  let v910 : BitVec 1 := Scalar.cmpi .slt v908 c0_i32_603
  let c0_i32_604 : BitVec 32 := 0#32
  let v911 : BitVec 1 := Scalar.cmpi .slt v907 c0_i32_604
  let v912 : BitVec 1 := Scalar.xori v910 v911
  let c0_i32_602 : BitVec 32 := 0#32
  let v909 : BitVec 1 := Scalar.cmpi .ne v908 c0_i32_602
  let v913 : BitVec 1 := Scalar.andi v912 v909
  let v914 : BitVec 32 := Scalar.addi v908 v907
  let v915 : BitVec 32 := Scalar.select v913 v914 v908
  let v917 : BitVec 32 := Scalar.addi v30 v915
  let c1_i32_609 : BitVec 32 := 1#32
  let v918 : BitVec 32 := Scalar.muli v917 c1_i32_609
  let v919 : BitVec 32 := Scalar.addi c0_i32_610 v918
  v919.toNat
def k0_dev37 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_614 : BitVec 32 := 3#32
  let v928 : BitVec 32 := Scalar.addi v29 c3_i32_614
  let c8_i32_615 : BitVec 32 := 8#32
  let c0_i32_616 : BitVec 32 := 0#32
  let v929 : BitVec 1 := Scalar.cmpi .eq c8_i32_615 c0_i32_616
  let c1_i32_617 : BitVec 32 := 1#32
  let v930 : BitVec 32 := Scalar.select v929 c1_i32_617 c8_i32_615
  let v931 : BitVec 32 := Scalar.remsi v928 v930
  let c0_i32_619 : BitVec 32 := 0#32
  let v933 : BitVec 1 := Scalar.cmpi .slt v931 c0_i32_619
  let c0_i32_620 : BitVec 32 := 0#32
  let v934 : BitVec 1 := Scalar.cmpi .slt v930 c0_i32_620
  let v935 : BitVec 1 := Scalar.xori v933 v934
  let c0_i32_618 : BitVec 32 := 0#32
  let v932 : BitVec 1 := Scalar.cmpi .ne v931 c0_i32_618
  let v936 : BitVec 1 := Scalar.andi v935 v932
  let v937 : BitVec 32 := Scalar.addi v931 v930
  let v938 : BitVec 32 := Scalar.select v936 v937 v931
  let v940 : BitVec 32 := Scalar.addi v30 v938
  let c1_i32_625 : BitVec 32 := 1#32
  let v941 : BitVec 32 := Scalar.muli v940 c1_i32_625
  let v942 : BitVec 32 := Scalar.addi c0_i32_626 v941
  v942.toNat
def k0_dev38 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_630 : BitVec 32 := 4#32
  let v951 : BitVec 32 := Scalar.addi v29 c4_i32_630
  let c8_i32_631 : BitVec 32 := 8#32
  let c0_i32_632 : BitVec 32 := 0#32
  let v952 : BitVec 1 := Scalar.cmpi .eq c8_i32_631 c0_i32_632
  let c1_i32_633 : BitVec 32 := 1#32
  let v953 : BitVec 32 := Scalar.select v952 c1_i32_633 c8_i32_631
  let v954 : BitVec 32 := Scalar.remsi v951 v953
  let c0_i32_635 : BitVec 32 := 0#32
  let v956 : BitVec 1 := Scalar.cmpi .slt v954 c0_i32_635
  let c0_i32_636 : BitVec 32 := 0#32
  let v957 : BitVec 1 := Scalar.cmpi .slt v953 c0_i32_636
  let v958 : BitVec 1 := Scalar.xori v956 v957
  let c0_i32_634 : BitVec 32 := 0#32
  let v955 : BitVec 1 := Scalar.cmpi .ne v954 c0_i32_634
  let v959 : BitVec 1 := Scalar.andi v958 v955
  let v960 : BitVec 32 := Scalar.addi v954 v953
  let v961 : BitVec 32 := Scalar.select v959 v960 v954
  let v963 : BitVec 32 := Scalar.addi v30 v961
  let c1_i32_641 : BitVec 32 := 1#32
  let v964 : BitVec 32 := Scalar.muli v963 c1_i32_641
  let v965 : BitVec 32 := Scalar.addi c0_i32_642 v964
  v965.toNat
def k0_dev39 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_646 : BitVec 32 := 5#32
  let v974 : BitVec 32 := Scalar.addi v29 c5_i32_646
  let c8_i32_647 : BitVec 32 := 8#32
  let c0_i32_648 : BitVec 32 := 0#32
  let v975 : BitVec 1 := Scalar.cmpi .eq c8_i32_647 c0_i32_648
  let c1_i32_649 : BitVec 32 := 1#32
  let v976 : BitVec 32 := Scalar.select v975 c1_i32_649 c8_i32_647
  let v977 : BitVec 32 := Scalar.remsi v974 v976
  let c0_i32_651 : BitVec 32 := 0#32
  let v979 : BitVec 1 := Scalar.cmpi .slt v977 c0_i32_651
  let c0_i32_652 : BitVec 32 := 0#32
  let v980 : BitVec 1 := Scalar.cmpi .slt v976 c0_i32_652
  let v981 : BitVec 1 := Scalar.xori v979 v980
  let c0_i32_650 : BitVec 32 := 0#32
  let v978 : BitVec 1 := Scalar.cmpi .ne v977 c0_i32_650
  let v982 : BitVec 1 := Scalar.andi v981 v978
  let v983 : BitVec 32 := Scalar.addi v977 v976
  let v984 : BitVec 32 := Scalar.select v982 v983 v977
  let v986 : BitVec 32 := Scalar.addi v30 v984
  let c1_i32_657 : BitVec 32 := 1#32
  let v987 : BitVec 32 := Scalar.muli v986 c1_i32_657
  let v988 : BitVec 32 := Scalar.addi c0_i32_658 v987
  v988.toNat
def k0_dev40 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_662 : BitVec 32 := 6#32
  let v997 : BitVec 32 := Scalar.addi v29 c6_i32_662
  let c8_i32_663 : BitVec 32 := 8#32
  let c0_i32_664 : BitVec 32 := 0#32
  let v998 : BitVec 1 := Scalar.cmpi .eq c8_i32_663 c0_i32_664
  let c1_i32_665 : BitVec 32 := 1#32
  let v999 : BitVec 32 := Scalar.select v998 c1_i32_665 c8_i32_663
  let v1000 : BitVec 32 := Scalar.remsi v997 v999
  let c0_i32_667 : BitVec 32 := 0#32
  let v1002 : BitVec 1 := Scalar.cmpi .slt v1000 c0_i32_667
  let c0_i32_668 : BitVec 32 := 0#32
  let v1003 : BitVec 1 := Scalar.cmpi .slt v999 c0_i32_668
  let v1004 : BitVec 1 := Scalar.xori v1002 v1003
  let c0_i32_666 : BitVec 32 := 0#32
  let v1001 : BitVec 1 := Scalar.cmpi .ne v1000 c0_i32_666
  let v1005 : BitVec 1 := Scalar.andi v1004 v1001
  let v1006 : BitVec 32 := Scalar.addi v1000 v999
  let v1007 : BitVec 32 := Scalar.select v1005 v1006 v1000
  let v1009 : BitVec 32 := Scalar.addi v30 v1007
  let c1_i32_673 : BitVec 32 := 1#32
  let v1010 : BitVec 32 := Scalar.muli v1009 c1_i32_673
  let v1011 : BitVec 32 := Scalar.addi c0_i32_674 v1010
  v1011.toNat
def k0_dev41 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_678 : BitVec 32 := 7#32
  let v1020 : BitVec 32 := Scalar.addi v29 c7_i32_678
  let c8_i32_679 : BitVec 32 := 8#32
  let c0_i32_680 : BitVec 32 := 0#32
  let v1021 : BitVec 1 := Scalar.cmpi .eq c8_i32_679 c0_i32_680
  let c1_i32_681 : BitVec 32 := 1#32
  let v1022 : BitVec 32 := Scalar.select v1021 c1_i32_681 c8_i32_679
  let v1023 : BitVec 32 := Scalar.remsi v1020 v1022
  let c0_i32_683 : BitVec 32 := 0#32
  let v1025 : BitVec 1 := Scalar.cmpi .slt v1023 c0_i32_683
  let c0_i32_684 : BitVec 32 := 0#32
  let v1026 : BitVec 1 := Scalar.cmpi .slt v1022 c0_i32_684
  let v1027 : BitVec 1 := Scalar.xori v1025 v1026
  let c0_i32_682 : BitVec 32 := 0#32
  let v1024 : BitVec 1 := Scalar.cmpi .ne v1023 c0_i32_682
  let v1028 : BitVec 1 := Scalar.andi v1027 v1024
  let v1029 : BitVec 32 := Scalar.addi v1023 v1022
  let v1030 : BitVec 32 := Scalar.select v1028 v1029 v1023
  let v1032 : BitVec 32 := Scalar.addi v30 v1030
  let c1_i32_689 : BitVec 32 := 1#32
  let v1033 : BitVec 32 := Scalar.muli v1032 c1_i32_689
  let v1034 : BitVec 32 := Scalar.addi c0_i32_690 v1033
  v1034.toNat
def k0_off44 (d0 : Dev nD) (c0_i32_720 : BitVec 32) (c1_i32_713 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1062 : BitVec 32 := Scalar.subi v29 c1_i32_713
  let c8_i32_714 : BitVec 32 := 8#32
  let c0_i32_715 : BitVec 32 := 0#32
  let v1063 : BitVec 1 := Scalar.cmpi .eq c8_i32_714 c0_i32_715
  let c1_i32_716 : BitVec 32 := 1#32
  let v1064 : BitVec 32 := Scalar.select v1063 c1_i32_716 c8_i32_714
  let v1065 : BitVec 32 := Scalar.remsi v1062 v1064
  let c0_i32_718 : BitVec 32 := 0#32
  let v1067 : BitVec 1 := Scalar.cmpi .slt v1065 c0_i32_718
  let c0_i32_719 : BitVec 32 := 0#32
  let v1068 : BitVec 1 := Scalar.cmpi .slt v1064 c0_i32_719
  let v1069 : BitVec 1 := Scalar.xori v1067 v1068
  let c0_i32_717 : BitVec 32 := 0#32
  let v1066 : BitVec 1 := Scalar.cmpi .ne v1065 c0_i32_717
  let v1070 : BitVec 1 := Scalar.andi v1069 v1066
  let v1071 : BitVec 32 := Scalar.addi v1065 v1064
  let v1072 : BitVec 32 := Scalar.select v1070 v1071 v1065
  let v1073 : BitVec 32 := Scalar.addi c0_i32_720 v1072
  let c128_i32_721 : BitVec 32 := 128#32
  let v1074 : BitVec 32 := Scalar.muli v1073 c128_i32_721
  let v1078 : Index := Scalar.indexCast v1074
  let c0_726 : Index := 0#32
  ![v1078.toNat, 0]
def k0_dev42 (d0 : Dev nD) : Nat :=
  let c0_i32_1699_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1689_r0 : BitVec 32 := 1#32
  let v1969_r0 : BitVec 32 := Scalar.addi v19 c1_i32_1689_r0
  let c4_i32_1690_r0 : BitVec 32 := 4#32
  let c0_i32_1691_r0 : BitVec 32 := 0#32
  let v1970_r0 : BitVec 1 := Scalar.cmpi .eq c4_i32_1690_r0 c0_i32_1691_r0
  let c1_i32_1692_r0 : BitVec 32 := 1#32
  let v1971_r0 : BitVec 32 := Scalar.select v1970_r0 c1_i32_1692_r0 c4_i32_1690_r0
  let v1972_r0 : BitVec 32 := Scalar.remsi v1969_r0 v1971_r0
  let c0_i32_1694_r0 : BitVec 32 := 0#32
  let v1974_r0 : BitVec 1 := Scalar.cmpi .slt v1972_r0 c0_i32_1694_r0
  let c0_i32_1695_r0 : BitVec 32 := 0#32
  let v1975_r0 : BitVec 1 := Scalar.cmpi .slt v1971_r0 c0_i32_1695_r0
  let v1976_r0 : BitVec 1 := Scalar.xori v1974_r0 v1975_r0
  let c0_i32_1693_r0 : BitVec 32 := 0#32
  let v1973_r0 : BitVec 1 := Scalar.cmpi .ne v1972_r0 c0_i32_1693_r0
  let v1977_r0 : BitVec 1 := Scalar.andi v1976_r0 v1973_r0
  let v1978_r0 : BitVec 32 := Scalar.addi v1972_r0 v1971_r0
  let v1979_r0 : BitVec 32 := Scalar.select v1977_r0 v1978_r0 v1972_r0
  let c8_i32_1696_r0 : BitVec 32 := 8#32
  let v1980_r0 : BitVec 32 := Scalar.muli v1979_r0 c8_i32_1696_r0
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1981_r0 : BitVec 32 := Scalar.addi v1980_r0 v29
  let c1_i32_1698_r0 : BitVec 32 := 1#32
  let v1982_r0 : BitVec 32 := Scalar.muli v1981_r0 c1_i32_1698_r0
  let v1983_r0 : BitVec 32 := Scalar.addi c0_i32_1699_r0 v1982_r0
  v1983_r0.toNat
def k0_dev43 (d0 : Dev nD) : Nat :=
  let c0_i32_1710_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1700_r0 : BitVec 32 := 2#32
  let v1984_r0 : BitVec 32 := Scalar.addi v19 c2_i32_1700_r0
  let c4_i32_1701_r0 : BitVec 32 := 4#32
  let c0_i32_1702_r0 : BitVec 32 := 0#32
  let v1985_r0 : BitVec 1 := Scalar.cmpi .eq c4_i32_1701_r0 c0_i32_1702_r0
  let c1_i32_1703_r0 : BitVec 32 := 1#32
  let v1986_r0 : BitVec 32 := Scalar.select v1985_r0 c1_i32_1703_r0 c4_i32_1701_r0
  let v1987_r0 : BitVec 32 := Scalar.remsi v1984_r0 v1986_r0
  let c0_i32_1705_r0 : BitVec 32 := 0#32
  let v1989_r0 : BitVec 1 := Scalar.cmpi .slt v1987_r0 c0_i32_1705_r0
  let c0_i32_1706_r0 : BitVec 32 := 0#32
  let v1990_r0 : BitVec 1 := Scalar.cmpi .slt v1986_r0 c0_i32_1706_r0
  let v1991_r0 : BitVec 1 := Scalar.xori v1989_r0 v1990_r0
  let c0_i32_1704_r0 : BitVec 32 := 0#32
  let v1988_r0 : BitVec 1 := Scalar.cmpi .ne v1987_r0 c0_i32_1704_r0
  let v1992_r0 : BitVec 1 := Scalar.andi v1991_r0 v1988_r0
  let v1993_r0 : BitVec 32 := Scalar.addi v1987_r0 v1986_r0
  let v1994_r0 : BitVec 32 := Scalar.select v1992_r0 v1993_r0 v1987_r0
  let c8_i32_1707_r0 : BitVec 32 := 8#32
  let v1995_r0 : BitVec 32 := Scalar.muli v1994_r0 c8_i32_1707_r0
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1996_r0 : BitVec 32 := Scalar.addi v1995_r0 v29
  let c1_i32_1709_r0 : BitVec 32 := 1#32
  let v1997_r0 : BitVec 32 := Scalar.muli v1996_r0 c1_i32_1709_r0
  let v1998_r0 : BitVec 32 := Scalar.addi c0_i32_1710_r0 v1997_r0
  v1998_r0.toNat
def k0_dev44 (d0 : Dev nD) : Nat :=
  let c0_i32_1721_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1711_r0 : BitVec 32 := 3#32
  let v1999_r0 : BitVec 32 := Scalar.addi v19 c3_i32_1711_r0
  let c4_i32_1712_r0 : BitVec 32 := 4#32
  let c0_i32_1713_r0 : BitVec 32 := 0#32
  let v2000_r0 : BitVec 1 := Scalar.cmpi .eq c4_i32_1712_r0 c0_i32_1713_r0
  let c1_i32_1714_r0 : BitVec 32 := 1#32
  let v2001_r0 : BitVec 32 := Scalar.select v2000_r0 c1_i32_1714_r0 c4_i32_1712_r0
  let v2002_r0 : BitVec 32 := Scalar.remsi v1999_r0 v2001_r0
  let c0_i32_1716_r0 : BitVec 32 := 0#32
  let v2004_r0 : BitVec 1 := Scalar.cmpi .slt v2002_r0 c0_i32_1716_r0
  let c0_i32_1717_r0 : BitVec 32 := 0#32
  let v2005_r0 : BitVec 1 := Scalar.cmpi .slt v2001_r0 c0_i32_1717_r0
  let v2006_r0 : BitVec 1 := Scalar.xori v2004_r0 v2005_r0
  let c0_i32_1715_r0 : BitVec 32 := 0#32
  let v2003_r0 : BitVec 1 := Scalar.cmpi .ne v2002_r0 c0_i32_1715_r0
  let v2007_r0 : BitVec 1 := Scalar.andi v2006_r0 v2003_r0
  let v2008_r0 : BitVec 32 := Scalar.addi v2002_r0 v2001_r0
  let v2009_r0 : BitVec 32 := Scalar.select v2007_r0 v2008_r0 v2002_r0
  let c8_i32_1718_r0 : BitVec 32 := 8#32
  let v2010_r0 : BitVec 32 := Scalar.muli v2009_r0 c8_i32_1718_r0
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2011_r0 : BitVec 32 := Scalar.addi v2010_r0 v29
  let c1_i32_1720_r0 : BitVec 32 := 1#32
  let v2012_r0 : BitVec 32 := Scalar.muli v2011_r0 c1_i32_1720_r0
  let v2013_r0 : BitVec 32 := Scalar.addi c0_i32_1721_r0 v2012_r0
  v2013_r0.toNat
def k0_dev45 (d0 : Dev nD) : Nat :=
  let c0_i32_1731_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1722_r0 : BitVec 32 := 1#32
  let v2014_r0 : BitVec 32 := Scalar.addi v29 c1_i32_1722_r0
  let c8_i32_1723_r0 : BitVec 32 := 8#32
  let c0_i32_1724_r0 : BitVec 32 := 0#32
  let v2015_r0 : BitVec 1 := Scalar.cmpi .eq c8_i32_1723_r0 c0_i32_1724_r0
  let c1_i32_1725_r0 : BitVec 32 := 1#32
  let v2016_r0 : BitVec 32 := Scalar.select v2015_r0 c1_i32_1725_r0 c8_i32_1723_r0
  let v2017_r0 : BitVec 32 := Scalar.remsi v2014_r0 v2016_r0
  let c0_i32_1727_r0 : BitVec 32 := 0#32
  let v2019_r0 : BitVec 1 := Scalar.cmpi .slt v2017_r0 c0_i32_1727_r0
  let c0_i32_1728_r0 : BitVec 32 := 0#32
  let v2020_r0 : BitVec 1 := Scalar.cmpi .slt v2016_r0 c0_i32_1728_r0
  let v2021_r0 : BitVec 1 := Scalar.xori v2019_r0 v2020_r0
  let c0_i32_1726_r0 : BitVec 32 := 0#32
  let v2018_r0 : BitVec 1 := Scalar.cmpi .ne v2017_r0 c0_i32_1726_r0
  let v2022_r0 : BitVec 1 := Scalar.andi v2021_r0 v2018_r0
  let v2023_r0 : BitVec 32 := Scalar.addi v2017_r0 v2016_r0
  let v2024_r0 : BitVec 32 := Scalar.select v2022_r0 v2023_r0 v2017_r0
  let v2025_r0 : BitVec 32 := Scalar.addi v30 v2024_r0
  let c1_i32_1730_r0 : BitVec 32 := 1#32
  let v2026_r0 : BitVec 32 := Scalar.muli v2025_r0 c1_i32_1730_r0
  let v2027_r0 : BitVec 32 := Scalar.addi c0_i32_1731_r0 v2026_r0
  v2027_r0.toNat
def k0_dev46 (d0 : Dev nD) : Nat :=
  let c0_i32_1741_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1732_r0 : BitVec 32 := 2#32
  let v2028_r0 : BitVec 32 := Scalar.addi v29 c2_i32_1732_r0
  let c8_i32_1733_r0 : BitVec 32 := 8#32
  let c0_i32_1734_r0 : BitVec 32 := 0#32
  let v2029_r0 : BitVec 1 := Scalar.cmpi .eq c8_i32_1733_r0 c0_i32_1734_r0
  let c1_i32_1735_r0 : BitVec 32 := 1#32
  let v2030_r0 : BitVec 32 := Scalar.select v2029_r0 c1_i32_1735_r0 c8_i32_1733_r0
  let v2031_r0 : BitVec 32 := Scalar.remsi v2028_r0 v2030_r0
  let c0_i32_1737_r0 : BitVec 32 := 0#32
  let v2033_r0 : BitVec 1 := Scalar.cmpi .slt v2031_r0 c0_i32_1737_r0
  let c0_i32_1738_r0 : BitVec 32 := 0#32
  let v2034_r0 : BitVec 1 := Scalar.cmpi .slt v2030_r0 c0_i32_1738_r0
  let v2035_r0 : BitVec 1 := Scalar.xori v2033_r0 v2034_r0
  let c0_i32_1736_r0 : BitVec 32 := 0#32
  let v2032_r0 : BitVec 1 := Scalar.cmpi .ne v2031_r0 c0_i32_1736_r0
  let v2036_r0 : BitVec 1 := Scalar.andi v2035_r0 v2032_r0
  let v2037_r0 : BitVec 32 := Scalar.addi v2031_r0 v2030_r0
  let v2038_r0 : BitVec 32 := Scalar.select v2036_r0 v2037_r0 v2031_r0
  let v2039_r0 : BitVec 32 := Scalar.addi v30 v2038_r0
  let c1_i32_1740_r0 : BitVec 32 := 1#32
  let v2040_r0 : BitVec 32 := Scalar.muli v2039_r0 c1_i32_1740_r0
  let v2041_r0 : BitVec 32 := Scalar.addi c0_i32_1741_r0 v2040_r0
  v2041_r0.toNat
def k0_dev47 (d0 : Dev nD) : Nat :=
  let c0_i32_1751_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1742_r0 : BitVec 32 := 3#32
  let v2042_r0 : BitVec 32 := Scalar.addi v29 c3_i32_1742_r0
  let c8_i32_1743_r0 : BitVec 32 := 8#32
  let c0_i32_1744_r0 : BitVec 32 := 0#32
  let v2043_r0 : BitVec 1 := Scalar.cmpi .eq c8_i32_1743_r0 c0_i32_1744_r0
  let c1_i32_1745_r0 : BitVec 32 := 1#32
  let v2044_r0 : BitVec 32 := Scalar.select v2043_r0 c1_i32_1745_r0 c8_i32_1743_r0
  let v2045_r0 : BitVec 32 := Scalar.remsi v2042_r0 v2044_r0
  let c0_i32_1747_r0 : BitVec 32 := 0#32
  let v2047_r0 : BitVec 1 := Scalar.cmpi .slt v2045_r0 c0_i32_1747_r0
  let c0_i32_1748_r0 : BitVec 32 := 0#32
  let v2048_r0 : BitVec 1 := Scalar.cmpi .slt v2044_r0 c0_i32_1748_r0
  let v2049_r0 : BitVec 1 := Scalar.xori v2047_r0 v2048_r0
  let c0_i32_1746_r0 : BitVec 32 := 0#32
  let v2046_r0 : BitVec 1 := Scalar.cmpi .ne v2045_r0 c0_i32_1746_r0
  let v2050_r0 : BitVec 1 := Scalar.andi v2049_r0 v2046_r0
  let v2051_r0 : BitVec 32 := Scalar.addi v2045_r0 v2044_r0
  let v2052_r0 : BitVec 32 := Scalar.select v2050_r0 v2051_r0 v2045_r0
  let v2053_r0 : BitVec 32 := Scalar.addi v30 v2052_r0
  let c1_i32_1750_r0 : BitVec 32 := 1#32
  let v2054_r0 : BitVec 32 := Scalar.muli v2053_r0 c1_i32_1750_r0
  let v2055_r0 : BitVec 32 := Scalar.addi c0_i32_1751_r0 v2054_r0
  v2055_r0.toNat
def k0_dev48 (d0 : Dev nD) : Nat :=
  let c0_i32_1761_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_1752_r0 : BitVec 32 := 4#32
  let v2056_r0 : BitVec 32 := Scalar.addi v29 c4_i32_1752_r0
  let c8_i32_1753_r0 : BitVec 32 := 8#32
  let c0_i32_1754_r0 : BitVec 32 := 0#32
  let v2057_r0 : BitVec 1 := Scalar.cmpi .eq c8_i32_1753_r0 c0_i32_1754_r0
  let c1_i32_1755_r0 : BitVec 32 := 1#32
  let v2058_r0 : BitVec 32 := Scalar.select v2057_r0 c1_i32_1755_r0 c8_i32_1753_r0
  let v2059_r0 : BitVec 32 := Scalar.remsi v2056_r0 v2058_r0
  let c0_i32_1757_r0 : BitVec 32 := 0#32
  let v2061_r0 : BitVec 1 := Scalar.cmpi .slt v2059_r0 c0_i32_1757_r0
  let c0_i32_1758_r0 : BitVec 32 := 0#32
  let v2062_r0 : BitVec 1 := Scalar.cmpi .slt v2058_r0 c0_i32_1758_r0
  let v2063_r0 : BitVec 1 := Scalar.xori v2061_r0 v2062_r0
  let c0_i32_1756_r0 : BitVec 32 := 0#32
  let v2060_r0 : BitVec 1 := Scalar.cmpi .ne v2059_r0 c0_i32_1756_r0
  let v2064_r0 : BitVec 1 := Scalar.andi v2063_r0 v2060_r0
  let v2065_r0 : BitVec 32 := Scalar.addi v2059_r0 v2058_r0
  let v2066_r0 : BitVec 32 := Scalar.select v2064_r0 v2065_r0 v2059_r0
  let v2067_r0 : BitVec 32 := Scalar.addi v30 v2066_r0
  let c1_i32_1760_r0 : BitVec 32 := 1#32
  let v2068_r0 : BitVec 32 := Scalar.muli v2067_r0 c1_i32_1760_r0
  let v2069_r0 : BitVec 32 := Scalar.addi c0_i32_1761_r0 v2068_r0
  v2069_r0.toNat
def k0_dev49 (d0 : Dev nD) : Nat :=
  let c0_i32_1771_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_1762_r0 : BitVec 32 := 5#32
  let v2070_r0 : BitVec 32 := Scalar.addi v29 c5_i32_1762_r0
  let c8_i32_1763_r0 : BitVec 32 := 8#32
  let c0_i32_1764_r0 : BitVec 32 := 0#32
  let v2071_r0 : BitVec 1 := Scalar.cmpi .eq c8_i32_1763_r0 c0_i32_1764_r0
  let c1_i32_1765_r0 : BitVec 32 := 1#32
  let v2072_r0 : BitVec 32 := Scalar.select v2071_r0 c1_i32_1765_r0 c8_i32_1763_r0
  let v2073_r0 : BitVec 32 := Scalar.remsi v2070_r0 v2072_r0
  let c0_i32_1767_r0 : BitVec 32 := 0#32
  let v2075_r0 : BitVec 1 := Scalar.cmpi .slt v2073_r0 c0_i32_1767_r0
  let c0_i32_1768_r0 : BitVec 32 := 0#32
  let v2076_r0 : BitVec 1 := Scalar.cmpi .slt v2072_r0 c0_i32_1768_r0
  let v2077_r0 : BitVec 1 := Scalar.xori v2075_r0 v2076_r0
  let c0_i32_1766_r0 : BitVec 32 := 0#32
  let v2074_r0 : BitVec 1 := Scalar.cmpi .ne v2073_r0 c0_i32_1766_r0
  let v2078_r0 : BitVec 1 := Scalar.andi v2077_r0 v2074_r0
  let v2079_r0 : BitVec 32 := Scalar.addi v2073_r0 v2072_r0
  let v2080_r0 : BitVec 32 := Scalar.select v2078_r0 v2079_r0 v2073_r0
  let v2081_r0 : BitVec 32 := Scalar.addi v30 v2080_r0
  let c1_i32_1770_r0 : BitVec 32 := 1#32
  let v2082_r0 : BitVec 32 := Scalar.muli v2081_r0 c1_i32_1770_r0
  let v2083_r0 : BitVec 32 := Scalar.addi c0_i32_1771_r0 v2082_r0
  v2083_r0.toNat
def k0_dev50 (d0 : Dev nD) : Nat :=
  let c0_i32_1781_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_1772_r0 : BitVec 32 := 6#32
  let v2084_r0 : BitVec 32 := Scalar.addi v29 c6_i32_1772_r0
  let c8_i32_1773_r0 : BitVec 32 := 8#32
  let c0_i32_1774_r0 : BitVec 32 := 0#32
  let v2085_r0 : BitVec 1 := Scalar.cmpi .eq c8_i32_1773_r0 c0_i32_1774_r0
  let c1_i32_1775_r0 : BitVec 32 := 1#32
  let v2086_r0 : BitVec 32 := Scalar.select v2085_r0 c1_i32_1775_r0 c8_i32_1773_r0
  let v2087_r0 : BitVec 32 := Scalar.remsi v2084_r0 v2086_r0
  let c0_i32_1777_r0 : BitVec 32 := 0#32
  let v2089_r0 : BitVec 1 := Scalar.cmpi .slt v2087_r0 c0_i32_1777_r0
  let c0_i32_1778_r0 : BitVec 32 := 0#32
  let v2090_r0 : BitVec 1 := Scalar.cmpi .slt v2086_r0 c0_i32_1778_r0
  let v2091_r0 : BitVec 1 := Scalar.xori v2089_r0 v2090_r0
  let c0_i32_1776_r0 : BitVec 32 := 0#32
  let v2088_r0 : BitVec 1 := Scalar.cmpi .ne v2087_r0 c0_i32_1776_r0
  let v2092_r0 : BitVec 1 := Scalar.andi v2091_r0 v2088_r0
  let v2093_r0 : BitVec 32 := Scalar.addi v2087_r0 v2086_r0
  let v2094_r0 : BitVec 32 := Scalar.select v2092_r0 v2093_r0 v2087_r0
  let v2095_r0 : BitVec 32 := Scalar.addi v30 v2094_r0
  let c1_i32_1780_r0 : BitVec 32 := 1#32
  let v2096_r0 : BitVec 32 := Scalar.muli v2095_r0 c1_i32_1780_r0
  let v2097_r0 : BitVec 32 := Scalar.addi c0_i32_1781_r0 v2096_r0
  v2097_r0.toNat
def k0_dev51 (d0 : Dev nD) : Nat :=
  let c0_i32_1791_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v30 : BitVec 32 := Scalar.muli v19 c8_i32_11
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_1782_r0 : BitVec 32 := 7#32
  let v2098_r0 : BitVec 32 := Scalar.addi v29 c7_i32_1782_r0
  let c8_i32_1783_r0 : BitVec 32 := 8#32
  let c0_i32_1784_r0 : BitVec 32 := 0#32
  let v2099_r0 : BitVec 1 := Scalar.cmpi .eq c8_i32_1783_r0 c0_i32_1784_r0
  let c1_i32_1785_r0 : BitVec 32 := 1#32
  let v2100_r0 : BitVec 32 := Scalar.select v2099_r0 c1_i32_1785_r0 c8_i32_1783_r0
  let v2101_r0 : BitVec 32 := Scalar.remsi v2098_r0 v2100_r0
  let c0_i32_1787_r0 : BitVec 32 := 0#32
  let v2103_r0 : BitVec 1 := Scalar.cmpi .slt v2101_r0 c0_i32_1787_r0
  let c0_i32_1788_r0 : BitVec 32 := 0#32
  let v2104_r0 : BitVec 1 := Scalar.cmpi .slt v2100_r0 c0_i32_1788_r0
  let v2105_r0 : BitVec 1 := Scalar.xori v2103_r0 v2104_r0
  let c0_i32_1786_r0 : BitVec 32 := 0#32
  let v2102_r0 : BitVec 1 := Scalar.cmpi .ne v2101_r0 c0_i32_1786_r0
  let v2106_r0 : BitVec 1 := Scalar.andi v2105_r0 v2102_r0
  let v2107_r0 : BitVec 32 := Scalar.addi v2101_r0 v2100_r0
  let v2108_r0 : BitVec 32 := Scalar.select v2106_r0 v2107_r0 v2101_r0
  let v2109_r0 : BitVec 32 := Scalar.addi v30 v2108_r0
  let c1_i32_1790_r0 : BitVec 32 := 1#32
  let v2110_r0 : BitVec 32 := Scalar.muli v2109_r0 c1_i32_1790_r0
  let v2111_r0 : BitVec 32 := Scalar.addi c0_i32_1791_r0 v2110_r0
  v2111_r0.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Mesh.lean ====
/-
  The mesh of four planes of eight devices, and the closed forms of the offsets, semaphores and
  device ids the kernel computes from a device's own id.
-/
module

public import proofs.«01_k».proof.Proof.Gen.KernelIdeal

@[expose] public section

set_option maxRecDepth 20000

open Idealize.ShloMosaic Idealize.ShloMosaic.TcCoe Cert.KernelIdeal

namespace Cert.A2A

/-- The plane `i` steps above device `c`'s, around the four. -/
def zz (c : Dev nD) (i : ℕ) : ℕ := (c.val / 8 + i) % 4
/-- The place in the plane `i` steps after device `c`'s, around the eight. -/
def kk (c : Dev nD) (i : ℕ) : ℕ := (c.val % 8 + i) % 8

/-- A plane's number is below four. -/
theorem zz_lt (c : Dev nD) (i : ℕ) : zz c i < 4 := Nat.mod_lt _ (by decide)
/-- A place's number is below eight. -/
theorem kk_lt (c : Dev nD) (i : ℕ) : kk c i < 8 := Nat.mod_lt _ (by decide)

/-- The device at place `k` of plane `z`. -/
def devAt (z k : ℕ) : Dev nD := ⟨(z % 4) * 8 + k % 8, by show _ < 32; omega⟩

/-- The device `i` planes above, at the same place. -/
def zsh (i : ℕ) (c : Dev nD) : Dev nD := devAt (zz c i) (kk c 0)
/-- The device `i` places after, in the same plane. -/
def psh (i : ℕ) (c : Dev nD) : Dev nD := devAt (zz c 0) (kk c i)

/-- The ten devices a device hands signals to, in program order: three planes, then seven places. -/
def pe (i : ℕ) (c : Dev nD) : Dev nD := if i < 3 then zsh (i + 1) c else psh (i - 2) c
/-- The position, among the ten of the other device, of the device that names it as its `i`-th. -/
def opp (i : ℕ) : ℕ := if i < 3 then 2 - i else 12 - i

/-- The other end's position is among the ten. -/
theorem opp_lt : ∀ i < 10, opp i < 10 := by decide
/-- Taking the other end's position twice gives the position back. -/
theorem opp_opp : ∀ i < 10, opp (opp i) = i := by decide
/-- A device's peer names it back, at the other end's position. -/
theorem pe_opp : ∀ i < 10, ∀ c, pe (opp i) (pe i c) = c := by decide +kernel
/-- A peer in another plane names the device back the same way. -/
theorem zsh_opp : ∀ i < 3, ∀ c, zsh (opp i + 1) (zsh (i + 1) c) = c := by decide +kernel
/-- Going round the plane and the rest of the way back ends where it started. -/
theorem psh_opp : ∀ i < 7, ∀ c, psh (7 - i) (psh (i + 1) c) = c := by decide +kernel
/-- Going the rest of the way round the plane first, then the steps, also ends where it started. -/
theorem psh_opp' : ∀ i < 7, ∀ c, psh (i + 1) (psh (7 - i) c) = c := by decide +kernel

/-- The planes counted from a device `i` planes above are those counted from `i` on. -/
theorem zz_zsh : ∀ i < 4, ∀ j < 4, ∀ c, zz (zsh i c) j = zz c (i + j) := by decide +kernel
/-- A device's plane, counted from its peer in another plane. -/
theorem zz_zsh0 : ∀ i < 3, ∀ c, zz (zsh (i + 1) c) (opp i + 1) = zz c 0 := by decide +kernel
/-- A device and one in another plane at the same place count the same places. -/
theorem kk_zsh : ∀ i < 4, ∀ j < 8, ∀ c, kk (zsh i c) j = kk c j := by decide +kernel
/-- Devices of one plane count the same planes. -/
theorem zz_psh : ∀ i < 8, ∀ j < 4, ∀ c, zz (psh i c) j = zz c j := by decide +kernel
/-- The places counted from a device `i` places after are those counted from `i` on. -/
theorem kk_psh : ∀ i < 8, ∀ j < 8, ∀ c, kk (psh i c) j = kk c (i + j) := by decide +kernel
/-- The neighbour `i` places before counts the device's place as its `i`-th. -/
theorem psh_back : ∀ i < 8, ∀ c, kk (psh (8 - i) c) i = kk c 0 := by decide +kernel
/-- The other planes differ from the device's own. -/
theorem zz_ne0 : ∀ i < 3, ∀ c, zz c (i + 1) ≠ zz c 0 := by decide +kernel
/-- The four planes counted from a device are different. -/
theorem zz_inj : ∀ i < 4, ∀ j < 4, ∀ c, zz c i = zz c j → i = j := by decide +kernel
/-- The planes counted from the device at plane `z` and place `k`. -/
theorem zz_devAt : ∀ z < 4, ∀ k < 8, ∀ i < 4, zz (devAt z k) i = (z + i) % 4 := by decide +kernel
/-- The places counted from the device at plane `z` and place `k`. -/
theorem kk_devAt : ∀ z < 4, ∀ k < 8, ∀ i < 8, kk (devAt z k) i = (k + i) % 8 := by decide +kernel
/-- A device is the one at its own plane and place. -/
theorem devAt_self : ∀ c : Dev nD, devAt (zz c 0) (kk c 0) = c := by decide +kernel
/-- The number of the device at a plane and place counted from another. -/
theorem devAt_zk : ∀ i < 4, ∀ j < 8, ∀ c : Dev nD, (devAt (zz c i) (kk c j)).val = zz c i * 8 + kk c j := by decide +kernel

/-! ## Offsets -/

/-- The offsets printed as 1, in terms of the device's plane. -/
theorem off1_eq : ∀ c : Dev nD, k0_off1 c = ![0, zz c 0 * 2048] := by decide +kernel
/-- The offsets printed as 2, in terms of the device's plane. -/
theorem off2_eq : ∀ c : Dev nD, k0_off2 c = ![zz c 0, 0, 0] := by decide +kernel
/-- The offsets printed as 3, in terms of the device's plane. -/
theorem off3_eq : ∀ c : Dev nD, k0_off3 c = ![zz c 0] := by decide +kernel
/-- The offsets printed as 4, in terms of the device's plane. -/
theorem off4_eq : ∀ c : Dev nD, k0_off4 c = ![zz c 0, 0, 0] := by decide +kernel
/-- The offsets printed as 5, in terms of the device's plane. -/
theorem off5_eq : ∀ c : Dev nD, k0_off5 c = ![zz c 0, 0, 0] := by decide +kernel
/-- The offsets printed as 6, in terms of the device's plane. -/
theorem off6_eq : ∀ c : Dev nD, k0_off6 c = ![zz c 0, 0] := by decide +kernel
/-- The offsets printed as 9, in terms of the device's plane. -/
theorem off9_eq : ∀ c : Dev nD, k0_off9 c = ![zz c 0, 1] := by decide +kernel
/-- The offsets printed as 11, in terms of the device's plane. -/
theorem off11_eq : ∀ c : Dev nD, k0_off11 c = ![zz c 0, 2] := by decide +kernel
/-- The offsets printed as 13, in terms of the device's plane. -/
theorem off13_eq : ∀ c : Dev nD, k0_off13 c = ![zz c 0, 3] := by decide +kernel
/-- The offsets printed as 15, in terms of the device's plane. -/
theorem off15_eq : ∀ c : Dev nD, k0_off15 c = ![zz c 0, 4] := by decide +kernel
/-- The offsets printed as 17, in terms of the device's plane. -/
theorem off17_eq : ∀ c : Dev nD, k0_off17 c = ![zz c 0, 5] := by decide +kernel
/-- The offsets printed as 19, in terms of the device's plane. -/
theorem off19_eq : ∀ c : Dev nD, k0_off19 c = ![zz c 0, 6] := by decide +kernel
/-- The offsets printed as 7, in terms of the device's plane. -/
theorem off7_eq : ∀ c : Dev nD, k0_off7 c = ![zz c 0, 0, 0, 0] := by decide +kernel
/-- The offsets printed as 10, in terms of the device's plane. -/
theorem off10_eq : ∀ c : Dev nD, k0_off10 c = ![zz c 0, 1, 0, 0] := by decide +kernel
/-- The offsets printed as 12, in terms of the device's plane. -/
theorem off12_eq : ∀ c : Dev nD, k0_off12 c = ![zz c 0, 2, 0, 0] := by decide +kernel
/-- The offsets printed as 14, in terms of the device's plane. -/
theorem off14_eq : ∀ c : Dev nD, k0_off14 c = ![zz c 0, 3, 0, 0] := by decide +kernel
/-- The offsets printed as 16, in terms of the device's plane. -/
theorem off16_eq : ∀ c : Dev nD, k0_off16 c = ![zz c 0, 4, 0, 0] := by decide +kernel
/-- The offsets printed as 18, in terms of the device's plane. -/
theorem off18_eq : ∀ c : Dev nD, k0_off18 c = ![zz c 0, 5, 0, 0] := by decide +kernel
/-- The offsets printed as 20, in terms of the device's plane. -/
theorem off20_eq : ∀ c : Dev nD, k0_off20 c = ![zz c 0, 6, 0, 0] := by decide +kernel
/-- The offsets printed as 8, in terms of the device's plane and place. -/
theorem off8_eq : ∀ (c : Dev nD) (r : Fin 7), k0_off8 c (BitVec.ofNat 32 (1 + r.val)) = ![zz c 0, 0, kk c (r.val + 1) * 256] := by decide +kernel
/-- The offsets printed as 21, in terms of the device's plane and place. -/
theorem off21_eq : ∀ c : Dev nD, k0_off21 c = ![zz c 0, 0, kk c 0 * 256] := by decide +kernel
/-- The offsets printed as 22, in terms of the device's plane and place. -/
theorem off22_eq : ∀ c : Dev nD, k0_off22 c = ![(zz c 0 * 8 + kk c 0) * 128, 0] := by decide +kernel
/-- The offsets printed as 23, in terms of the device's plane. -/
theorem off23_eq : ∀ (c : Dev nD) (r : Fin 3), k0_off23 c (BitVec.ofNat 32 (1 + r.val)) = ![zz c (r.val + 1)] := by decide +kernel
/-- The offsets printed as 24, in terms of the device's plane. -/
theorem off24_eq : ∀ (c : Dev nD) (r : Fin 3), k0_off24 c (BitVec.ofNat 32 (1 + r.val)) = ![zz c (r.val + 1), 0, 0] := by decide +kernel
/-- The offsets printed as 25, in terms of the device's plane. -/
theorem off25_eq : ∀ (c : Dev nD) (r : Fin 3), k0_off25 c (BitVec.ofNat 32 (1 + r.val)) = ![zz c (r.val + 1), 0, 0] := by decide +kernel
/-- The offsets printed as 26, in terms of the device's plane. -/
theorem off26_eq : ∀ (c : Dev nD) (r : Fin 3), k0_off26 c (BitVec.ofNat 32 (1 + r.val)) = ![zz c (r.val + 1), 0, 0] := by decide +kernel
/-- The offsets printed as 27, in terms of the device's plane. -/
theorem off27_eq : ∀ (c : Dev nD) (r : Fin 3), k0_off27 c (BitVec.ofNat 32 (1 + r.val)) = ![zz c (r.val + 1), 0] := by decide +kernel
/-- The offsets printed as 30, in terms of the device's plane. -/
theorem off30_eq : ∀ (c : Dev nD) (r : Fin 3), k0_off30 c (BitVec.ofNat 32 (1 + r.val)) = ![zz c (r.val + 1), 1] := by decide +kernel
/-- The offsets printed as 32, in terms of the device's plane. -/
theorem off32_eq : ∀ (c : Dev nD) (r : Fin 3), k0_off32 c (BitVec.ofNat 32 (1 + r.val)) = ![zz c (r.val + 1), 2] := by decide +kernel
/-- The offsets printed as 34, in terms of the device's plane. -/
theorem off34_eq : ∀ (c : Dev nD) (r : Fin 3), k0_off34 c (BitVec.ofNat 32 (1 + r.val)) = ![zz c (r.val + 1), 3] := by decide +kernel
/-- The offsets printed as 36, in terms of the device's plane. -/
theorem off36_eq : ∀ (c : Dev nD) (r : Fin 3), k0_off36 c (BitVec.ofNat 32 (1 + r.val)) = ![zz c (r.val + 1), 4] := by decide +kernel
/-- The offsets printed as 38, in terms of the device's plane. -/
theorem off38_eq : ∀ (c : Dev nD) (r : Fin 3), k0_off38 c (BitVec.ofNat 32 (1 + r.val)) = ![zz c (r.val + 1), 5] := by decide +kernel
/-- The offsets printed as 40, in terms of the device's plane. -/
theorem off40_eq : ∀ (c : Dev nD) (r : Fin 3), k0_off40 c (BitVec.ofNat 32 (1 + r.val)) = ![zz c (r.val + 1), 6] := by decide +kernel
/-- The offsets printed as 28, in terms of the device's plane. -/
theorem off28_eq : ∀ (c : Dev nD) (r : Fin 3), k0_off28 c (BitVec.ofNat 32 (1 + r.val)) = ![zz c (r.val + 1), 0, 0, 0] := by decide +kernel
/-- The offsets printed as 31, in terms of the device's plane. -/
theorem off31_eq : ∀ (c : Dev nD) (r : Fin 3), k0_off31 c (BitVec.ofNat 32 (1 + r.val)) = ![zz c (r.val + 1), 1, 0, 0] := by decide +kernel
/-- The offsets printed as 33, in terms of the device's plane. -/
theorem off33_eq : ∀ (c : Dev nD) (r : Fin 3), k0_off33 c (BitVec.ofNat 32 (1 + r.val)) = ![zz c (r.val + 1), 2, 0, 0] := by decide +kernel
/-- The offsets printed as 35, in terms of the device's plane. -/
theorem off35_eq : ∀ (c : Dev nD) (r : Fin 3), k0_off35 c (BitVec.ofNat 32 (1 + r.val)) = ![zz c (r.val + 1), 3, 0, 0] := by decide +kernel
/-- The offsets printed as 37, in terms of the device's plane. -/
theorem off37_eq : ∀ (c : Dev nD) (r : Fin 3), k0_off37 c (BitVec.ofNat 32 (1 + r.val)) = ![zz c (r.val + 1), 4, 0, 0] := by decide +kernel
/-- The offsets printed as 39, in terms of the device's plane. -/
theorem off39_eq : ∀ (c : Dev nD) (r : Fin 3), k0_off39 c (BitVec.ofNat 32 (1 + r.val)) = ![zz c (r.val + 1), 5, 0, 0] := by decide +kernel
/-- The offsets printed as 41, in terms of the device's plane. -/
theorem off41_eq : ∀ (c : Dev nD) (r : Fin 3), k0_off41 c (BitVec.ofNat 32 (1 + r.val)) = ![zz c (r.val + 1), 6, 0, 0] := by decide +kernel
/-- The offsets printed as 29, in terms of the device's plane and place. -/
theorem off29_eq : ∀ (c : Dev nD) (r : Fin 3) (j : Fin 7), k0_off29 c (BitVec.ofNat 32 (1 + r.val)) (BitVec.ofNat 32 (1 + j.val)) = ![zz c (r.val + 1), 0, kk c (j.val + 1) * 256] := by decide +kernel
/-- The offsets printed as 42, in terms of the device's plane and place. -/
theorem off42_eq : ∀ (c : Dev nD) (r : Fin 3), k0_off42 c (BitVec.ofNat 32 (1 + r.val)) = ![zz c (r.val + 1), 0, kk c 0 * 256] := by decide +kernel
/-- The offsets printed as 43, in terms of the device's plane and place. -/
theorem off43_eq : ∀ (c : Dev nD) (r : Fin 3), k0_off43 c (BitVec.ofNat 32 (1 + r.val)) = ![(zz c (r.val + 1) * 8 + kk c 0) * 128, 0] := by decide +kernel
/-- The offsets printed as 44, in terms of the device's place. -/
theorem off44_eq : ∀ (c : Dev nD) (r : Fin 4) (j : Fin 7), k0_off44 c (BitVec.ofNat 32 (8 * r.val)) (BitVec.ofNat 32 (1 + j.val)) = ![(r.val * 8 + kk c (7 - j.val)) * 128, 0] := by decide +kernel

/-! ## Semaphores -/

/-- The DMA semaphore at position `n` of the sixty-eight. -/
def ds (n : ℕ) : DmaSem sig := if h : n < 68 then ⟨n, h⟩ else ⟨0, by decide⟩

/-- The semaphore of the load of the second operand's columns. -/
theorem sem_load : cc0_scratch4.sem = ds 4 := by decide
/-- The semaphore for a block having been sent, for each of the three copies. -/
theorem sem5 : ∀ (i : Fin 3) (o : Fin 1 → ℕ) (h : ∀ a, o a + S1.size a ≤ S3.size a) (hq : S1.Squeezes S_), o = ![i.val] →
    ((cc0_scratch5.slice (Rect.unit (s := S3) o S1.size h)).squeeze S_ hq).sem = ds (5 + i.val) := by
  rintro i o h hq rfl; revert i; revert hq; decide
/-- The semaphore for a block having been received, for each plane. -/
theorem sem6 : ∀ (i : Fin 4) (o : Fin 1 → ℕ) (h : ∀ a, o a + S1.size a ≤ S4.size a) (hq : S1.Squeezes S_), o = ![i.val] →
    ((cc0_scratch6.slice (Rect.unit (s := S4) o S1.size h)).squeeze S_ hq).sem = ds (8 + i.val) := by
  rintro i o h hq rfl; revert i; revert hq; decide
/-- The semaphore for a piece having been sent, for each plane and neighbour. -/
theorem sem7 : ∀ (i : Fin 4) (j : Fin 7) (o : Fin 2 → ℕ) (h : ∀ a, o a + S1x1.size a ≤ S4x7.size a) (hq : S1x1.Squeezes S_), o = ![i.val, j.val] →
    ((cc0_scratch7.slice (Rect.unit (s := S4x7) o S1x1.size h)).squeeze S_ hq).sem = ds (12 + (i.val * 7 + j.val)) := by
  rintro i j o h hq rfl; revert i j; revert hq; decide +kernel
/-- The semaphore for a piece having been received, for each plane and neighbour. -/
theorem sem8 : ∀ (i : Fin 4) (j : Fin 7) (o : Fin 2 → ℕ) (h : ∀ a, o a + S1x1.size a ≤ S4x7.size a) (hq : S1x1.Squeezes S_), o = ![i.val, j.val] →
    ((cc0_scratch8.slice (Rect.unit (s := S4x7) o S1x1.size h)).squeeze S_ hq).sem = ds (40 + (i.val * 7 + j.val)) := by
  rintro i j o h hq rfl; revert i j; revert hq; decide +kernel
/-- The entry barrier's semaphore. -/
theorem sem_bar : (SemArray.scalar (sig.barrier 0 rfl) : Sems sig S_).sem = (0 : Fin 2) := by decide
/-- The exit barrier's semaphore. -/
theorem sem_exit : (cc0_scoped0 : Sems sig S_).sem = (1 : Fin 2) := by decide

/-! ## Device ids -/

/-- Devices of equal numbers are equal. -/
theorem ofN_eq {a b : ℕ} {h : a < nD} (hb : b < nD) (e : a = b) : (⟨a, h⟩ : Dev nD) = ⟨b, hb⟩ := Fin.ext e

/-- The device printed as 1 is one of the ten peers. -/
theorem dev1_eq : ∀ c : Dev nD, k0_dev1 c = (pe 0 c).val := by decide +kernel
/-- The device printed as 2 is one of the ten peers. -/
theorem dev2_eq : ∀ c : Dev nD, k0_dev2 c = (pe 1 c).val := by decide +kernel
/-- The device printed as 3 is one of the ten peers. -/
theorem dev3_eq : ∀ c : Dev nD, k0_dev3 c = (pe 2 c).val := by decide +kernel
/-- The device printed as 4 is one of the ten peers. -/
theorem dev4_eq : ∀ c : Dev nD, k0_dev4 c = (pe 3 c).val := by decide +kernel
/-- The device printed as 5 is one of the ten peers. -/
theorem dev5_eq : ∀ c : Dev nD, k0_dev5 c = (pe 4 c).val := by decide +kernel
/-- The device printed as 6 is one of the ten peers. -/
theorem dev6_eq : ∀ c : Dev nD, k0_dev6 c = (pe 5 c).val := by decide +kernel
/-- The device printed as 7 is one of the ten peers. -/
theorem dev7_eq : ∀ c : Dev nD, k0_dev7 c = (pe 6 c).val := by decide +kernel
/-- The device printed as 8 is one of the ten peers. -/
theorem dev8_eq : ∀ c : Dev nD, k0_dev8 c = (pe 7 c).val := by decide +kernel
/-- The device printed as 9 is one of the ten peers. -/
theorem dev9_eq : ∀ c : Dev nD, k0_dev9 c = (pe 8 c).val := by decide +kernel
/-- The device printed as 10 is one of the ten peers. -/
theorem dev10_eq : ∀ c : Dev nD, k0_dev10 c = (pe 9 c).val := by decide +kernel
/-- The device printed as 11 is a peer in another plane. -/
theorem dev11_eq : ∀ c : Dev nD, k0_dev11 c = (zsh (0 + 1) c).val := by decide +kernel
/-- The device printed as 12 is a peer in another plane. -/
theorem dev12_eq : ∀ c : Dev nD, k0_dev12 c = (zsh (1 + 1) c).val := by decide +kernel
/-- The device printed as 13 is a peer in another plane. -/
theorem dev13_eq : ∀ c : Dev nD, k0_dev13 c = (zsh (2 + 1) c).val := by decide +kernel
/-- The device printed as 14 is a neighbour in the plane. -/
theorem dev14_eq : ∀ c : Dev nD, k0_dev14 c = (psh (0 + 1) c).val := by decide +kernel
/-- The device printed as 15 is a neighbour in the plane. -/
theorem dev15_eq : ∀ c : Dev nD, k0_dev15 c = (psh (1 + 1) c).val := by decide +kernel
/-- The device printed as 16 is a neighbour in the plane. -/
theorem dev16_eq : ∀ c : Dev nD, k0_dev16 c = (psh (2 + 1) c).val := by decide +kernel
/-- The device printed as 17 is a neighbour in the plane. -/
theorem dev17_eq : ∀ c : Dev nD, k0_dev17 c = (psh (3 + 1) c).val := by decide +kernel
/-- The device printed as 18 is a neighbour in the plane. -/
theorem dev18_eq : ∀ c : Dev nD, k0_dev18 c = (psh (4 + 1) c).val := by decide +kernel
/-- The device printed as 19 is a neighbour in the plane. -/
theorem dev19_eq : ∀ c : Dev nD, k0_dev19 c = (psh (5 + 1) c).val := by decide +kernel
/-- The device printed as 20 is a neighbour in the plane. -/
theorem dev20_eq : ∀ c : Dev nD, k0_dev20 c = (psh (6 + 1) c).val := by decide +kernel
/-- The device printed as 21 is a neighbour in the plane. -/
theorem dev21_eq : ∀ c : Dev nD, k0_dev21 c = (psh (0 + 1) c).val := by decide +kernel
/-- The device printed as 22 is a neighbour in the plane. -/
theorem dev22_eq : ∀ c : Dev nD, k0_dev22 c = (psh (1 + 1) c).val := by decide +kernel
/-- The device printed as 23 is a neighbour in the plane. -/
theorem dev23_eq : ∀ c : Dev nD, k0_dev23 c = (psh (2 + 1) c).val := by decide +kernel
/-- The device printed as 24 is a neighbour in the plane. -/
theorem dev24_eq : ∀ c : Dev nD, k0_dev24 c = (psh (3 + 1) c).val := by decide +kernel
/-- The device printed as 25 is a neighbour in the plane. -/
theorem dev25_eq : ∀ c : Dev nD, k0_dev25 c = (psh (4 + 1) c).val := by decide +kernel
/-- The device printed as 26 is a neighbour in the plane. -/
theorem dev26_eq : ∀ c : Dev nD, k0_dev26 c = (psh (5 + 1) c).val := by decide +kernel
/-- The device printed as 27 is a neighbour in the plane. -/
theorem dev27_eq : ∀ c : Dev nD, k0_dev27 c = (psh (6 + 1) c).val := by decide +kernel
/-- The device printed as 28 is a neighbour in the plane. -/
theorem dev28_eq : ∀ c : Dev nD, k0_dev28 c = (psh (0 + 1) c).val := by decide +kernel
/-- The device printed as 29 is a neighbour in the plane. -/
theorem dev29_eq : ∀ c : Dev nD, k0_dev29 c = (psh (1 + 1) c).val := by decide +kernel
/-- The device printed as 30 is a neighbour in the plane. -/
theorem dev30_eq : ∀ c : Dev nD, k0_dev30 c = (psh (2 + 1) c).val := by decide +kernel
/-- The device printed as 31 is a neighbour in the plane. -/
theorem dev31_eq : ∀ c : Dev nD, k0_dev31 c = (psh (3 + 1) c).val := by decide +kernel
/-- The device printed as 32 is a neighbour in the plane. -/
theorem dev32_eq : ∀ c : Dev nD, k0_dev32 c = (psh (4 + 1) c).val := by decide +kernel
/-- The device printed as 33 is a neighbour in the plane. -/
theorem dev33_eq : ∀ c : Dev nD, k0_dev33 c = (psh (5 + 1) c).val := by decide +kernel
/-- The device printed as 34 is a neighbour in the plane. -/
theorem dev34_eq : ∀ c : Dev nD, k0_dev34 c = (psh (6 + 1) c).val := by decide +kernel
/-- The device printed as 35 is a neighbour in the plane. -/
theorem dev35_eq : ∀ c : Dev nD, k0_dev35 c = (psh (0 + 1) c).val := by decide +kernel
/-- The device printed as 36 is a neighbour in the plane. -/
theorem dev36_eq : ∀ c : Dev nD, k0_dev36 c = (psh (1 + 1) c).val := by decide +kernel
/-- The device printed as 37 is a neighbour in the plane. -/
theorem dev37_eq : ∀ c : Dev nD, k0_dev37 c = (psh (2 + 1) c).val := by decide +kernel
/-- The device printed as 38 is a neighbour in the plane. -/
theorem dev38_eq : ∀ c : Dev nD, k0_dev38 c = (psh (3 + 1) c).val := by decide +kernel
/-- The device printed as 39 is a neighbour in the plane. -/
theorem dev39_eq : ∀ c : Dev nD, k0_dev39 c = (psh (4 + 1) c).val := by decide +kernel
/-- The device printed as 40 is a neighbour in the plane. -/
theorem dev40_eq : ∀ c : Dev nD, k0_dev40 c = (psh (5 + 1) c).val := by decide +kernel
/-- The device printed as 41 is a neighbour in the plane. -/
theorem dev41_eq : ∀ c : Dev nD, k0_dev41 c = (psh (6 + 1) c).val := by decide +kernel
/-- The device printed as 42 is one of the ten peers. -/
theorem dev42_eq : ∀ c : Dev nD, k0_dev42 c = (pe 0 c).val := by decide +kernel
/-- The device printed as 43 is one of the ten peers. -/
theorem dev43_eq : ∀ c : Dev nD, k0_dev43 c = (pe 1 c).val := by decide +kernel
/-- The device printed as 44 is one of the ten peers. -/
theorem dev44_eq : ∀ c : Dev nD, k0_dev44 c = (pe 2 c).val := by decide +kernel
/-- The device printed as 45 is one of the ten peers. -/
theorem dev45_eq : ∀ c : Dev nD, k0_dev45 c = (pe 3 c).val := by decide +kernel
/-- The device printed as 46 is one of the ten peers. -/
theorem dev46_eq : ∀ c : Dev nD, k0_dev46 c = (pe 4 c).val := by decide +kernel
/-- The device printed as 47 is one of the ten peers. -/
theorem dev47_eq : ∀ c : Dev nD, k0_dev47 c = (pe 5 c).val := by decide +kernel
/-- The device printed as 48 is one of the ten peers. -/
theorem dev48_eq : ∀ c : Dev nD, k0_dev48 c = (pe 6 c).val := by decide +kernel
/-- The device printed as 49 is one of the ten peers. -/
theorem dev49_eq : ∀ c : Dev nD, k0_dev49 c = (pe 7 c).val := by decide +kernel
/-- The device printed as 50 is one of the ten peers. -/
theorem dev50_eq : ∀ c : Dev nD, k0_dev50 c = (pe 8 c).val := by decide +kernel
/-- The device printed as 51 is one of the ten peers. -/
theorem dev51_eq : ∀ c : Dev nD, k0_dev51 c = (pe 9 c).val := by decide +kernel

end Cert.A2A

-- end of file
-- ==== Proof.Slots.lean ====
/-
# The buffers cut into slots

The gathered blocks, the partial products and the received pieces each live in one buffer that the devices share out slot
by slot. This module names the index sets of the slots and says where the kernel's windows land in them.
-/
module

public import proofs.«01_k».proof.Proof.Mesh
public import Idealize.ShloMosaic.Lib.ValueIdxCore
public import Idealize.ShloMosaic.Lib.ValueLayout
public import Idealize.ShloMosaic.Lib.Pipeline.Launch
public import Idealize.ShloMosaic.Lib.Exec.Geometry

@[expose] public section

noncomputable section

namespace Cert.A2A

open Idealize.ShloMosaic Idealize.ShloMosaic.TcCoe Cert.KernelIdeal Cert.KernelIdeal.Gen Idealize.ShloMosaic.ValueIdx

abbrev xbM : Memref sig .tc .vmem S128x4096 .f32 := Memref.whole cc0_stg0_0
abbrev wM : Memref sig .tc .hbm S4096x8192 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x256 .f32 := Memref.whole cc0_stg3_0
abbrev wbM : Memref sig .tc .vmem S4096x2048 .f32 := Memref.whole cc0_scratch0
abbrev xM : Memref sig .tc .vmem S4x128x4096 .fp8e5m2 := Memref.whole cc0_scratch1
abbrev gM : Memref sig .tc .vmem S4x128x2048 .bf16 := Memref.whole cc0_scratch2
abbrev rM : Memref sig .tc .vmem S4x7x128x256 .bf16 := Memref.whole cc0_scratch3

/-- Slot `z` of the gathered blocks. -/
def xset (z : ℕ) : Finset S4x128x4096.Idx := Finset.univ.filter fun i => (i 0).val = z
/-- Slot `z` of the partial products. -/
def gslot (z : ℕ) : Finset S4x128x2048.Idx := Finset.univ.filter fun i => (i 0).val = z
/-- Column piece `k` of slot `z` of the partial products. -/
def gset (z k : ℕ) : Finset S4x128x2048.Idx := Finset.univ.filter fun i => (i 0).val = z ∧ (i 2).val / 256 = k
/-- Slot `(z, d)` of the received pieces. -/
def rset (z d : ℕ) : Finset S4x7x128x256.Idx := Finset.univ.filter fun i => (i 0).val = z ∧ (i 1).val = d
/-- Row block `D` of the result. -/
def oset (D : ℕ) : Finset S4096x256.Idx := Finset.univ.filter fun i => (i 0).val / 128 = D

/-- The elements of a slot of the gathered blocks. -/
theorem xrect_set (z : ℕ) (o : Fin 3 → ℕ) (h) (ho : o = ![z, 0, 0]) :
    (Rect.unit (s := S4x128x4096) o S1x128x4096.size h).set = xset z := by
  subst ho; ext i; rw [Rect.mem_set_unit]; unfold xset; rw [Finset.mem_filter]
  have h1 := (i 1).isLt; have h2 := (i 2).isLt
  constructor
  · intro H; have := H 0; refine ⟨Finset.mem_univ _, ?_⟩; simp at this; omega
  · rintro ⟨-, hz⟩ a
    fin_cases a <;> simp at * <;> omega

/-- The elements of a plane's slot of the partial products. -/
theorem gslot_rect_set (z : ℕ) (o : Fin 3 → ℕ) (h) (ho : o = ![z, 0, 0]) :
    (Rect.unit (s := S4x128x2048) o S1x128x2048.size h).set = gslot z := by
  subst ho; ext i; rw [Rect.mem_set_unit]; unfold gslot; rw [Finset.mem_filter]
  have h1 := (i 1).isLt; have h2 := (i 2).isLt
  constructor
  · intro H; have := H 0; refine ⟨Finset.mem_univ _, ?_⟩; simp at this; omega
  · rintro ⟨-, hz⟩ a
    fin_cases a <;> simp at * <;> omega

/-- The elements of one neighbour's piece of a partial product. -/
theorem grect_set (z k : ℕ) (o : Fin 3 → ℕ) (h) (ho : o = ![z, 0, k * 256]) :
    (Rect.unit (s := S4x128x2048) o S1x128x256.size h).set = gset z k := by
  subst ho; ext i; rw [Rect.mem_set_unit]; unfold gset; rw [Finset.mem_filter]
  have h1 := (i 1).isLt; have h2 := (i 2).isLt
  constructor
  · intro H; have := H 0; have h3 := H 2; refine ⟨Finset.mem_univ _, ?_⟩; simp at this h3; omega
  · rintro ⟨-, hz, hk⟩ a
    fin_cases a <;> simp at * <;> omega

/-- The elements of a slot of the received pieces. -/
theorem rrect_set (z d : ℕ) (o : Fin 4 → ℕ) (h) (ho : o = ![z, d, 0, 0]) :
    (Rect.unit (s := S4x7x128x256) o S1x1x128x256.size h).set = rset z d := by
  subst ho; ext i; rw [Rect.mem_set_unit]; unfold rset; rw [Finset.mem_filter]
  have h1 := (i 2).isLt; have h2 := (i 3).isLt
  constructor
  · intro H; have := H 0; have h3 := H 1; refine ⟨Finset.mem_univ _, ?_⟩; simp at this h3; omega
  · rintro ⟨-, hz, hk⟩ a
    fin_cases a <;> simp at * <;> omega

/-- The elements of a row block of the result. -/
theorem orect_set (D : ℕ) (o : Fin 2 → ℕ) (h) (ho : o = ![D * 128, 0]) :
    (Rect.unit (s := S4096x256) o S128x256.size h).set = oset D := by
  subst ho; ext i; rw [Rect.mem_set_unit]; unfold oset; rw [Finset.mem_filter]
  have h1 := (i 1).isLt; have h0 := (i 0).isLt
  constructor
  · intro H; have := H 0; refine ⟨Finset.mem_univ _, ?_⟩; simp at this; omega
  · rintro ⟨-, hz⟩ a
    fin_cases a <;> simp at * <;> omega

/-- The window on slot `z` of the gathered blocks, a matrix. -/
abbrev xV (o : Fin 3 → ℕ) (h : ∀ a, o a + S1x128x4096.size a ≤ S4x128x4096.size a) (hq : S1x128x4096.Squeezes S128x4096) :
    Memref sig .tc .vmem S128x4096 .fp8e5m2 :=
  (xM.slice (Rect.unit (s := S4x128x4096) o S1x128x4096.size h) (fun _ => rfl)).squeeze S128x4096 hq
/-- The window on one column piece of a partial product. -/
abbrev gV (o : Fin 3 → ℕ) (h : ∀ a, o a + S1x128x256.size a ≤ S4x128x2048.size a) (hq : S1x128x256.Squeezes S128x256) :
    Memref sig .tc .vmem S128x256 .bf16 :=
  (gM.slice (Rect.unit (s := S4x128x2048) o S1x128x256.size h) (fun _ => rfl)).squeeze S128x256 hq
/-- The window on one slot of the received pieces. -/
abbrev rV (o : Fin 4 → ℕ) (h : ∀ a, o a + S1x1x128x256.size a ≤ S4x7x128x256.size a) (hq : S1x1x128x256.Squeezes S128x256) :
    Memref sig .tc .vmem S128x256 .bf16 :=
  (rM.slice (Rect.unit (s := S4x7x128x256) o S1x1x128x256.size h) (fun _ => rfl)).squeeze S128x256 hq

/-- The elements under the view a copy of a block uses. -/
theorem xV_set (z : ℕ) (o h hq) (ho : o = ![z, 0, 0]) : (xV o h hq).view.set = xset z :=
  (Memref.set_view_squeeze _ hq).trans ((View.set_slice_whole _ _).trans (xrect_set z o h ho))
/-- The elements under the view a copy of a piece reads. -/
theorem gV_set (z k : ℕ) (o h hq) (ho : o = ![z, 0, k * 256]) : (gV o h hq).view.set = gset z k :=
  (Memref.set_view_squeeze _ hq).trans ((View.set_slice_whole _ _).trans (grect_set z k o h ho))
/-- The elements under the view a copy of a piece writes. -/
theorem rV_set (z d : ℕ) (o h hq) (ho : o = ![z, d, 0, 0]) : (rV o h hq).view.set = rset z d :=
  (Memref.set_view_squeeze _ hq).trans ((View.set_slice_whole _ _).trans (rrect_set z d o h ho))

/-- Where element `(a, b)` of a piece's window lies. -/
theorem gV_emb (z k : ℕ) (o h hq) (ho : o = ![z, 0, k * 256]) (hz : z < 4) (hk : k < 8) (a : Fin 128) (b : Fin 256) :
    (gV o h hq).view.emb (ix2 a b) = (ix3 ⟨z, hz⟩ a ⟨k * 256 + b.val, by omega⟩ : S4x128x2048.Idx) := by
  subst ho
  show (Rect.unit (s := S4x128x2048) ![z, 0, k * 256] S1x128x256.size h).emb (Shape.reshapeEquiv _ (ix2 a b)) = _
  rw [reshapeEquiv_ix2_1ab]
  funext x; apply Fin.ext
  fin_cases x
  · show z + 1 * 0 = z; omega
  · show 0 + 1 * a.val = a.val; omega
  · show k * 256 + 1 * b.val = k * 256 + b.val; omega
/-- Where an entry of a received piece lies. -/
theorem rV_emb (z d : ℕ) (o h hq) (ho : o = ![z, d, 0, 0]) (hz : z < 4) (hd : d < 7) (a : Fin 128) (b : Fin 256) :
    (rV o h hq).view.emb (ix2 a b) = (ix4 ⟨z, hz⟩ ⟨d, hd⟩ a b : S4x7x128x256.Idx) := by
  subst ho
  show (Rect.unit (s := S4x7x128x256) ![z, d, 0, 0] S1x1x128x256.size h).emb (Shape.reshapeEquiv _ (ix2 a b)) = _
  rw [reshapeEquiv_ix2_11ab]
  funext x; apply Fin.ext
  fin_cases x
  · show z + 1 * 0 = z; omega
  · show d + 1 * 0 = d; omega
  · show 0 + 1 * a.val = a.val; omega
  · show 0 + 1 * b.val = b.val; omega

/-- A write through `v` of what `w` reads from `f` leaves `g` on `v`'s elements, if `g` at `v`'s places is `f` at `w`'s. -/
theorem write_read_on {Val : EltTy → Type} {κ κ' : Kind} {sp sp' : Space} {s : Shape} {e : EltTy}
    (v : View sig κ sp s e) (w : View sig κ' sp' s e) (fd g : v.ty.Contents Val) (f : w.ty.Contents Val)
    (h : ∀ x, v.read Val g x = w.read Val f x) : ∀ i ∈ v.set, v.write Val fd (w.read Val f) Finset.univ i = g i := by
  intro i hi
  obtain ⟨x, -, rfl⟩ := Finset.mem_map.mp hi
  rw [View.write_emb_of_mem _ _ (Finset.mem_univ x), ← h x]
  simp [View.read]

/-- The windows' transfer credits. -/
@[irreducible] def NL : ℕ := wbM.view.dmaCredit
@[irreducible] def NX : ℕ := (xV ![0, 0, 0] (by decide) (by decide)).view.dmaCredit
@[irreducible] def NS : ℕ := (rV ![0, 0, 0, 0] (by decide) (by decide)).view.dmaCredit

/-- The credit of the load of the second operand's columns. -/
theorem NL_eq : wbM.view.dmaCredit = NL := by unfold NL; rfl
/-- The credit of a block's copy. -/
theorem NX_eq (o h hq) : (xV o h hq).view.dmaCredit = NX := by unfold NX; rfl
/-- The credit of a piece's copy, counted at its target. -/
theorem NS_eq (o h hq) : (rV o h hq).view.dmaCredit = NS := by unfold NS; rfl
/-- The credit of a piece's copy, counted at its source. -/
theorem NS_eq' (o h hq) : (gV o h hq).view.dmaCredit = NS := by unfold NS; rfl
/-- The load's credit is positive. -/
theorem NL_pos : 0 < NL := by unfold NL; exact View.dmaCredit_pos _ (by decide)
/-- A block's credit is positive. -/
theorem NX_pos : 0 < NX := by unfold NX; exact View.dmaCredit_pos _ (by decide)
/-- A piece's credit is positive. -/
theorem NS_pos : 0 < NS := by unfold NS; exact View.dmaCredit_pos _ (by decide)

end Cert.A2A
-- ==== Proof.Sched.lean ====
/-
# The protocol: what every signal and transfer hands over

Contents of the buffers as the kernel leaves them, and the one-round schedule of every semaphore: who pays it, how much,
and what the payment carries.
-/
module

public import proofs.«01_k».proof.Proof.Slots
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost algebra, its duties named by numbers. -/
abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- Device `c`'s block of the first operand, staged. -/
def xstg (c : Dev nD) : (cc0_stg0_0 : Ref sig .tc).ty.Contents (Elt F) :=
  (win0_0.blk (0 : Fin 1)).view.read (Elt F) (m ((c : Thread nD τ).loc main_arg0))
def sxstg (c : Dev nD) : (cc0_stg1_0 : Ref sig .tc).ty.Contents (Elt F) :=
  (win0_1.blk (0 : Fin 1)).view.read (Elt F) (m ((c : Thread nD τ).loc main_arg2))
def swstg (c : Dev nD) : (cc0_stg2_0 : Ref sig .tc).ty.Contents (Elt F) :=
  (win0_2.blk (0 : Fin 1)).view.read (Elt F) (m ((c : Thread nD τ).loc main_arg3))

/-- The only index of a one-element vector. -/
def i0 : S1.Idx := fun a => ⟨0, by revert a; decide⟩
/-- A one-element vector has one index. -/
theorem idx_S1 (x y : S1.Idx) : x = y := by
  funext a; apply Fin.ext; have h : a = 0 := Subsingleton.elim _ _; subst h
  have := (x 0).isLt; have := (y 0).isLt; simp at *; omega

def sxv (c : Dev nD) : Elt F .f32 := sxstg m c i0
def swv (c : Dev nD) : Elt F .f32 := swstg m c i0

/-- The plane's columns of the second operand. -/
abbrev wV (c : Dev nD) : Memref sig .tc .hbm S4096x2048 .f32 :=
  wM.slice (Rect.unit (s := S4096x8192) (k0_off1 c) S4096x2048.size (k0_off1_inb c)) (fun _ => rfl)
def WB (c : Dev nD) : (cc0_scratch0 : Ref sig .tc).ty.Contents (Elt F) :=
  (wV c).view.read (Elt F) (m ((c : Thread nD τ).loc main_arg1))

/-- What slot `z` of the gathered blocks comes to hold: the block of the device of plane `z` at `c`'s place, narrowed. -/
def xslot (c : Dev nD) (z : ℕ) : FVec F S1x128x4096 .fp8e5m2 := k0_pay2 (k0_pay1 (xstg m (devAt z (kk c 0))))
def XG (c : Dev nD) : (cc0_scratch1 : Ref sig .tc).ty.Contents (Elt F) :=
  fun (i : S4x128x4096.Idx) => xslot m c (i 0).val (ix3 0 (i 1) (i 2))

/-- The partial product of slot `z`. -/
def STGv (c : Dev nD) (z : ℕ) : FVec F S1x128x2048 .bf16 := k0_pay4 (sxv m c) (swv m c) (xslot m c z) (WB m c)
def STG (c : Dev nD) : (cc0_scratch2 : Ref sig .tc).ty.Contents (Elt F) :=
  fun (i : S4x128x2048.Idx) => STGv m c (i 0).val (ix3 0 (i 1) (i 2))

/-- Column `b` of piece `k`, among the plane's columns. -/
def col (k : ℕ) (hk : k < 8) (b : Fin 256) : Fin 2048 := ⟨k * 256 + b.val, by omega⟩

/-- What the slots of the received pieces come to hold. -/
def RST (c : Dev nD) : (cc0_scratch3 : Ref sig .tc).ty.Contents (Elt F) :=
  fun (i : S4x7x128x256.Idx) => STG m (psh (7 - (i 1).val) c) (ix3 (i 0) (i 2) (col (kk c 0) (kk_lt c 0) (i 3)))

/-- The piece of the result's row block `D`, before it is widened. -/
def blkv (c : Dev nD) (D : ℕ) : FVec F S1x128x256 .bf16 :=
  fun (j : S1x128x256.Idx) => STG m (devAt (zz c 0) (D % 8)) (ix3 ⟨D / 8 % 4, Nat.mod_lt _ (by decide)⟩ (j 1) (col (kk c 0) (kk_lt c 0) (j 2)))
/-- The result on device `c`. -/
def OUT (c : Dev nD) : (cc0_stg3_0 : Ref sig .tc).ty.Contents (Elt F) :=
  fun (i : S4096x256.Idx) => k0_pay5 (blkv m c ((i 0).val / 128)) (ix2 ⟨(i 0).val % 128, Nat.mod_lt _ (by decide)⟩ (i 1))

/-- The devices at one place of the four planes gather the same blocks. -/
theorem XG_zsh (i : ℕ) (hi : i < 4) (c : Dev nD) : XG m (zsh i c) = XG m c := by
  funext j; unfold XG xslot; rw [kk_zsh i hi 0 (by decide) c]

/-! ## Points-to facts of the buffers, by slot -/

def xP (c : Dev nD) (S : Finset S4x128x4096.Idx) (q : PosShare TreeShare) (f : (cc0_scratch1 : Ref sig .tc).ty.Contents (Elt F)) : sProp 𝕄 :=
  ((c : Thread nD τ).loc cc0_scratch1) ↦[S]{q} f
def gP (c : Dev nD) (S : Finset S4x128x2048.Idx) (f : (cc0_scratch2 : Ref sig .tc).ty.Contents (Elt F)) : sProp 𝕄 :=
  ((c : Thread nD τ).loc cc0_scratch2) ↦[S]{fullShare} f
def rP (c : Dev nD) (S : Finset S4x7x128x256.Idx) (f : (cc0_scratch3 : Ref sig .tc).ty.Contents (Elt F)) : sProp 𝕄 :=
  ((c : Thread nD τ).loc cc0_scratch3) ↦[S]{fullShare} f

instance xP_storable (c : Dev nD) (S q f) : BI.Storable (upEmb : UEmb _ 𝕄) (xP (F := F) c S q f) := by unfold xP; infer_instance
instance gP_storable (c : Dev nD) (S f) : BI.Storable (upEmb : UEmb _ 𝕄) (gP (F := F) c S f) := by unfold gP; infer_instance
instance rP_storable (c : Dev nD) (S f) : BI.Storable (upEmb : UEmb _ 𝕄) (rP (F := F) c S f) := by unfold rP; infer_instance

/-- The shares of a device's own slot: one kept, three lent. -/
def qs : ℕ → PosShare TreeShare
  | 0 => fullShare.left
  | 1 => fullShare.right.left
  | 2 => fullShare.right.right.left
  | _ => fullShare.right.right.right

/-- The second operand's columns while the local transfer reads them. -/
def wsl (c : Dev nD) : sProp 𝕄 := ((c : Thread nD τ).loc main_arg1) ↦[(wV c).view.set]{fullShare} (m ((c : Thread nD τ).loc main_arg1))
def wbP (c : Dev nD) (f : (cc0_scratch0 : Ref sig .tc).ty.Contents (Elt F)) : sProp 𝕄 := ((c : Thread nD τ).loc cc0_scratch0) ↦{fullShare} f
instance wsl_storable (c : Dev nD) : BI.Storable (upEmb : UEmb _ 𝕄) (wsl (F := F) m c) := by unfold wsl; infer_instance
instance wbP_storable (c : Dev nD) (f) : BI.Storable (upEmb : UEmb _ 𝕄) (wbP (F := F) c f) := by unfold wbP; infer_instance

/-! ## Payloads -/

/-- What the `j`-th peer's signal hands a device: its own slot of that peer's gathered blocks, or the four slots of that
    peer's received pieces the device fills. -/
def barPay (c : Dev nD) (j : ℕ) : sProp 𝕄 :=
  if j < 3 then iprop(∃ f, xP (pe j c) (xset (zz c 0)) fullShare f)
  else bigSep (Finset.range 4) fun zo => iprop(∃ f, rP (pe j c) (rset (zz c zo) (j - 3)) f)
def ldPay (c : Dev nD) : sProp 𝕄 := iprop(wbP c (WB m c) ∗ wsl m c)
def p1sPay (c : Dev nD) (i : ℕ) : sProp 𝕄 := xP c (xset (zz c 0)) (qs (i + 1)) (XG m c)
def p1rPay (c : Dev nD) (z : ℕ) : sProp 𝕄 := xP c (xset z) fullShare (XG m c)
def p2sPay (c : Dev nD) (z d : ℕ) : sProp 𝕄 := gP c (gset z (kk c (d + 1))) (STG m c)
def p2rPay (c : Dev nD) (z d : ℕ) : sProp 𝕄 := rP c (rset z d) (RST m c)

def dmaPay (c : Dev nD) (n : ℕ) : sProp 𝕄 :=
  if n < 5 then ldPay m c else if n < 8 then p1sPay m c (n - 5) else if n < 12 then p1rPay m c (n - 8)
  else if n < 40 then p2sPay m c ((n - 12) / 7) ((n - 12) % 7) else p2rPay m c ((n - 40) / 7) ((n - 40) % 7)
def dmaAmt (n : ℕ) : ℕ := if n < 5 then NL else if n < 12 then NX else NS
def pay (c : Dev nD) (s : SemLoc sig) (d : ℕ) : sProp 𝕄 := match s with
  | .reg i => if i.val = 0 then barPay c d else iprop(emp)
  | .dma q => dmaPay m c q.val
def amt (s : SemLoc sig) : ℕ := match s with
  | .reg _ => 1
  | .dma q => dmaAmt q.val
def dut (c : Dev nD) (s : SemLoc sig) : Finset ℕ := match s with
  | .reg _ => Finset.range 10
  | .dma q => if q.val < 4 ∨ q.val = 8 + zz c 0 then ∅ else {0}

/-- Every transfer's amount is positive. -/
theorem dmaAmt_pos (n : ℕ) : 0 < dmaAmt n := by
  unfold dmaAmt; split
  · exact NL_pos
  · split
    · exact NX_pos
    · exact NS_pos
/-- Every semaphore's amount is positive. -/
theorem amt_pos (s : SemLoc sig) : 0 < amt s := by cases s <;> [exact Nat.one_pos; exact dmaAmt_pos _]

instance barPay_storable (c : Dev nD) (j) : BI.Storable (upEmb : UEmb _ 𝕄) (barPay (F := F) c j) := by unfold barPay; split <;> infer_instance
instance dmaPay_storable (c : Dev nD) (n) : BI.Storable (upEmb : UEmb _ 𝕄) (dmaPay (F := F) m c n) := by
  unfold dmaPay ldPay p1sPay p1rPay p2sPay p2rPay; (repeat' split) <;> infer_instance
instance pay_storable (c : Dev nD) (s d) : BI.Storable (upEmb : UEmb _ 𝕄) (pay (F := F) m c s d) := by
  cases s with
  | reg i => show BI.Storable upEmb (if i.val = 0 then barPay c d else iprop(emp)); split <;> infer_instance
  | dma q => exact dmaPay_storable m c q.val

/-- One round of every semaphore. -/
def Rd : Rounds.Schedule (GSem nD τ sig) ℕ 𝕄 where
  duties g r := if r = 0 ∧ g.1.2 = .tc then dut g.1.1 g.2 else ∅
  unitless _ := False
  amount g _ _ := amt g.2
  payload g _ d := pay m g.1.1 g.2 d
  amount_pos g _ _ _ := amt_pos g.2

instance Rd_storable (g : GSem nD τ sig) (r d : ℕ) : BI.Storable (upEmb : UEmb _ 𝕄) ((Rd (F := F) m).payload g r d) := pay_storable m g.1.1 g.2 d

/-! ## The semaphores -/

/-- Device `c`'s transfer semaphore `n`, and its counting semaphore `i` (0 at entry, 1 at exit). -/
abbrev dc (c : Dev nD) (n : ℕ) : GSem nD τ sig := ((c : Thread nD τ), .dma (ds n))
abbrev rc (c : Dev nD) (i : Fin 2) : GSem nD τ sig := ((c : Thread nD τ), .reg i)

/-- The number of a transfer semaphore. -/
theorem ds_val (n : ℕ) (h : n < 68) : (ds n).val = n := by unfold ds; rw [dif_pos h]

/-- The duties of a main thread's semaphore in its one round. -/
theorem duties_tc (c : Dev nD) (s : SemLoc sig) : (Rd (F := F) m).duties ((c : Thread nD τ), s) 0 = dut c s := by
  dsimp only [Rd]; exact if_pos ⟨rfl, rfl⟩
/-- A barrier's semaphore has ten duties. -/
theorem duties_reg (c : Dev nD) (i : Fin 2) : (Rd (F := F) m).duties (rc c i) 0 = Finset.range 10 := duties_tc m c _
/-- A transfer's semaphore has one duty. -/
theorem duties_dma (c : Dev nD) (n : ℕ) (h4 : 4 ≤ n) (h : n < 68) (hn : n ≠ 8 + zz c 0) : (Rd (F := F) m).duties (dc c n) 0 = {0} := by
  refine (duties_tc m c _).trans ?_
  show (if (ds n).val < 4 ∨ (ds n).val = 8 + zz c 0 then (∅ : Finset ℕ) else {0}) = {0}
  rw [ds_val n h, if_neg (by omega)]
/-- No semaphore has duties after its one round. -/
theorem duties_later (g : GSem nD τ sig) : ∀ r, 1 ≤ r → (Rd (F := F) m).duties g r = ∅ := fun r hr => if_neg (by omega)
/-- The received-block semaphore of the device's own plane never has duties. -/
theorem duties_off (c : Dev nD) : ∀ r, 0 ≤ r → (Rd (F := F) m).duties (dc c (8 + zz c 0)) r = ∅ := fun r _ => by
  by_cases h : r = 0
  · subst h; refine (duties_tc m c _).trans ?_
    have := zz_lt c 0
    show (if (ds (8 + zz c 0)).val < 4 ∨ (ds (8 + zz c 0)).val = 8 + zz c 0 then (∅ : Finset ℕ) else {0}) = ∅
    rw [ds_val _ (by omega), if_pos (.inr rfl)]
  · exact duties_later m _ r (by omega)

/-- A barrier's signal is of amount one. -/
theorem amount_reg (c : Dev nD) (i : Fin 2) (d : ℕ) : (Rd (F := F) m).amount (rc c i) 0 d = 1 := rfl
/-- A transfer's one duty is of its whole amount. -/
theorem amount_dma (c : Dev nD) (n : ℕ) (h : n < 68) (d : ℕ) : (Rd (F := F) m).amount (dc c n) 0 d = dmaAmt n := by
  show dmaAmt (ds n).val = _; rw [ds_val n h]
/-- A barrier's wait takes ten. -/
theorem expect_reg (c : Dev nD) (i : Fin 2) : (Rd (F := F) m).expect (rc c i) 0 = 10 := by
  unfold Schedule.expect Schedule.amountOf
  rw [duties_reg, Finset.sum_congr rfl fun d _ => amount_reg m c i d, Finset.sum_const, Finset.card_range, smul_eq_mul]
/-- A transfer's wait takes its whole amount. -/
theorem expect_dma (c : Dev nD) (n : ℕ) (h4 : 4 ≤ n) (h : n < 68) (hn : n ≠ 8 + zz c 0) : (Rd (F := F) m).expect (dc c n) 0 = dmaAmt n := by
  unfold Schedule.expect Schedule.amountOf; rw [duties_dma m c n h4 h hn, Finset.sum_singleton, amount_dma m c n h]
/-- What an entry signal hands over. -/
theorem payload_bar (c : Dev nD) (d : ℕ) : (Rd (F := F) m).payload (rc c 0) 0 d = barPay c d := by
  show (if (0 : Fin 2).val = 0 then barPay c d else iprop(emp)) = _; exact if_pos rfl
/-- An exit signal hands nothing over. -/
theorem payload_exit (c : Dev nD) (d : ℕ) : (Rd (F := F) m).payload (rc c 1) 0 d = iprop(emp) := by
  show (if (1 : Fin 2).val = 0 then barPay c d else iprop(emp)) = _; exact if_neg (by decide)
/-- What a transfer's end hands over. -/
theorem payload_dma (c : Dev nD) (n : ℕ) (h : n < 68) (d : ℕ) : (Rd (F := F) m).payload (dc c n) 0 d = dmaPay m c n := by
  show dmaPay m c (ds n).val = _; rw [ds_val n h]
/-- What a wait for a transfer receives. -/
theorem rest_dma (c : Dev nD) (n : ℕ) (h4 : 4 ≤ n) (h : n < 68) (hn : n ≠ 8 + zz c 0) :
    bigSep ((Rd (F := F) m).duties (dc c n) 0 \ ∅) (fun d => (Rd (F := F) m).payload (dc c n) 0 d) = dmaPay m c n := by
  rw [Finset.sdiff_empty, duties_dma m c n h4 h hn, bigSep_singleton, payload_dma m c n h]
/-- What the entry wait receives. -/
theorem rest_bar (c : Dev nD) :
    bigSep ((Rd (F := F) m).duties (rc c 0) 0 \ ∅) (fun d => (Rd (F := F) m).payload (rc c 0) 0 d) = bigSep (Finset.range 10) (barPay c) := by
  rw [Finset.sdiff_empty, duties_reg]; exact bigSep_congr fun d _ => payload_bar m c d

/-- What the end of the second operand's load hands over. -/
theorem dmaPay_ld (c : Dev nD) : dmaPay (F := F) m c 4 = ldPay m c := if_pos (by decide)
/-- What a block's having been sent hands over. -/
theorem dmaPay_p1s (c : Dev nD) (i : ℕ) (h : i < 3) : dmaPay (F := F) m c (5 + i) = p1sPay m c i := by
  unfold dmaPay; rw [if_neg (by omega), if_pos (by omega), show 5 + i - 5 = i by omega]
/-- What a block's arrival hands over. -/
theorem dmaPay_p1r (c : Dev nD) (z : ℕ) (h : z < 4) : dmaPay (F := F) m c (8 + z) = p1rPay m c z := by
  unfold dmaPay; rw [if_neg (by omega), if_neg (by omega), if_pos (by omega), show 8 + z - 8 = z by omega]
/-- What a piece's having been sent hands over. -/
theorem dmaPay_p2s (c : Dev nD) (z d : ℕ) (h : z < 4) (hd : d < 7) : dmaPay (F := F) m c (12 + (z * 7 + d)) = p2sPay m c z d := by
  unfold dmaPay; rw [if_neg (by omega), if_neg (by omega), if_neg (by omega), if_pos (by omega), show (12 + (z * 7 + d) - 12) / 7 = z by omega,
    show (12 + (z * 7 + d) - 12) % 7 = d by omega]
/-- What a piece's arrival hands over. -/
theorem dmaPay_p2r (c : Dev nD) (z d : ℕ) (h : z < 4) (hd : d < 7) : dmaPay (F := F) m c (40 + (z * 7 + d)) = p2rPay m c z d := by
  unfold dmaPay; rw [if_neg (by omega), if_neg (by omega), if_neg (by omega), if_neg (by omega), show (40 + (z * 7 + d) - 40) / 7 = z by omega,
    show (40 + (z * 7 + d) - 40) % 7 = d by omega]
/-- The amount of a block's transfer. -/
theorem dmaAmt_X (n : ℕ) (h : 5 ≤ n) (h' : n < 12) : dmaAmt n = NX := by unfold dmaAmt; rw [if_neg (by omega), if_pos h']
/-- The amount of a piece's transfer. -/
theorem dmaAmt_S (n : ℕ) (h : 12 ≤ n) : dmaAmt n = NS := by unfold dmaAmt; rw [if_neg (by omega), if_neg (by omega)]

/-! ## What a device owes -/

/-- The `j`-th payment from the last: ten at exit, twenty-eight pieces, three blocks, ten at entry. -/
def lcD (c : Dev nD) (j : ℕ) : Dev nD :=
  if j < 10 then pe (9 - j) c else if j < 38 then psh ((37 - j) % 7 + 1) c else if j < 41 then zsh (41 - j) c else pe (50 - j) c
def lcS (c : Dev nD) (j : ℕ) : SemLoc sig :=
  if j < 10 then .reg 1 else if j < 38 then .dma (ds (40 + (zz c ((37 - j) / 7) * 7 + (37 - j) % 7))) else if j < 41 then .dma (ds (8 + zz c 0)) else .reg 0
def lc (c : Dev nD) (j : ℕ) : GSem nD τ sig := ((lcD c j : Thread nD τ), lcS c j)
def Od (c : Dev nD) : ℕ → CellTallies nD τ sig Unit
  | 0 => 0
  | j + 1 => Od c j + tallyAt (lc c j) () (amt (lcS c j))

/-- The levels: staging, sends and the local transfer at 0, entry at 1, blocks at 2, pieces at 3, exit at 4. -/
def lvS (s : SemLoc sig) : ℕ := match s with
  | .reg i => if i.val = 0 then 1 else 4
  | .dma q => if q.val < 8 then 0 else if q.val < 12 then 2 else if q.val < 40 then 0 else 3
def lvl (j : ℕ) : ℕ := if j < 10 then 4 else if j < 38 then 3 else if j < 41 then 2 else 1
/-- The level of a transfer's semaphore, by its number. -/
theorem lvS_dma (n : ℕ) (h : n < 68) : lvS (.dma (ds n)) = if n < 8 then 0 else if n < 12 then 2 else if n < 40 then 0 else 3 := by
  show (if (ds n).val < 8 then _ else _) = _; rw [ds_val n h]
/-- The semaphore of the `j`-th payment is at that payment's level. -/
theorem lvS_lc (c : Dev nD) (j : ℕ) : lvS (lcS c j) = lvl j := by
  unfold lcS lvl
  split
  · rfl
  · split
    · have := zz_lt c ((37 - j) / 7)
      rw [lvS_dma _ (by omega), if_neg (by omega), if_neg (by omega), if_neg (by omega)]
    · split
      · have := zz_lt c 0
        rw [lvS_dma _ (by omega), if_neg (by omega), if_pos (by omega)]
      · rfl

def L (g : GSem nD τ sig) : Finset Unit := if g.1.2 = .tc then {()} else ∅
def lv (g : GSem nD τ sig) (_ : Unit) : ℕ := lvS g.2
/-- Only the devices' main threads have levels. -/
theorem L_of_ne (g : GSem nD τ sig) (h : g.1.2 ≠ .tc) : L g = ∅ := if_neg h
/-- A main thread's semaphores have one level each. -/
theorem L_tc (c : Dev nD) (sm : SemLoc sig) : L ((c : Thread nD τ), sm) = {()} := if_pos rfl

/-- What is owed to a semaphore is the sum over the payments to it. -/
theorem Od_apply (c : Dev nD) (g : GSem nD τ sig) (u : Unit) : ∀ j, Od c j g u = ∑ i ∈ Finset.range j, if lc c i = g then amt g.2 else 0
  | 0 => rfl
  | j + 1 => by
    rw [Finset.sum_range_succ, ← Od_apply c g u j]
    show (Od c j + tallyAt (lc c j) () (amt (lcS c j))) g u = _
    rw [Pi.add_apply, Finsupp.add_apply, tallyAt_apply]
    congr 1
    by_cases h : lc c j = g
    · subst h; rw [if_pos ⟨rfl, rfl⟩, if_pos rfl]; rfl
    · rw [if_neg (fun h' => h h'.1.symm), if_neg h]

/-- What is owed somewhere is owed by some payment. -/
theorem Od_pos {c : Dev nD} {g : GSem nD τ sig} {u : Unit} {j : ℕ} (h : 0 < Od c j g u) : ∃ i < j, g = lc c i := by
  rw [Od_apply] at h
  obtain ⟨i, hi, hp⟩ := Finset.exists_ne_zero_of_sum_ne_zero (Nat.pos_iff_ne_zero.mp h)
  refine ⟨i, Finset.mem_range.mp hi, ?_⟩
  by_contra hn
  exact hp (if_neg fun h' => hn h'.symm)

/-- A device may wait on a semaphore below everything it still owes. -/
theorem mayWait (c : Dev nD) (sm : SemLoc sig) (k j : ℕ) (hk : lvS sm ≤ k) (h : ∀ i < j, k < lvl i) :
    (levAts L lv : sProp 𝕄) ⊢ MayWait (c : Thread nD τ) sm () (Od c j) :=
  MayOwe.of_cut (L := L) (lev := lv) k (fun p hp => by rw [Finset.mem_singleton.mp hp, L_tc]; exact Finset.mem_singleton_self _)
    (fun g u hg => by obtain ⟨i, -, rfl⟩ := Od_pos hg; exact Finset.mem_singleton_self _)
    (fun p hp => by rw [Finset.mem_singleton.mp hp]; exact hk)
    (fun g u hg => by
      obtain ⟨i, hi, rfl⟩ := Od_pos hg
      show k < lvS (lcS c i); rw [lvS_lc]; exact h i hi)

end Cert.A2A
-- ==== Proof.Contents.lean ====
/-
# What loads return and what stores and transfers leave
-/
module

public import proofs.«01_k».proof.Proof.Sched

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents read and written through the windows -/

/-- What a write leaves on the elements it writes. -/
theorem write_on {Val : EltTy → Type} {κ : Kind} {sp : Space} {s : Shape} {e : EltTy}
    (v : View sig κ sp s e) (fd g : v.ty.Contents Val) (w : s.Idx → Val e) (h : ∀ x, w x = v.read Val g x) :
    ∀ i ∈ v.set, v.write Val fd w Finset.univ i = g i := by
  intro i hi
  obtain ⟨x, -, rfl⟩ := Finset.mem_map.mp hi
  rw [View.write_emb_of_mem _ _ (Finset.mem_univ x), h x]
  simp [View.read]

/-- A slot of the gathered blocks, loaded. -/
theorem xslot_read (c : Dev nD) (z : ℕ) (o : Fin 3 → ℕ) (h) (ho : o = ![z, 0, 0]) :
    (xM.access (Rect.unit (s := S4x128x4096) o S1x128x4096.size h)).read (Elt F) (XG m c) = xslot m c z := by
  subst ho
  funext (x : S1x128x4096.Idx)
  have h0 : (x 0).val = 0 := by have := (x 0).isLt; simp at this; omega
  show xslot m c (z + 1 * (x 0).val) (ix3 0 _ _) = xslot m c z x
  rw [h0]
  refine congrArg (xslot m c z) (funext fun a => Fin.ext ?_)
  fin_cases a
  · exact h0.symm
  · show 0 + 1 * (x 1).val = (x 1).val; omega
  · show 0 + 1 * (x 2).val = (x 2).val; omega

/-- A slot of the partial products, stored. -/
theorem stg_write (c : Dev nD) (z : ℕ) (o : Fin 3 → ℕ) (h) (ho : o = ![z, 0, 0]) (fd) :
    ∀ i ∈ gslot z, (gM.access (Rect.unit (s := S4x128x2048) o S1x128x2048.size h)).write (Elt F) fd (STGv m c z) Finset.univ i = STG m c i := by
  have e : (gM.access (Rect.unit (s := S4x128x2048) o S1x128x2048.size h)).set = gslot z := (View.set_slice_whole _ _).trans (gslot_rect_set z o h ho)
  rw [← e]
  refine write_on (gM.access (Rect.unit (s := S4x128x2048) o S1x128x2048.size h)) fd (STG m c) (STGv m c z) fun (x : S1x128x2048.Idx) => ?_
  subst ho
  have h0 : (x 0).val = 0 := by have := (x 0).isLt; simp at this; omega
  show STGv m c z x = STGv m c (z + 1 * (x 0).val) (ix3 0 _ _)
  rw [h0]
  refine congrArg (STGv m c z) (funext fun a => Fin.ext ?_)
  fin_cases a
  · exact h0
  · show (x 1).val = 0 + 1 * (x 1).val; omega
  · show (x 2).val = 0 + 1 * (x 2).val; omega

/-- A device's own piece of a partial product, loaded. -/
theorem own_read (c : Dev nD) (zo : ℕ) (hz : zo < 4) (o : Fin 3 → ℕ) (h) (ho : o = ![zz c zo, 0, kk c 0 * 256]) :
    (gM.access (Rect.unit (s := S4x128x2048) o S1x128x256.size h)).read (Elt F) (STG m c) = blkv m c (zz c zo * 8 + kk c 0) := by
  subst ho
  funext (x : S1x128x256.Idx)
  have h0 : (x 0).val = 0 := by have := (x 0).isLt; simp at this; omega
  have hk := kk_lt c 0; have hz' := zz_lt c zo
  show STG m c _ = STG m (devAt (zz c 0) ((zz c zo * 8 + kk c 0) % 8)) _
  rw [show (zz c zo * 8 + kk c 0) % 8 = kk c 0 by omega, devAt_self]
  refine congrArg (STG m c) (funext fun a => Fin.ext ?_)
  fin_cases a
  · show zz c zo + 1 * (x 0).val = (zz c zo * 8 + kk c 0) / 8 % 4; omega
  · show 0 + 1 * (x 1).val = (x 1).val; omega
  · show kk c 0 * 256 + 1 * (x 2).val = kk c 0 * 256 + (x 2).val; omega

/-- A received piece, loaded. -/
theorem recv_read (c : Dev nD) (z d : ℕ) (hz : z < 4) (hd : d < 7) (o : Fin 4 → ℕ) (h) (ho : o = ![z, d, 0, 0]) (a : Fin 128) (b : Fin 256) :
    (rM.access (Rect.unit (s := S4x7x128x256) o S1x1x128x256.size h)).read (Elt F) (RST m c) (ix4 0 0 a b)
      = blkv m c (z * 8 + kk c (7 - d)) (ix3 0 a b) := by
  subst ho
  have hk := kk_lt c (7 - d)
  show STG m (psh (7 - (d + 1 * 0)) c) _ = STG m (devAt (zz c 0) ((z * 8 + kk c (7 - d)) % 8)) _
  rw [show (z * 8 + kk c (7 - d)) % 8 = kk c (7 - d) by omega, show d + 1 * 0 = d by omega]
  refine congrArg (STG m (psh (7 - d) c)) (funext fun e => Fin.ext ?_)
  fin_cases e
  · show z + 1 * 0 = (z * 8 + kk c (7 - d)) / 8 % 4; omega
  · show 0 + 1 * a.val = a.val; omega
  · show kk c 0 * 256 + (0 + 1 * b.val) = kk c 0 * 256 + b.val; omega

/-- What a transfer of a block lands. -/
theorem xg_land (c : Dev nD) (i : ℕ) (hi : i < 4) (o h hq) (o' h' hq') (ho : o = o') (fd) :
    ∀ j ∈ (xV o h hq).view.set, (xV o h hq).view.write (Elt F) fd ((xV o' h' hq').view.read (Elt F) (XG m c)) Finset.univ j = XG m (zsh i c) j := by
  subst ho
  exact write_read_on _ _ fd _ _ fun x => by rw [XG_zsh m i hi c]

/-- What a transfer of a piece lands. -/
theorem st_land (c : Dev nD) (z d : ℕ) (hz : z < 4) (hd : d < 7) (o h hq) (o' h' hq') (ho : o = ![z, d, 0, 0]) (ho' : o' = ![z, 0, kk c (d + 1) * 256]) (fd) :
    ∀ j ∈ (rV o h hq).view.set, (rV o h hq).view.write (Elt F) fd ((gV o' h' hq').view.read (Elt F) (STG m c)) Finset.univ j = RST m (psh (d + 1) c) j := by
  refine write_read_on _ _ fd _ _ fun (x : S128x256.Idx) => ?_
  obtain ⟨a, b, rfl⟩ : ∃ (a : Fin 128) (b : Fin 256), x = ix2 a b := ⟨x 0, x 1, eq_ix2 x⟩
  show RST m (psh (d + 1) c) ((rV o h hq).view.emb (ix2 a b)) = STG m c ((gV o' h' hq').view.emb (ix2 a b))
  rw [rV_emb z d o h hq ho hz hd, gV_emb z (kk c (d + 1)) o' h' hq' ho' hz (kk_lt c (d + 1))]
  show STG m (psh (7 - d) (psh (d + 1) c)) _ = _
  rw [psh_opp d hd c]
  refine congrArg (STG m c) (funext fun e => Fin.ext ?_)
  fin_cases e
  · rfl
  · rfl
  · show kk (psh (d + 1) c) 0 * 256 + b.val = kk c (d + 1) * 256 + b.val
    rw [kk_psh (d + 1) (by omega) 0 (by decide) c]

end Cert.A2A
-- ==== Proof.Rules.lean ====
/-
# One rule per kind of operation

The records every device holds of every semaphore, and what a signal, a wait and a transfer do to what a device holds and
owes.
-/
module

public import proofs.«01_k».proof.Proof.Sched

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ := Variants.none

variable (m : (ℓ : Loc nD τ sig) → Buf (Elt F) ℓ)

/-! ## Families -/

/-- The first member of what is left to do. -/
theorem todo_head {a n : ℕ} (h : a < n) (f : ℕ → sProp 𝕄) :
    bigSep (Finset.Ico a n) f = iprop(f a ∗ bigSep (Finset.Ico (a + 1) n) f) := by
  rw [show Finset.Ico a n = insert a (Finset.Ico (a + 1) n) by ext x; simp only [Finset.mem_Ico, Finset.mem_insert]; omega, BI.bigSep_insert (by simp)]; rfl
/-- One more member is done. -/
theorem done_last (n : ℕ) (f : ℕ → sProp 𝕄) :
    bigSep (Finset.range (n + 1)) f = iprop(f n ∗ bigSep (Finset.range n) f) := by
  rw [Finset.range_add_one, BI.bigSep_insert (by simp)]; rfl
/-- Nothing is left to do at the end. -/
theorem todo_nil {n : ℕ} (f : ℕ → sProp 𝕄) : bigSep (Finset.Ico n n) f = iprop(emp) := by rw [Finset.Ico_self]; exact BI.bigSep_empty
/-- Nothing is done at the start. -/
theorem done_nil (f : ℕ → sProp 𝕄) : bigSep (Finset.range 0) f = iprop(emp) := by rw [Finset.range_zero]; exact BI.bigSep_empty
/-- All is left to do at the start. -/
theorem todo_all (n : ℕ) (f : ℕ → sProp 𝕄) : bigSep (Finset.Ico 0 n) f = bigSep (Finset.range n) f := by rw [Finset.range_eq_Ico]

/-! ## Records -/

/-- The semaphores the protocol tracks on each device. -/
def csem (k : Fin 66) : SemLoc sig := if h : k.val < 2 then .reg (⟨k.val, h⟩ : Fin 2) else .dma (ds (k.val + 2))
def kcell (p : Dev nD × Fin 66) : GSem nD τ sig := ((p.1 : Thread nD τ), csem p.2)
/-- The barriers' semaphores are among those listed. -/
theorem csem_reg (i : Fin 2) : ∃ k, csem k = .reg i := ⟨⟨i.val, by omega⟩, dif_pos i.isLt⟩
/-- The transfers' semaphores are among those listed. -/
theorem csem_dma (n : ℕ) (h4 : 4 ≤ n) (h : n < 68) : ∃ k, csem k = .dma (ds n) := by
  refine ⟨⟨n - 2, by omega⟩, (dif_neg (by simp only; omega)).trans ?_⟩
  simp only [show n - 2 + 2 = n by omega]

/-- Every semaphore of every device is under its schedule and at its first round; every level is known. -/
def Rec : sProp 𝕄 :=
  iprop((bigSep Finset.univ fun p : Dev nD × Fin 66 => iprop(∃ κ, cellInv ER (Rd m) κ (kcell p)))
    ∗ (bigSep Finset.univ fun p : Dev nD × Fin 66 => reached ER (kcell p) 0) ∗ levAts L lv)
instance Rec_persistent : Persistent (Rec (F := F) m) := by unfold Rec; infer_instance

/-- One semaphore's record, out of all. -/
theorem rec_get (c : Dev nD) (s : SemLoc sig) (hs : ∃ k, csem k = s) :
    Rec (F := F) m ⊢ iprop((∃ κ, cellInv ER (Rd m) κ ((c : Thread nD τ), s)) ∗ reached ER ((c : Thread nD τ), s) 0 ∗ levAts L lv) := by
  obtain ⟨k, rfl⟩ := hs
  have h₁ : (bigSep Finset.univ fun p : Dev nD × Fin 66 => iprop(∃ κ, cellInv ER (Rd (F := F) m) κ (kcell p)))
      ⊢ iprop(∃ κ, cellInv ER (Rd (F := F) m) κ (kcell (c, k))) := bigSep_elim (Finset.mem_univ (c, k))
  have h₂ : (bigSep Finset.univ fun p : Dev nD × Fin 66 => (reached ER (kcell p) 0 : sProp 𝕄)) ⊢ reached ER (kcell (c, k)) 0 :=
    bigSep_elim (Finset.mem_univ (c, k))
  unfold Rec
  iintro ⟨#HI, #Hr, #Hl⟩
  ihave #H := h₁ $$ HI
  ihave #H' := h₂ $$ Hr
  isplitr; · iexact H
  isplitr; · iexact H'
  iexact Hl

/-- What device `c` owes after all but its last `j` payments. -/
def ow (c : Dev nD) (j : ℕ) : sProp 𝕄 := iprop(∃ W, owes (c : Thread nD τ) (Od c j) W)

/-- Owing one payment more. -/
theorem Od_succ {c c' : Dev nD} {j : ℕ} {s : SemLoc sig} (h : lc c j = ((c' : Thread nD τ), s)) :
    Od c (j + 1) = Od c j + tallyAt ((c' : Thread nD τ), s) () (amt s) := by
  have h2 : lcS c j = s := congrArg Prod.snd h
  show Od c j + tallyAt (lc c j) () (amt (lcS c j)) = _
  rw [h, h2]

/-! ## Rules -/

/-- A signal. -/
theorem sig_rule {α : Type} {Q : α → sProp 𝕄} {k : PUnit → Prog (TpuEff nD τ sig (Elt F) Λ₀ .tc) α}
    (c c' : Dev nD) (j : ℕ) (i : Fin 2) (d : ℕ) (hl : lc c j = rc c' i) (hd : d < 10) :
    iprop(Rec m ∗ ow c (j + 1) ∗ dutyTok ER (rc c' i) 0 d ∗ (Rd m).payload (rc c' i) 0 d)
      ⊢ iprop((ow c j -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) i 1) k) Q) := by
  unfold ow
  iintro ⟨#HR, ⟨%W, HO⟩, Ht, Hp⟩ Hk
  ihave ⟨⟨%κ, #HI⟩, #Hr, -⟩ := (rec_get m c' (.reg i) (csem_reg i)) $$ HR
  iapply (Rounds.wp_signal 𝒱₀ ER (Rd m) (c : Thread nD τ) none (dst := (c' : Thread nD τ)) (κ := κ) (d := d)
      (by rw [duties_reg]; exact Finset.mem_range.mpr hd) (amount_reg m c' i d) () (Od c j) (Od_succ hl)) $$ [HO Ht Hp]
  · isplitr; · iexact HI
    isplitl [HO]; · iexact HO
    isplitl [Ht]; · iexact Ht
    isplitl [Hp]; · iexact Hp
    iexact Hr
  iintro HO
  iapply Hk
  iexists W; iexact HO

/-- A wait for a whole round. -/
theorem wait_rule {α : Type} {Q : α → sProp 𝕄} {k : PUnit → Prog (TpuEff nD τ sig (Elt F) Λ₀ .tc) α}
    (c : Dev nD) (sm : SemLoc sig) (hs : ∃ k, csem k = sm) {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ sm k' K)
    (hk : k' = (Rd (F := F) m).expect ((c : Thread nD τ), sm) 0) (lev j : ℕ) (hlv : lvS sm ≤ lev) (h : ∀ i < j, lev < lvl i) :
    iprop(Rec m ∗ ow c j ∗ cred (tallyAt ((c : Thread nD τ), sm) () k') ∗ atPos ER ((c : Thread nD τ), sm) 0 ∅ 0)
      ⊢ iprop(((ow c j ∗ atPos ER ((c : Thread nD τ), sm) 1 ∅ 0
            ∗ bigSep ((Rd m).duties ((c : Thread nD τ), sm) 0 \ ∅) (fun d => (Rd m).payload ((c : Thread nD τ), sm) 0 d))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold ow
  iintro ⟨#HR, ⟨%W, HO⟩, Hc, Ha⟩ Hk
  ihave ⟨⟨%κ, #HI⟩, -, #Hl⟩ := (rec_get m c sm hs) $$ HR
  iapply (Rounds.wp_wait_rest_token 𝒱₀ ER (Rd m) (c : Thread nD τ) none (κ := κ) hw (Set.mem_univ _) () (O := Od c j) (W := W) (R := 0) (m := 0) (T := ∅)
      (by rw [Nat.zero_add, hk])) $$ [Hc HO Ha]
  · isplitr; · iexact HI
    isplitl [Hc]; · iexact Hc
    isplitl [HO]; · iexact HO
    isplitr; · iapply (mayWait c sm lev j hlv h) $$ Hl
    iexact Ha
  iintro ⟨HO, Ha, -, Hp⟩
  iapply Hk
  isplitl [HO]; · iexists _; iexact HO
  isplitl [Ha]; · iexact Ha
  iexact Hp

/-- A transfer to a peer. -/
theorem send_rule {α : Type} {Q : α → sProp 𝕄} {k : PUnit → Prog (TpuEff nD τ sig (Elt F) Λ₀ .tc) α}
    (c n c' : Dev nD) (hn : n = c') {sp sp' : Space} {s : Shape} {e : EltTy} {src : Memref sig .tc sp s e}
    {dst : Memref sig (Dev.tc n : Thread nD τ).2.kind sp' s e} {hsc : dst.view.ref.isScScratch = false}
    {hsrc : src.view.WordExact} {hdst : dst.view.WordExact} (sS sR : DmaSem sig)
    {hsem : DmaTarget.Typed sp (.dma sR) (.remote (Dev.tc n : Thread nD τ) dst (.dma sS) hsc)}
    (a b : ℕ) (ha : sS = ds a) (hb : sR = ds b) (ha4 : 4 ≤ a) (hb4 : 4 ≤ b) (ha' : a < 68) (hb' : b < 68) (han : a ≠ 8 + zz c 0) (hbn : b ≠ 8 + zz c' 0)
    (j N : ℕ) (hl : lc c j = dc c' b) (hN : dst.view.dmaCredit = N) (hNa : dmaAmt a = N) (hNb : dmaAmt b = N)
    {q : PosShare TreeShare} {fs : Buf (Elt F) (src.view.loc (c : Thread nD τ))} {fd : Buf (Elt F) (dst.view.loc (Dev.tc n : Thread nD τ))}
    (hp₁ : (src.view.loc (c : Thread nD τ) ↦[src.view.set]{q} fs) ⊢ dmaPay m c a)
    (hp₂ : (dst.view.loc (Dev.tc n : Thread nD τ) ↦[dst.view.set]{fullShare} (dst.view.write (Elt F) fd (src.view.read (Elt F) fs) Finset.univ)) ⊢ dmaPay m n b) :
    iprop(Rec m ∗ ow c (j + 1) ∗ (src.view.loc (c : Thread nD τ) ↦[src.view.set]{q} fs) ∗ (dst.view.loc (Dev.tc n : Thread nD τ) ↦[dst.view.set]{fullShare} fd)
        ∗ dutyTok ER (dc c a) 0 0 ∗ dutyTok ER (dc c' b) 0 0)
      ⊢ iprop((ow c j ∗ cred (tallyAt (dc c a) () N) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma sS) hsc) (.dma sR) hsrc hdst hsem) k) Q) := by
  subst hn ha hb
  unfold ow
  iintro ⟨#HR, ⟨%W, HO⟩, Hs, Hd, Ht, Ht'⟩ Hk
  ihave ⟨⟨%κ, #HI⟩, #Hr, -⟩ := (rec_get m c (.dma (ds a)) (csem_dma a ha4 ha')) $$ HR
  ihave ⟨⟨%κ', #HI'⟩, #Hr', -⟩ := (rec_get m n (.dma (ds b)) (csem_dma b hb4 hb')) $$ HR
  iapply (Rounds.wp_send_pointsTo 𝒱₀ ER (Rd m) (c : Thread nD τ) none (sS := .dma (ds a)) (sem := .dma (ds b)) (O₀ := Od c (j + 1)) (κ₁ := κ) (κ₂ := κ')
      (r₁ := 0) (r₂ := 0) (d₁ := 0) (d₂ := 0) (fd := fd)
      (by rw [duties_dma m c a ha4 ha' han]; exact Finset.mem_singleton_self _) (by rw [duties_dma m n b hb4 hb' hbn]; exact Finset.mem_singleton_self _)
      () () N hN ((amount_dma m c a ha' 0).trans hNa) ((amount_dma m n b hb' 0).trans hNb) (Od c j)
      (by rw [Od_succ hl]; congr 2; show dmaAmt (ds b).val = N; rw [ds_val b hb']; exact hNb) (W := W)
      (by rw [payload_dma m c a ha']; exact hp₁)
      (by rw [payload_dma m n b hb']; exact hp₂)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

end Cert.A2A
-- ==== Proof.Steps.lean ====
/-
# What a device holds, and what each step does to it
-/
module

public import proofs.«01_k».proof.Proof.Contents
public import proofs.«01_k».proof.Proof.Rules

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The weakest precondition of a program of device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The order of a device's payments -/

/-- The last ten payments are the exit signals. -/
theorem lc_exit (c : Dev nD) (b j : ℕ) (hj : j + b = 9) : lc c j = rc (pe b c) 1 := by
  unfold lc lcD lcS; rw [if_pos (by omega), if_pos (by omega), show 9 - j = b by omega]
/-- The twenty-eight payments before them are the pieces. -/
theorem lc_p2 (c : Dev nD) (q j : ℕ) (hj : j + q = 37) (hq : q < 28) :
    lc c j = dc (psh (q % 7 + 1) c) (40 + (zz c (q / 7) * 7 + q % 7)) := by
  unfold lc lcD lcS; rw [if_neg (by omega), if_pos (by omega), if_neg (by omega), if_pos (by omega), show 37 - j = q by omega]
/-- The three payments before those are the blocks. -/
theorem lc_p1 (c : Dev nD) (i j : ℕ) (hj : j + i = 40) (hi : i < 3) : lc c j = dc (zsh (i + 1) c) (8 + zz c 0) := by
  unfold lc lcD lcS
  rw [if_neg (by omega), if_neg (by omega), if_pos (by omega), if_neg (by omega), if_neg (by omega), if_pos (by omega), show 41 - j = i + 1 by omega]
/-- The first ten payments are the entry signals. -/
theorem lc_bar (c : Dev nD) (b j : ℕ) (hj : j + b = 50) (hb : b < 10) : lc c j = rc (pe b c) 0 := by
  unfold lc lcD lcS
  rw [if_neg (by omega), if_neg (by omega), if_neg (by omega), if_neg (by omega), if_neg (by omega), if_neg (by omega), show 50 - j = b by omega]

/-! ## What a device holds, family by family -/

/-- For the `i`-th entry signal: its ticket and what it hands over. -/
def BS (c : Dev nD) (i : ℕ) : sProp 𝕄 := iprop(dutyTok ER (rc (pe i c) 0) 0 (opp i) ∗ barPay (pe i c) (opp i))
/-- For the `i`-th block transfer: a share of the own slot, the peer's slot and the two tickets. -/
def P1S (c : Dev nD) (i : ℕ) : sProp 𝕄 :=
  iprop(xP c (xset (zz c 0)) (qs (i + 1)) (XG m c) ∗ (∃ f, xP (zsh (i + 1) c) (xset (zz c 0)) fullShare f)
    ∗ dutyTok ER (dc c (5 + i)) 0 0 ∗ dutyTok ER (dc (zsh (i + 1) c) (8 + zz c 0)) 0 0)
def P1W (c : Dev nD) (i : ℕ) : sProp 𝕄 := cred (tallyAt (dc c (5 + i)) () NX)
/-- The `i`-th block's arrival, awaited and come. -/
def R1 (c : Dev nD) (i : ℕ) : sProp 𝕄 :=
  iprop(cred (tallyAt (dc c (8 + zz c (i + 1))) () NX) ∗ atPos ER (dc c (8 + zz c (i + 1))) 0 ∅ 0)
def R1D (c : Dev nD) (i : ℕ) : sProp 𝕄 :=
  iprop(xP c (xset (zz c (i + 1))) fullShare (XG m c) ∗ atPos ER (dc c (8 + zz c (i + 1))) 1 ∅ 0)
/-- A slot of the partial products before it is filled; its pieces after. -/
def STI (c : Dev nD) (i : ℕ) : sProp 𝕄 := iprop(∃ f, gP c (gslot (zz c i)) f)
def PC (c : Dev nD) (i d : ℕ) : sProp 𝕄 := gP c (gset (zz c i) (kk c (d + 1))) (STG m c)
def OP (c : Dev nD) (i : ℕ) : sProp 𝕄 := gP c (gset (zz c i) (kk c 0)) (STG m c)
/-- The semaphore's number, within its family, of the `q`-th piece. -/
def qn (c : Dev nD) (q : ℕ) : ℕ := zz c (q / 7) * 7 + q % 7
/-- A piece's number is below twenty-eight. -/
theorem qn_lt (c : Dev nD) (q : ℕ) : qn c q < 28 := by have := zz_lt c (q / 7); unfold qn; omega
/-- For the `q`-th piece's transfer: the peer's slot and the two tickets. -/
def P2S (c : Dev nD) (q : ℕ) : sProp 𝕄 :=
  iprop((∃ f, rP (psh (q % 7 + 1) c) (rset (zz c (q / 7)) (q % 7)) f)
    ∗ dutyTok ER (dc c (12 + qn c q)) 0 0 ∗ dutyTok ER (dc (psh (q % 7 + 1) c) (40 + qn c q)) 0 0)
def P2W (c : Dev nD) (q : ℕ) : sProp 𝕄 := cred (tallyAt (dc c (12 + qn c q)) () NS)
/-- The result's buffer, the row blocks of `D` filled. -/
def OUTs (c : Dev nD) (D : ℕ → Prop) : sProp 𝕄 :=
  iprop(∃ v : (cc0_stg3_0 : Ref sig .tc).ty.Contents (Elt F), (((c : Thread nD τ).loc cc0_stg3_0) ↦{fullShare} v)
    ∗ ⌜∀ i : S4096x256.Idx, D ((i 0).val / 128) → v i = OUT m c i⌝)
/-- The row blocks filled after `n` own pieces and `q` received ones. -/
def Dn (c : Dev nD) (n q D : ℕ) : Prop := (∃ i < n, D = zz c i * 8 + kk c 0) ∨ (∃ i < q, D = i / 7 * 8 + kk c (7 - i % 7))
/-- The staged scales. -/
def sxP (c : Dev nD) : sProp 𝕄 := ((c : Thread nD τ).loc cc0_stg1_0) ↦{fullShare} (sxstg m c)
def swP (c : Dev nD) : sProp 𝕄 := ((c : Thread nD τ).loc cc0_stg2_0) ↦{fullShare} (swstg m c)

/-- The local transfer, awaited and come. -/
def LW (c : Dev nD) : sProp 𝕄 := iprop(cred (tallyAt (dc c 4) () NL) ∗ atPos ER (dc c 4) 0 ∅ 0)
def LWD (c : Dev nD) : sProp 𝕄 := iprop(wbP c (WB m c) ∗ wsl m c ∗ atPos ER (dc c 4) 1 ∅ 0)

/-- What device `c` holds while it computes and sends: `j` payments to come, `p` blocks sent, `r` blocks received, `s` slots
    computed, `d` pieces of the last slot and `q` pieces in all sent, `n` own pieces stored; the second operand as `W` says. -/
def StB (c : Dev nD) (j p r s d q n : ℕ) (W R : sProp 𝕄) : sProp 𝕄 :=
  iprop(Rec m ∗ ow c j ∗ bigSep (Finset.Ico p 3) (P1S m c) ∗ bigSep (Finset.range p) (P1W (F := F) c)
    ∗ bigSep (Finset.Ico r 3) (R1 (F := F) c) ∗ bigSep (Finset.range r) (R1D m c)
    ∗ xP c (xset (zz c 0)) (qs 0) (XG m c)
    ∗ bigSep (Finset.Ico s 4) (STI (F := F) c) ∗ bigSep (Finset.range s) (OP m c) ∗ bigSep (Finset.Ico d 7) (PC m c (s - 1))
    ∗ bigSep (Finset.Ico q 28) (P2S (F := F) c) ∗ bigSep (Finset.range q) (P2W (F := F) c)
    ∗ OUTs m c (Dn c n 0) ∗ W ∗ sxP m c ∗ swP m c ∗ R)

/-! ## The two transfers -/

/-- A block's transfer. -/
theorem p1_rule {c t : Dev nD} {j p : ℕ} {α : Type} {Q : α → sProp 𝕄} {k : PUnit → Prog (TpuEff nD τ sig (Elt F) Λ₀ .tc) α} {o : Fin 3 → ℕ} {h hq} {sS sR : DmaSem sig}
    {hsc hsrc hdst hsem} (hp : p < 3) (hj : j + p = 40) (ht : t = zsh (p + 1) c) (ho : o = ![zz c 0, 0, 0]) (hS : sS = ds (5 + p)) (hR : sR = ds (8 + zz c 0))
    (f : (cc0_scratch1 : Ref sig .tc).ty.Contents (Elt F)) :
    iprop(Rec m ∗ ow c (j + 1) ∗ xP c (xset (zz c 0)) (qs (p + 1)) (XG m c) ∗ xP t (xset (zz c 0)) fullShare f
        ∗ dutyTok ER (dc c (5 + p)) 0 0 ∗ dutyTok ER (dc (zsh (p + 1) c) (8 + zz c 0)) 0 0)
      ⊢ iprop((ow c j ∗ cred (tallyAt (dc c (5 + p)) () NX) -∗ wpc c (k ⟨⟩) Q)
        -∗ wpc c (.op (.enqueueDma (xV o h hq) (.remote (Dev.tc t : Thread nD τ) (xV o h hq) (.dma sS) hsc) (.dma sR) hsrc hdst hsem) k) Q) := by
  have hz := zz_lt c 0
  have hn0 : zz c 0 ≠ zz (zsh (p + 1) c) 0 := by rw [zz_zsh (p + 1) (by omega) 0 (by decide)]; exact (zz_ne0 p hp c).symm
  unfold xP
  rw [← xV_set (zz c 0) o h hq ho]
  have h₁ : ((xV o h hq).view.loc (c : Thread nD τ) ↦[(xV o h hq).view.set]{qs (p + 1)} XG m c) ⊢ dmaPay m c (5 + p) := by
    rw [dmaPay_p1s m c p hp]; unfold p1sPay xP; rw [← xV_set (zz c 0) o h hq ho]
  have h₂ : ((xV o h hq).view.loc (Dev.tc t : Thread nD τ) ↦[(xV o h hq).view.set]{fullShare}
      (xV o h hq).view.write (Elt F) f ((xV o h hq).view.read (Elt F) (XG m c)) Finset.univ) ⊢ dmaPay m t (8 + zz c 0) := by
    subst ht
    rw [dmaPay_p1r m _ _ hz]; unfold p1rPay xP; rw [← xV_set (zz c 0) o h hq ho]
    exact Entails.of_eq (pointsTo_congr (xg_land m c (p + 1) (by omega) o h hq o h hq rfl f))
  have e := send_rule m c t (zsh (p + 1) c) ht (src := xV o h hq) (dst := xV o h hq) (hsc := hsc) (hsrc := hsrc) (hdst := hdst) sS sR (hsem := hsem) (Q := Q) (k := k)
    (5 + p) (8 + zz c 0) hS hR (by omega) (by omega) (by omega) (by omega) (by omega) (by omega) j NX
    (lc_p1 c p j hj hp) (NX_eq o h hq) (dmaAmt_X _ (by omega) (by omega)) (dmaAmt_X _ (by omega) (by omega)) (q := qs (p + 1)) (fs := XG m c) (fd := f) h₁ h₂
  exact e

/-- A piece's transfer. -/
theorem p2_rule {c t : Dev nD} {j q : ℕ} {α : Type} {Q : α → sProp 𝕄} {k : PUnit → Prog (TpuEff nD τ sig (Elt F) Λ₀ .tc) α} {o : Fin 4 → ℕ} {h hq} {o' : Fin 3 → ℕ} {h' hq'}
    {sS sR : DmaSem sig} {hsc hsrc hdst hsem} (hq28 : q < 28) (hj : j + q = 37) (ht : t = psh (q % 7 + 1) c) (ho : o = ![zz c (q / 7), q % 7, 0, 0])
    (ho' : o' = ![zz c (q / 7), 0, kk c (q % 7 + 1) * 256]) (hS : sS = ds (12 + qn c q)) (hR : sR = ds (40 + qn c q))
    (f : (cc0_scratch3 : Ref sig .tc).ty.Contents (Elt F)) :
    iprop(Rec m ∗ ow c (j + 1) ∗ PC m c (q / 7) (q % 7) ∗ rP t (rset (zz c (q / 7)) (q % 7)) f
        ∗ dutyTok ER (dc c (12 + qn c q)) 0 0 ∗ dutyTok ER (dc (psh (q % 7 + 1) c) (40 + qn c q)) 0 0)
      ⊢ iprop((ow c j ∗ cred (tallyAt (dc c (12 + qn c q)) () NS) -∗ wpc c (k ⟨⟩) Q)
        -∗ wpc c (.op (.enqueueDma (gV o' h' hq') (.remote (Dev.tc t : Thread nD τ) (rV o h hq) (.dma sS) hsc) (.dma sR) hsrc hdst hsem) k) Q) := by
  have hz := zz_lt c (q / 7); have hz0 := zz_lt c 0; have hqn := qn_lt c q
  have hd : q % 7 < 7 := Nat.mod_lt _ (by decide)
  have hz0' := zz_lt (psh (q % 7 + 1) c) 0
  unfold PC gP rP
  rw [← rV_set (zz c (q / 7)) (q % 7) o h hq ho, ← gV_set (zz c (q / 7)) (kk c (q % 7 + 1)) o' h' hq' ho']
  have h₁ : ((gV o' h' hq').view.loc (c : Thread nD τ) ↦[(gV o' h' hq').view.set]{fullShare} STG m c) ⊢ dmaPay m c (12 + qn c q) := by
    unfold qn; rw [dmaPay_p2s m c _ _ hz hd]; unfold p2sPay gP; rw [← gV_set (zz c (q / 7)) (kk c (q % 7 + 1)) o' h' hq' ho']
  have h₂ : ((rV o h hq).view.loc (Dev.tc t : Thread nD τ) ↦[(rV o h hq).view.set]{fullShare}
      (rV o h hq).view.write (Elt F) f ((gV o' h' hq').view.read (Elt F) (STG m c)) Finset.univ) ⊢ dmaPay m t (40 + qn c q) := by
    subst ht
    unfold qn; rw [dmaPay_p2r m _ _ _ hz hd]; unfold p2rPay rP; rw [← rV_set (zz c (q / 7)) (q % 7) o h hq ho]
    exact Entails.of_eq (pointsTo_congr (st_land m c _ _ hz hd o h hq o' h' hq' ho ho' f))
  have e := send_rule m c t (psh (q % 7 + 1) c) ht (src := gV o' h' hq') (dst := rV o h hq) (hsc := hsc) (hsrc := hsrc) (hdst := hdst) sS sR (hsem := hsem) (Q := Q) (k := k)
    (12 + qn c q) (40 + qn c q) hS hR (by omega) (by omega) (by omega) (by omega) (by omega) (by omega) j NS
    (lc_p2 c q j hj hq28) (NS_eq o h hq) (dmaAmt_S _ (by omega)) (dmaAmt_S _ (by omega)) (q := fullShare) (fs := STG m c) (fd := f) h₁ h₂
  exact e

/-! ## Steps -/

/-- A block's transfer, among all that is held. -/
theorem p1_step {c t : Dev nD} {j p r s d q n : ℕ} {W R : sProp 𝕄} {α : Type} {Q : α → sProp 𝕄} {k : PUnit → Prog (TpuEff nD τ sig (Elt F) Λ₀ .tc) α}
    {o : Fin 3 → ℕ} {h hq} {sS sR : DmaSem sig} {hsc hsrc hdst hsem}
    (hp : p < 3) (hj : j + p = 40) (ht : t = zsh (p + 1) c) (ho : o = ![zz c 0, 0, 0]) (hS : sS = ds (5 + p)) (hR : sR = ds (8 + zz c 0))
    (H : StB m c j (p + 1) r s d q n W R ⊢ wpc c (k ⟨⟩) Q) :
    StB m c (j + 1) p r s d q n W R
      ⊢ wpc c (.op (.enqueueDma (xV o h hq) (.remote (Dev.tc t : Thread nD τ) (xV o h hq) (.dma sS) hsc) (.dma sR) hsrc hdst hsem) k) Q := by
  unfold StB at H ⊢
  rw [todo_head hp]; rw [done_last p] at H
  iintro ⟨#HR, HO, ⟨HPS0, HPS⟩, HPW, HR1, HRD, Hown, HSI, HOP, HPC, HQS, HQW, Hout, HW, Hsx, Hsw, HZ⟩
  unfold P1S
  icases HPS0 with ⟨Hx, ⟨%f, Hd⟩, Ht, Ht'⟩
  ihave Hd := (Entails.of_eq (show xP (zsh (p + 1) c) (xset (zz c 0)) fullShare f = xP t (xset (zz c 0)) fullShare f by rw [ht])) $$ Hd
  iapply (p1_rule m hp hj ht ho hS hR f) $$ [HO Hx Hd Ht Ht']
  · iframe #; iframe HO Hx Hd Ht Ht'
  iintro ⟨HO, Hc⟩
  iapply H
  iframe #; iframe HO HPS HPW HR1 HRD Hown HSI HOP HPC HQS HQW Hout HW Hsx Hsw HZ
  unfold P1W; iexact Hc

/-- A piece's transfer, among all that is held. -/
theorem p2_step {c t : Dev nD} {j p r s d q n : ℕ} {W R : sProp 𝕄} {α : Type} {Q : α → sProp 𝕄} {k : PUnit → Prog (TpuEff nD τ sig (Elt F) Λ₀ .tc) α}
    {o : Fin 4 → ℕ} {h hq} {o' : Fin 3 → ℕ} {h' hq'} {sS sR : DmaSem sig} {hsc hsrc hdst hsem}
    (hq28 : q < 28) (hj : j + q = 37) (hqs : q / 7 = s - 1) (hqd : q % 7 = d) (ht : t = psh (q % 7 + 1) c) (ho : o = ![zz c (q / 7), q % 7, 0, 0])
    (ho' : o' = ![zz c (q / 7), 0, kk c (q % 7 + 1) * 256]) (hS : sS = ds (12 + qn c q)) (hR : sR = ds (40 + qn c q))
    (H : StB m c j p r s (d + 1) (q + 1) n W R ⊢ wpc c (k ⟨⟩) Q) :
    StB m c (j + 1) p r s d q n W R
      ⊢ wpc c (.op (.enqueueDma (gV o' h' hq') (.remote (Dev.tc t : Thread nD τ) (rV o h hq) (.dma sS) hsc) (.dma sR) hsrc hdst hsem) k) Q := by
  have hd7 : d < 7 := hqd ▸ Nat.mod_lt _ (by decide)
  unfold StB at H ⊢
  rw [todo_head hd7, todo_head hq28]; rw [done_last q] at H
  iintro ⟨#HR, HO, HPS, HPW, HR1, HRD, Hown, HSI, HOP, ⟨Hx, HPC⟩, ⟨HQS0, HQS⟩, HQW, Hout, HW, Hsx, Hsw, HZ⟩
  unfold P2S
  icases HQS0 with ⟨⟨%f, Hd⟩, Ht, Ht'⟩
  ihave Hd := (Entails.of_eq (show rP (psh (q % 7 + 1) c) (rset (zz c (q / 7)) (q % 7)) f = rP t (rset (zz c (q / 7)) (q % 7)) f by rw [ht])) $$ Hd
  ihave Hx := (Entails.of_eq (show PC m c (s - 1) d = PC m c (q / 7) (q % 7) by rw [hqs, hqd])) $$ Hx
  iapply (p2_rule m hq28 hj ht ho ho' hS hR f) $$ [HO Hx Hd Ht Ht']
  · iframe #; iframe HO Hx Hd Ht Ht'
  iintro ⟨HO, Hc⟩
  iapply H
  iframe #; iframe HO HPS HPW HR1 HRD Hown HSI HOP HPC HQS HQW Hout HW Hsx Hsw HZ
  unfold P2W; iexact Hc

/-- The wait for the local transfer. -/
theorem ldw_step {c : Dev nD} {j p r s d q n : ℕ} {W R : sProp 𝕄} {α : Type} {Q : α → sProp 𝕄} {k : PUnit → Prog (TpuEff nD τ sig (Elt F) Λ₀ .tc) α}
    {se : DmaSem sig} {sp : Space} {s' : Shape} {e : EltTy} {src : Memref sig .tc sp s' e} {hsrc hdst} (hS : se = ds 4) (hj : j ≤ 51)
    (H : StB m c j p r s d q n (LWD m c) R ⊢ wpc c (k ⟨⟩) Q) :
    StB m c j p r s d q n (LW c) R ⊢ wpc c (.op (.waitDma2 se src wbM hsrc hdst) k) Q := by
  subst hS
  unfold StB at H ⊢
  iintro ⟨#HR, HO, HPS, HPW, HR1, HRD, Hown, HSI, HOP, HPC, HQS, HQW, Hout, HW, Hsx, Hsw, HZ⟩
  unfold LW; rw [← NL_eq]
  icases HW with ⟨Hc, Ha⟩
  iapply (wait_rule m c (.dma (ds 4)) (csem_dma 4 (by omega) (by omega)) (w := .waitDma2 (ds 4) src wbM hsrc hdst) (wpE_waitDma2_eq 𝒱₀ (c : Thread nD τ) none Set.univ)
    (NL_eq.trans ((expect_dma m c 4 (by omega) (by omega) (by omega)).trans (if_pos (by decide))).symm) 0 j (by rw [lvS_dma 4 (by omega)]; decide)
    (fun i hi => by unfold lvl; split_ifs <;> omega)) $$ [HO Hc Ha]
  · iframe #; iframe HO Hc Ha
  iintro ⟨HO, Ha, Hp⟩
  ihave Hp := (Entails.of_eq ((rest_dma m c 4 (by omega) (by omega) (by omega)).trans (dmaPay_ld m c))) $$ Hp
  unfold ldPay
  icases Hp with ⟨Hwb, Hws⟩
  iapply H
  iframe #; iframe HO HPS HPW HR1 HRD Hown HSI HOP HPC HQS HQW Hout Hsx Hsw HZ
  unfold LWD
  iframe Hwb Hws Ha

/-- The wait for a block. -/
theorem r1_step {c : Dev nD} {j p r s d q n : ℕ} {W R : sProp 𝕄} {α : Type} {Q : α → sProp 𝕄} {k : PUnit → Prog (TpuEff nD τ sig (Elt F) Λ₀ .tc) α}
    {se : DmaSem sig} {o : Fin 3 → ℕ} {h hq} {sp : Space} {s' : Shape} {e : EltTy} {src : Memref sig .tc sp s' e} {hsrc hdst}
    (hr : r < 3) (hj : j ≤ 38) (hS : se = ds (8 + zz c (r + 1)))
    (H : StB m c j p (r + 1) s d q n W R ⊢ wpc c (k ⟨⟩) Q) :
    StB m c j p r s d q n W R ⊢ wpc c (.op (.waitDma2 se src (xV o h hq) hsrc hdst) k) Q := by
  subst hS
  have hz := zz_lt c (r + 1); have hne := zz_ne0 r hr c
  unfold StB at H ⊢
  rw [todo_head hr]; rw [done_last r] at H
  iintro ⟨#HR, HO, HPS, HPW, ⟨H1, HR1⟩, HRD, Hown, HSI, HOP, HPC, HQS, HQW, Hout, HW, Hsx, Hsw, HZ⟩
  ihave H1 := (Entails.of_eq (show R1 (F := F) c r = iprop(cred (tallyAt (dc c (8 + zz c (r + 1))) () (xV o h hq).view.dmaCredit) ∗ atPos ER (dc c (8 + zz c (r + 1))) 0 ∅ 0) by
    unfold R1; rw [NX_eq])) $$ H1
  icases H1 with ⟨Hc, Ha⟩
  iapply (wait_rule m c (.dma (ds (8 + zz c (r + 1)))) (csem_dma _ (by omega) (by omega)) (w := .waitDma2 (ds (8 + zz c (r + 1))) src (xV o h hq) hsrc hdst) (wpE_waitDma2_eq 𝒱₀ (c : Thread nD τ) none Set.univ)
    ((NX_eq o h hq).trans ((expect_dma m c _ (by omega) (by omega) (by omega)).trans (dmaAmt_X _ (by omega) (by omega))).symm) 2 j
    (by rw [lvS_dma _ (by omega), if_neg (by omega), if_pos (by omega)])
    (fun i hi => by unfold lvl; split_ifs <;> omega)) $$ [HO Hc Ha]
  · iframe #; iframe HO Hc Ha
  iintro ⟨HO, Ha, Hp⟩
  ihave Hp := (Entails.of_eq ((rest_dma m c _ (by omega) (by omega) (by omega)).trans (dmaPay_p1r m c _ hz))) $$ Hp
  iapply H
  iframe #; iframe HO HPS HPW HR1 HRD Hown HSI HOP HPC HQS HQW Hout HW Hsx Hsw HZ
  unfold R1D p1rPay
  iframe Hp Ha

end Cert.A2A
-- ==== Proof.Compute.lean ====
/-
# Loads and stores, among all that a device holds
-/
module

public import proofs.«01_k».proof.Proof.Steps

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cutting a slot of the partial products into its pieces -/

/-- The eight places counted from a device are different. -/
theorem kk_inj : ∀ i < 8, ∀ j < 8, ∀ c, kk c i = kk c j → i = j := by decide +kernel
/-- Every place is one of the eight counted from a device. -/
theorem kk_surj : ∀ k < 8, ∀ c, ∃ i < 8, kk c i = k := by decide +kernel

/-- A family's first member taken out. -/
theorem range_head (n : ℕ) (f : ℕ → sProp 𝕄) : bigSep (Finset.range (n + 1)) f = iprop(f 0 ∗ bigSep (Finset.range n) (fun i => f (i + 1))) := by
  rw [← todo_all, todo_head (by omega), zero_add, Finset.range_eq_Ico]
  congr 1
  have e : Finset.Ico 1 (n + 1) = (Finset.Ico 0 n).map ⟨(· + 1), fun a b h => Nat.succ.inj h⟩ := by
    ext x; simp only [Finset.mem_map, Finset.mem_Ico]
    exact ⟨fun h => ⟨x - 1, by omega, show x - 1 + 1 = x by omega⟩, by rintro ⟨y, hy, rfl⟩; exact ⟨Nat.succ_le_succ hy.1, Nat.succ_lt_succ hy.2⟩⟩
  rw [e, BI.bigSep_map]; rfl

/-- A plane's slot of the partial products is the device's own piece and the seven neighbours'. -/
theorem gslot_split (c : Dev nD) (z : ℕ) (f) :
    gP (F := F) c (gslot z) f = iprop(gP c (gset z (kk c 0)) f ∗ bigSep (Finset.range 7) fun d => gP c (gset z (kk c (d + 1))) f) := by
  have hd : ∀ a ∈ Finset.range 8, ∀ b ∈ Finset.range 8, a ≠ b → Disjoint (gset z (kk c a)) (gset z (kk c b)) := by
    intro a ha b hb hab
    rw [Finset.disjoint_left]
    intro i hi hi'
    unfold gset at hi hi'
    rw [Finset.mem_filter] at hi hi'
    exact hab (kk_inj a (Finset.mem_range.mp ha) b (Finset.mem_range.mp hb) c (hi.2.2.symm.trans hi'.2.2))
  have h1 := pointsTo_biUnion (nD := nD) (τ := τ) (sig := sig) (Ix := Unit) (Val := Elt F) (Name := ℕ) (U := UU) (Lvl := ℕ) (ℓ := (c : Thread nD τ).loc cc0_scratch2) (q := fullShare) (f := f) (Finset.range 8) (fun d => gset z (kk c d)) hd
  refine Eq.trans (congrArg (fun S => gP c S f) (Finset.ext fun i => ?_)) (h1.trans (range_head 7 (fun d => gP c (gset z (kk c d)) f)))
  refine Iff.trans ?_ Finset.mem_biUnion.symm
  unfold gslot gset
  simp only [Finset.mem_filter, Finset.mem_univ, true_and, Finset.mem_range]
  constructor
  · intro hz
    have h2 : (i 2).val < 2048 := (i 2).isLt
    obtain ⟨d, hd, hk⟩ := kk_surj ((i 2).val / 256) (by omega) c
    exact ⟨d, hd, hz, hk.symm⟩
  · rintro ⟨d, hd, hz, -⟩; exact hz

/-! ## Loads and stores -/

/-- A load of the device's own block. -/
theorem own_step {c : Dev nD} {j p r s d q n : ℕ} {W R : sProp 𝕄} {α : Type} {Q : α → sProp 𝕄} {k : (S1x128x4096.Idx → Elt F .fp8e5m2) → Prog (TpuEff nD τ sig (Elt F) Λ₀ .tc) α}
    {o : Fin 3 → ℕ} {h hl} (ho : o = ![zz c 0, 0, 0])
    (H : StB m c j p r s d q n W R ⊢ wpc c (k (xslot m c (zz c 0))) Q) :
    StB m c j p r s d q n W R ⊢ wpc c (.op (.load xM (Rect.unit (s := S4x128x4096) o S1x128x4096.size h).toLoadRect hl) k) Q := by
  have e : (xM.access (Rect.unit (s := S4x128x4096) o S1x128x4096.size h)).set = xset (zz c 0) := (View.set_slice_whole _ _).trans (xrect_set _ o h ho)
  rw [← xslot_read m c (zz c 0) o h ho] at H
  unfold StB at H ⊢
  iintro ⟨#HR, HO, HPS, HPW, HR1, HRD, Hown, HSI, HOP, HPC, HQS, HQW, Hout, HW, Hsx, Hsw, HZ⟩
  unfold xP at H ⊢
  iapply (wp_load_rect 𝒱₀ (c : Thread nD τ) none Set.univ (m := xM) (r := Rect.unit (s := S4x128x4096) o S1x128x4096.size h) (subset_of_eq e)) $$ Hown
  iintro Hown
  iapply H
  iframe #; iframe HO HPS HPW HR1 HRD Hown HSI HOP HPC HQS HQW Hout HW Hsx Hsw HZ

/-- A load of a received block. -/
theorem blk_step {c : Dev nD} {j p r s d q n : ℕ} {W R : sProp 𝕄} {α : Type} {Q : α → sProp 𝕄} {k : (S1x128x4096.Idx → Elt F .fp8e5m2) → Prog (TpuEff nD τ sig (Elt F) Λ₀ .tc) α}
    {o : Fin 3 → ℕ} {h hl} (ho : o = ![zz c (r + 1), 0, 0])
    (H : StB m c j p (r + 1) s d q n W R ⊢ wpc c (k (xslot m c (zz c (r + 1)))) Q) :
    StB m c j p (r + 1) s d q n W R ⊢ wpc c (.op (.load xM (Rect.unit (s := S4x128x4096) o S1x128x4096.size h).toLoadRect hl) k) Q := by
  have e : (xM.access (Rect.unit (s := S4x128x4096) o S1x128x4096.size h)).set = xset (zz c (r + 1)) := (View.set_slice_whole _ _).trans (xrect_set _ o h ho)
  rw [← xslot_read m c (zz c (r + 1)) o h ho] at H
  unfold StB at H ⊢
  rw [done_last r] at H ⊢
  iintro ⟨#HR, HO, HPS, HPW, HR1, ⟨H1, HRD⟩, Hown, HSI, HOP, HPC, HQS, HQW, Hout, HW, Hsx, Hsw, HZ⟩
  unfold R1D xP at H ⊢
  icases H1 with ⟨Hx, Ha⟩
  iapply (wp_load_rect 𝒱₀ (c : Thread nD τ) none Set.univ (m := xM) (r := Rect.unit (s := S4x128x4096) o S1x128x4096.size h) (subset_of_eq e)) $$ Hx
  iintro Hx
  iapply H
  iframe #; iframe Hx Ha HO HPS HPW HR1 HRD Hown HSI HOP HPC HQS HQW Hout HW Hsx Hsw HZ

/-- A load of the second operand's columns. -/
theorem wb_step {c : Dev nD} {j p r s d q n : ℕ} {R : sProp 𝕄} {α : Type} {Q : α → sProp 𝕄} {k : (S4096x2048.Idx → Elt F .f32) → Prog (TpuEff nD τ sig (Elt F) Λ₀ .tc) α}
    {h hl}
    (H : StB m c j p r s d q n (LWD m c) R ⊢ wpc c (k (WB m c)) Q) :
    StB m c j p r s d q n (LWD m c) R ⊢ wpc c (.op (.load wbM (Rect.unit (s := S4096x2048) ![0, 0] S4096x2048.size h).toLoadRect hl) k) Q := by
  have e : wbM.view.readAt (Elt F) (Rect.unit (s := S4096x2048) ![0, 0] S4096x2048.size h).toLoadRect (WB m c) = WB m c :=
    Memref.readAt_unit_zero (Elt F) cc0_scratch0 (by funext a; fin_cases a <;> rfl) h _
  rw [← e] at H
  unfold StB at H ⊢
  iintro ⟨#HR, HO, HPS, HPW, HR1, HRD, Hown, HSI, HOP, HPC, HQS, HQW, Hout, HW, Hsx, Hsw, HZ⟩
  unfold LWD wbP at H ⊢
  icases HW with ⟨Hw, Hws, Ha⟩
  iapply (wp_load 𝒱₀ (c : Thread nD τ) none Set.univ (m := wbM) (Finset.subset_univ _)) $$ Hw
  iintro Hw
  iapply H
  iframe #; iframe Hw Hws Ha HO HPS HPW HR1 HRD Hown HSI HOP HPC HQS HQW Hout Hsx Hsw HZ

/-- The first scale, loaded. -/
theorem sx_step {c : Dev nD} {j p r s d q n : ℕ} {W R : sProp 𝕄} {α : Type} {Q : α → sProp 𝕄} {k : (S1.Idx → Elt F .f32) → Prog (TpuEff nD τ sig (Elt F) Λ₀ .tc) α}
    {h hl}
    (H : ∀ v, (∀ x, v x = sxv m c) → StB m c j p r s d q n W R ⊢ wpc c (k v) Q) :
    StB m c j p r s d q n W R ⊢ wpc c (.op (.load sxM (Rect.unit (s := S1) ![0] S1.size h).toLoadRect hl) k) Q := by
  have H := H (sxM.view.readAt (Elt F) (Rect.unit (s := S1) ![0] S1.size h).toLoadRect (sxstg m c)) fun x => congrArg (sxstg m c) (idx_S1 _ _)
  unfold StB at H ⊢
  iintro ⟨#HR, HO, HPS, HPW, HR1, HRD, Hown, HSI, HOP, HPC, HQS, HQW, Hout, HW, Hsx, Hsw, HZ⟩
  unfold sxP at H ⊢
  iapply (wp_load 𝒱₀ (c : Thread nD τ) none Set.univ (m := sxM) (Finset.subset_univ _)) $$ Hsx
  iintro Hsx
  iapply H
  iframe #; iframe HO HPS HPW HR1 HRD Hown HSI HOP HPC HQS HQW Hout HW Hsx Hsw HZ

/-- The second scale, loaded. -/
theorem sw_step {c : Dev nD} {j p r s d q n : ℕ} {W R : sProp 𝕄} {α : Type} {Q : α → sProp 𝕄} {k : (S1.Idx → Elt F .f32) → Prog (TpuEff nD τ sig (Elt F) Λ₀ .tc) α}
    {h hl}
    (H : ∀ v, (∀ x, v x = swv m c) → StB m c j p r s d q n W R ⊢ wpc c (k v) Q) :
    StB m c j p r s d q n W R ⊢ wpc c (.op (.load swM (Rect.unit (s := S1) ![0] S1.size h).toLoadRect hl) k) Q := by
  have H := H (swM.view.readAt (Elt F) (Rect.unit (s := S1) ![0] S1.size h).toLoadRect (swstg m c)) fun x => congrArg (swstg m c) (idx_S1 _ _)
  unfold StB at H ⊢
  iintro ⟨#HR, HO, HPS, HPW, HR1, HRD, Hown, HSI, HOP, HPC, HQS, HQW, Hout, HW, Hsx, Hsw, HZ⟩
  unfold swP at H ⊢
  iapply (wp_load 𝒱₀ (c : Thread nD τ) none Set.univ (m := swM) (Finset.subset_univ _)) $$ Hsw
  iintro Hsw
  iapply H
  iframe #; iframe HO HPS HPW HR1 HRD Hown HSI HOP HPC HQS HQW Hout HW Hsx Hsw HZ

/-- A load, before its slot is filled, of the partial products. -/
theorem sdead_step {c : Dev nD} {j p r s d q n : ℕ} {W R : sProp 𝕄} {α : Type} {Q : α → sProp 𝕄} {k : (S1x128x2048.Idx → Elt F .bf16) → Prog (TpuEff nD τ sig (Elt F) Λ₀ .tc) α}
    {o : Fin 3 → ℕ} {h hl} (hs : s < 4) (ho : o = ![zz c s, 0, 0])
    (H : ∀ v, StB m c j p r s d q n W R ⊢ wpc c (k v) Q) :
    StB m c j p r s d q n W R ⊢ wpc c (.op (.load gM (Rect.unit (s := S4x128x2048) o S1x128x2048.size h).toLoadRect hl) k) Q := by
  have e : (gM.access (Rect.unit (s := S4x128x2048) o S1x128x2048.size h)).set = gslot (zz c s) := (View.set_slice_whole _ _).trans (gslot_rect_set _ o h ho)
  unfold StB at H ⊢
  rw [todo_head hs] at H ⊢
  iintro ⟨#HR, HO, HPS, HPW, HR1, HRD, Hown, ⟨H1, HSI⟩, HOP, HPC, HQS, HQW, Hout, HW, Hsx, Hsw, HZ⟩
  unfold STI gP at H ⊢
  icases H1 with ⟨%f, Hg⟩
  iapply (wp_load_rect 𝒱₀ (c : Thread nD τ) none Set.univ (m := gM) (r := Rect.unit (s := S4x128x2048) o S1x128x2048.size h) (subset_of_eq e)) $$ Hg
  iintro Hg
  iapply (H _)
  iframe #; iframe HO HPS HPW HR1 HRD Hown HSI HOP HPC HQS HQW Hout HW Hsx Hsw HZ
  iexists f; iexact Hg

/-- A partial product is stored. -/
theorem sstore_step {c : Dev nD} {j p r s d q n : ℕ} {W R : sProp 𝕄} {α : Type} {Q : α → sProp 𝕄} {k : PUnit → Prog (TpuEff nD τ sig (Elt F) Λ₀ .tc) α}
    {o : Fin 3 → ℕ} {h hx hm} {w : S1x128x2048.Idx → Elt F .bf16} (hs : s < 4) (hd : d = 7) (ho : o = ![zz c s, 0, 0]) (hw : w = STGv m c (zz c s))
    (H : StB m c j p r (s + 1) 0 q n W R ⊢ wpc c (k ⟨⟩) Q) :
    StB m c j p r s d q n W R ⊢ wpc c (.op (.store gM (Rect.unit (s := S4x128x2048) o S1x128x2048.size h) w Finset.univ hx hm) k) Q := by
  have e : (gM.access (Rect.unit (s := S4x128x2048) o S1x128x2048.size h)).set = gslot (zz c s) := (View.set_slice_whole _ _).trans (gslot_rect_set _ o h ho)
  subst hd hw
  unfold StB at H ⊢
  rw [todo_head hs]; rw [done_last s, todo_all 7] at H
  iintro ⟨#HR, HO, HPS, HPW, HR1, HRD, Hown, ⟨H1, HSI⟩, HOP, HPC, HQS, HQW, Hout, HW, Hsx, Hsw, HZ⟩
  unfold STI gP
  icases H1 with ⟨%f, Hg⟩
  iapply (wp_store 𝒱₀ (c : Thread nD τ) none Set.univ (m := gM) (r := Rect.unit (s := S4x128x2048) o S1x128x2048.size h) (w := STGv m c (zz c s)) (Mk := Finset.univ) (subset_of_eq e)) $$ Hg
  iintro Hg
  ihave Hg := (Entails.of_eq ((pointsTo_congr (stg_write m c (zz c s) o h ho f)).trans (gslot_split c (zz c s) (STG m c)))) $$ Hg
  icases Hg with ⟨Ho, Hp⟩
  iapply H
  iframe #; iframe HO HPS HPW HR1 HRD Hown HSI HOP HQS HQW Hout HW Hsx Hsw HZ
  unfold OP PC
  isplitl [Ho]; · iexact Ho
  iexact Hp

/-- A load of the device's own piece of the newest partial product. -/
theorem opc_step {c : Dev nD} {j p r s d q n : ℕ} {W R : sProp 𝕄} {α : Type} {Q : α → sProp 𝕄} {k : (S1x128x256.Idx → Elt F .bf16) → Prog (TpuEff nD τ sig (Elt F) Λ₀ .tc) α}
    {o : Fin 3 → ℕ} {h hl} (hs : s < 4) (ho : o = ![zz c s, 0, kk c 0 * 256])
    (H : StB m c j p r (s + 1) d q n W R ⊢ wpc c (k (blkv m c (zz c s * 8 + kk c 0))) Q) :
    StB m c j p r (s + 1) d q n W R ⊢ wpc c (.op (.load gM (Rect.unit (s := S4x128x2048) o S1x128x256.size h).toLoadRect hl) k) Q := by
  have e : (gM.access (Rect.unit (s := S4x128x2048) o S1x128x256.size h)).set = gset (zz c s) (kk c 0) := (View.set_slice_whole _ _).trans (grect_set _ _ o h ho)
  rw [← own_read m c s hs o h ho] at H
  unfold StB at H ⊢
  rw [done_last s] at H ⊢
  iintro ⟨#HR, HO, HPS, HPW, HR1, HRD, Hown, HSI, ⟨Hg, HOP⟩, HPC, HQS, HQW, Hout, HW, Hsx, Hsw, HZ⟩
  unfold OP gP at H ⊢
  iapply (wp_load_rect 𝒱₀ (c : Thread nD τ) none Set.univ (m := gM) (r := Rect.unit (s := S4x128x2048) o S1x128x256.size h) (subset_of_eq e)) $$ Hg
  iintro Hg
  iapply H
  iframe #; iframe Hg HO HPS HPW HR1 HRD Hown HSI HOP HPC HQS HQW Hout HW Hsx Hsw HZ

/-! ## The result's buffer -/

/-- A load of the result's buffer whose value is not used. -/
theorem outdead_rule {c : Dev nD} {D : ℕ → Prop} {α : Type} {Q : α → sProp 𝕄} {k : (S128x256.Idx → Elt F .f32) → Prog (TpuEff nD τ sig (Elt F) Λ₀ .tc) α} {o : Fin 2 → ℕ} {h hl} :
    OUTs m c D ⊢ iprop((∀ v, OUTs m c D -∗ wpc c (k v) Q) -∗ wpc c (.op (.load oM (Rect.unit (s := S4096x256) o S128x256.size h).toLoadRect hl) k) Q) := by
  unfold OUTs
  iintro ⟨%v, Ho, %hv⟩ Hk
  iapply (wp_load_rect 𝒱₀ (c : Thread nD τ) none Set.univ (m := oM) (r := Rect.unit (s := S4096x256) o S128x256.size h) (Finset.subset_univ _)) $$ Ho
  iintro Ho
  iapply Hk
  iexists v
  iframe Ho
  ipureintro; exact hv

/-- A row block of the result is stored. -/
theorem outstore_rule {c : Dev nD} {D D' : ℕ → Prop} {B : ℕ} {α : Type} {Q : α → sProp 𝕄} {k : PUnit → Prog (TpuEff nD τ sig (Elt F) Λ₀ .tc) α} {o : Fin 2 → ℕ} {h hx hm} {w : S128x256.Idx → Elt F .f32}
    (ho : o = ![B * 128, 0]) (hw : w = k0_pay5 (blkv m c B)) (hD : ∀ x, D' x → D x ∨ x = B) :
    OUTs m c D ⊢ iprop((OUTs m c D' -∗ wpc c (k ⟨⟩) Q) -∗ wpc c (.op (.store oM (Rect.unit (s := S4096x256) o S128x256.size h) w Finset.univ hx hm) k) Q) := by
  have e : (oM.access (Rect.unit (s := S4096x256) o S128x256.size h)).set = oset B := (View.set_slice_whole _ _).trans (orect_set _ o h ho)
  subst hw
  unfold OUTs
  iintro ⟨%v, Ho, %hv⟩ Hk
  iapply (wp_store 𝒱₀ (c : Thread nD τ) none Set.univ (m := oM) (r := Rect.unit (s := S4096x256) o S128x256.size h) (w := k0_pay5 (blkv m c B)) (Mk := Finset.univ) (Finset.subset_univ _)) $$ Ho
  iintro Ho
  iapply Hk
  iexists _
  iframe Ho
  ipureintro
  intro i hi
  by_cases hB : (i 0).val / 128 = B
  · refine write_on (oM.access (Rect.unit (s := S4096x256) o S128x256.size h)) v (OUT m c) (k0_pay5 (blkv m c B)) (fun (x : S128x256.Idx) => ?_) i
      (by rw [e]; exact Finset.mem_filter.mpr ⟨Finset.mem_univ _, hB⟩)
    subst ho
    have hx0 : (x 0).val < 128 := (x 0).isLt
    show _ = k0_pay5 (blkv m c ((B * 128 + 1 * (x 0).val) / 128)) _
    rw [show (B * 128 + 1 * (x 0).val) / 128 = B by omega]
    refine congrArg (k0_pay5 (blkv m c B)) (funext fun a => Fin.ext ?_)
    fin_cases a
    · show (x 0).val = (B * 128 + 1 * (x 0).val) % 128; omega
    · show (x 1).val = 0 + 1 * (x 1).val; omega
  · refine (View.write_of_not_mem _ _ _ fun hm => hB ?_).trans (hv i ((hD _ hi).resolve_right hB))
    have : i ∈ oset B := e ▸ hm
    exact (Finset.mem_filter.mp this).2

/-- The unused load of the result's buffer, among all that is held. -/
theorem odead_step {c : Dev nD} {j p r s d q n : ℕ} {W R : sProp 𝕄} {α : Type} {Q : α → sProp 𝕄} {k : (S128x256.Idx → Elt F .f32) → Prog (TpuEff nD τ sig (Elt F) Λ₀ .tc) α} {o : Fin 2 → ℕ} {h hl}
    (H : ∀ v, StB m c j p r s d q n W R ⊢ wpc c (k v) Q) :
    StB m c j p r s d q n W R ⊢ wpc c (.op (.load oM (Rect.unit (s := S4096x256) o S128x256.size h).toLoadRect hl) k) Q := by
  unfold StB at H ⊢
  iintro ⟨#HR, HO, HPS, HPW, HR1, HRD, Hown, HSI, HOP, HPC, HQS, HQW, Hout, HW, Hsx, Hsw, HZ⟩
  iapply (outdead_rule m) $$ Hout
  iintro %v Hout
  iapply (H v)
  iframe #; iframe HO HPS HPW HR1 HRD Hown HSI HOP HPC HQS HQW Hout HW Hsx Hsw HZ

/-- The device's own piece is stored, among all that is held. -/
theorem ostore_step {c : Dev nD} {j p r s d q n : ℕ} {W R : sProp 𝕄} {α : Type} {Q : α → sProp 𝕄} {k : PUnit → Prog (TpuEff nD τ sig (Elt F) Λ₀ .tc) α} {o : Fin 2 → ℕ} {h hx hm} {w : S128x256.Idx → Elt F .f32}
    (ho : o = ![(zz c n * 8 + kk c 0) * 128, 0]) (hw : w = k0_pay5 (blkv m c (zz c n * 8 + kk c 0)))
    (H : StB m c j p r s d q (n + 1) W R ⊢ wpc c (k ⟨⟩) Q) :
    StB m c j p r s d q n W R ⊢ wpc c (.op (.store oM (Rect.unit (s := S4096x256) o S128x256.size h) w Finset.univ hx hm) k) Q := by
  unfold StB at H ⊢
  iintro ⟨#HR, HO, HPS, HPW, HR1, HRD, Hown, HSI, HOP, HPC, HQS, HQW, Hout, HW, Hsx, Hsw, HZ⟩
  iapply (outstore_rule m (D' := Dn c (n + 1) 0) ho hw (by
    rintro x (⟨i, hi, rfl⟩ | ⟨i, hi, -⟩)
    · by_cases h : i = n
      · exact .inr (h ▸ rfl)
      · exact .inl (.inl ⟨i, by omega, rfl⟩)
    · omega)) $$ Hout
  iintro Hout
  iapply H
  iframe #; iframe HO HPS HPW HR1 HRD Hown HSI HOP HPC HQS HQW Hout HW Hsx Hsw HZ

end Cert.A2A
-- ==== Proof.Phases.lean ====
/-
# The other stages: entry, the received pieces, the sends' completions, exit
-/
module

public import proofs.«01_k».proof.Proof.Compute

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Before the exchange -/

/-- The local transfer before it starts. -/
def LW0 (c : Dev nD) : sProp 𝕄 := iprop((∃ f, wbP c f) ∗ wsl m c ∗ dutyTok ER (dc c 4) 0 0 ∗ atPos ER (dc c 4) 0 ∅ 0)
/-- The device's own slot before it is filled, and after: one share kept, three to lend. -/
def OW0 (c : Dev nD) : sProp 𝕄 := iprop(∃ f, xP (F := F) c (xset (zz c 0)) fullShare f)
def OW1 (c : Dev nD) : sProp 𝕄 := iprop(xP c (xset (zz c 0)) (qs 0) (XG m c) ∗ bigSep (Finset.range 3) fun i => xP c (xset (zz c 0)) (qs (i + 1)) (XG m c))
/-- The staged operand. -/
def xsP (c : Dev nD) : sProp 𝕄 := ((c : Thread nD τ).loc cc0_stg0_0) ↦{fullShare} (xstg m c)

/-- What device `c` holds up to the entry wait: `j` payments to come, `b` entry signals sent. -/
def StA (c : Dev nD) (j b : ℕ) (W O R : sProp 𝕄) : sProp 𝕄 :=
  iprop(Rec m ∗ ow c j ∗ bigSep (Finset.Ico b 10) (BS (F := F) c) ∗ W ∗ O ∗ xsP m c ∗ R)

/-- The local transfer starts. -/
theorem copy_step {c : Dev nD} {j b : ℕ} {O R : sProp 𝕄} {α : Type} {Q : α → sProp 𝕄} {k : PUnit → Prog (TpuEff nD τ sig (Elt F) Λ₀ .tc) α} {se : DmaSem sig} {hsrc hdst hsem} (hS : se = ds 4)
    (H : StA m c j b (LW c) O R ⊢ wpc c (k ⟨⟩) Q) :
    StA m c j b (LW0 m c) O R ⊢ wpc c (.op (.enqueueDma (wV c) (.here wbM) (.dma se) hsrc hdst hsem) k) Q := by
  subst hS
  have hs : wbM.view.set = Finset.univ := View.set_whole _
  have hpay : ∀ f : (cc0_scratch0 : Ref sig .tc).ty.Contents (Elt F), iprop((((c : Thread nD τ).loc cc0_scratch0) ↦[wbM.view.set]{fullShare} (wbM.view.write (Elt F) f ((wV c).view.read (Elt F) (m ((c : Thread nD τ).loc main_arg1))) Finset.univ))
      ∗ (((c : Thread nD τ).loc main_arg1) ↦[(wV c).view.set]{fullShare} (m ((c : Thread nD τ).loc main_arg1)))) ⊢ ldPay m c := fun f => by
    have e : wbM.view.write (Elt F) f ((wV c).view.read (Elt F) (m ((c : Thread nD τ).loc main_arg1))) Finset.univ = WB m c := View.write_whole_univ cc0_scratch0 f _
    rw [e, hs]; unfold ldPay wbP wsl
    exact Entails.refl _
  unfold StA at H ⊢
  iintro ⟨#HR, HO, HB, HW, Hown, Hx, HZ⟩
  unfold LW0 wbP wsl
  icases HW with ⟨⟨%f, Hwb⟩, Hw, Ht, Ha⟩
  ihave Hwb := (Entails.of_eq (show (((c : Thread nD τ).loc cc0_scratch0) ↦{fullShare} f : sProp 𝕄) = (((c : Thread nD τ).loc cc0_scratch0) ↦[wbM.view.set]{fullShare} f) by rw [hs])) $$ Hwb
  ihave ⟨⟨%κ, #HI⟩, #Hr, -⟩ := (rec_get m c (.dma (ds 4)) (csem_dma 4 (by omega) (by omega))) $$ HR
  have e := Rounds.wp_copy_pointsTo (Γ := .empty) (U := UU) (Lvl := ℕ) (Name := ℕ) (defs := defs₀ (F := F)) 𝒱₀ ER (Rd m) (c : Thread nD τ) none (src := wV c) (dst := wbM) (sem := .dma (ds 4)) (hsrc := hsrc) (hdst := hdst) (hsem := hsem) (k := k) (Q := Q)
    (q := fullShare) (fs := m ((c : Thread nD τ).loc main_arg1)) (fd := f) (r := 0) (d := 0) (κ := κ) (by rw [duties_dma m c 4 (by omega) (by omega) (by omega)]; exact Finset.mem_singleton_self _) () NL NL_eq
    ((amount_dma m c 4 (by omega) 0).trans (if_pos (by decide))) (by rw [payload_dma m c 4 (by omega), dmaPay_ld]; exact hpay f) (Es := Set.univ)
  iapply e $$ [Hwb Hw Ht]
  · isplitr; · iexact HI
    isplitl [Hw]; · iexact Hw
    isplitl [Hwb]; · iexact Hwb
    isplitl [Ht]; · iexact Ht
    iexact Hr
  iintro Hc
  iapply H
  iframe #; iframe HO HB Hown Hx HZ
  unfold LW
  iframe Hc Ha

/-- The staged operand, loaded. -/
theorem x_step {c : Dev nD} {j b : ℕ} {W O R : sProp 𝕄} {α : Type} {Q : α → sProp 𝕄} {k : (S128x4096.Idx → Elt F .f32) → Prog (TpuEff nD τ sig (Elt F) Λ₀ .tc) α} {h hl}
    (H : StA m c j b W O R ⊢ wpc c (k (xstg m c)) Q) :
    StA m c j b W O R ⊢ wpc c (.op (.load xbM (Rect.unit (s := S128x4096) ![0, 0] S128x4096.size h).toLoadRect hl) k) Q := by
  have e : xbM.view.readAt (Elt F) (Rect.unit (s := S128x4096) ![0, 0] S128x4096.size h).toLoadRect (xstg m c) = xstg m c :=
    Memref.readAt_unit_zero (Elt F) cc0_stg0_0 (by funext a; fin_cases a <;> rfl) h _
  rw [← e] at H
  unfold StA xsP at H ⊢
  iintro ⟨#HR, HO, HB, HW, Hown, Hx, HZ⟩
  iapply (wp_load 𝒱₀ (c : Thread nD τ) none Set.univ (m := xbM) (Finset.subset_univ _)) $$ Hx
  iintro Hx
  iapply H
  iframe #; iframe HO HB HW Hown Hx HZ

/-- A load of the own slot before it is filled. -/
theorem xdead_step {c : Dev nD} {j b : ℕ} {W R : sProp 𝕄} {α : Type} {Q : α → sProp 𝕄} {k : (S1x128x4096.Idx → Elt F .fp8e5m2) → Prog (TpuEff nD τ sig (Elt F) Λ₀ .tc) α} {o : Fin 3 → ℕ} {h hl} (ho : o = ![zz c 0, 0, 0])
    (H : ∀ v, StA m c j b W (OW0 c) R ⊢ wpc c (k v) Q) :
    StA m c j b W (OW0 c) R ⊢ wpc c (.op (.load xM (Rect.unit (s := S4x128x4096) o S1x128x4096.size h).toLoadRect hl) k) Q := by
  have e : (xM.access (Rect.unit (s := S4x128x4096) o S1x128x4096.size h)).set = xset (zz c 0) := (View.set_slice_whole _ _).trans (xrect_set _ o h ho)
  unfold StA OW0 xP at H ⊢
  iintro ⟨#HR, HO, HB, HW, ⟨%f, Hown⟩, Hx, HZ⟩
  iapply (wp_load_rect 𝒱₀ (c : Thread nD τ) none Set.univ (m := xM) (r := Rect.unit (s := S4x128x4096) o S1x128x4096.size h) (subset_of_eq e)) $$ Hown
  iintro Hown
  iapply (H _)
  iframe #; iframe HO HB HW Hx HZ
  iexists f; iexact Hown

/-- A full share is one to keep and three to lend. -/
theorem own_share (c : Dev nD) (f) : xP (F := F) c (xset (zz c 0)) fullShare f
    = iprop(xP c (xset (zz c 0)) (qs 0) f ∗ bigSep (Finset.range 3) fun i => xP c (xset (zz c 0)) (qs (i + 1)) f) := by
  have e : ∀ q : PosShare TreeShare, xP (F := F) c (xset (zz c 0)) q f = iprop(xP c (xset (zz c 0)) q.left f ∗ xP c (xset (zz c 0)) q.right f) := fun q =>
    (pointsTo_share (PosShare.mem_left_op_right q)).mp.antisymm (pointsTo_share (PosShare.mem_left_op_right q)).mpr
  rw [range_head, range_head, range_head, done_nil, e fullShare, e fullShare.right, e fullShare.right.right]
  exact congrArg (fun X => iprop(xP c (xset (zz c 0)) fullShare.left f ∗ xP c (xset (zz c 0)) fullShare.right.left f ∗ xP c (xset (zz c 0)) fullShare.right.right.left f ∗ X)) (BI.equiv_iff.mp BI.sep_emp).symm

/-- The own block is stored in its slot. -/
theorem xstore_step {c : Dev nD} {j b : ℕ} {W R : sProp 𝕄} {α : Type} {Q : α → sProp 𝕄} {k : PUnit → Prog (TpuEff nD τ sig (Elt F) Λ₀ .tc) α} {o : Fin 3 → ℕ} {h hx hm} {w : S1x128x4096.Idx → Elt F .fp8e5m2}
    (ho : o = ![zz c 0, 0, 0]) (hw : w = xslot m c (zz c 0))
    (H : StA m c j b W (OW1 m c) R ⊢ wpc c (k ⟨⟩) Q) :
    StA m c j b W (OW0 c) R ⊢ wpc c (.op (.store xM (Rect.unit (s := S4x128x4096) o S1x128x4096.size h) w Finset.univ hx hm) k) Q := by
  have e : (xM.access (Rect.unit (s := S4x128x4096) o S1x128x4096.size h)).set = xset (zz c 0) := (View.set_slice_whole _ _).trans (xrect_set _ o h ho)
  have hW : ∀ fd, ∀ i ∈ xset (zz c 0), (xM.access (Rect.unit (s := S4x128x4096) o S1x128x4096.size h)).write (Elt F) fd w Finset.univ i = XG m c i := fun fd i hi => by
    subst hw
    exact write_on (xM.access (Rect.unit (s := S4x128x4096) o S1x128x4096.size h)) fd (XG m c) (xslot m c (zz c 0)) (fun x => (congrFun (xslot_read m c (zz c 0) o h ho) x).symm) i (by rw [e]; exact hi)
  unfold StA at H ⊢
  iintro ⟨#HR, HO, HB, HW, Hown, Hx, HZ⟩
  unfold OW0 xP
  icases Hown with ⟨%f, Hown⟩
  iapply (wp_store 𝒱₀ (c : Thread nD τ) none Set.univ (m := xM) (r := Rect.unit (s := S4x128x4096) o S1x128x4096.size h) (w := w) (Mk := Finset.univ) (subset_of_eq e)) $$ Hown
  iintro Hown
  ihave Hown := (Entails.of_eq (pointsTo_congr (hW f))) $$ Hown
  ihave Hown := (Entails.of_eq (own_share c (XG m c))) $$ [Hown]
  · unfold xP; iexact Hown
  iapply H
  iframe #; iframe HO HB HW Hx HZ
  unfold OW1
  iexact Hown

/-- An entry signal. -/
theorem bar_step {c t : Dev nD} {j b : ℕ} {W O R : sProp 𝕄} {α : Type} {Q : α → sProp 𝕄} {k : PUnit → Prog (TpuEff nD τ sig (Elt F) Λ₀ .tc) α} {s : Sem sig} {a : ℤ} (hb : b < 10) (hj : j + b = 50) (ht : t = pe b c) (hs : s = (0 : Fin 2)) (ha : a = 1)
    (H : StA m c j (b + 1) W O R ⊢ wpc c (k ⟨⟩) Q) :
    StA m c (j + 1) b W O R ⊢ wpc c (.op (.semSignal (t : Thread nD τ) s a) k) Q := by
  subst ht hs ha
  unfold StA at H ⊢
  rw [todo_head hb]
  iintro ⟨#HR, HO, ⟨H1, HB⟩, HW, Hown, Hx, HZ⟩
  unfold BS
  icases H1 with ⟨Ht, Hp⟩
  ihave Hp := (Entails.of_eq (payload_bar m (pe b c) (opp b)).symm) $$ Hp
  iapply (sig_rule m c (pe b c) j 0 (opp b) (lc_bar c b j hj hb) (opp_lt b hb)) $$ [HO Ht Hp]
  · iframe #; iframe HO Ht Hp
  iintro HO
  iapply H
  iframe #; iframe HO HB HW Hown Hx HZ

/-- The peers' slots and tickets of the block and piece transfers. -/
def T1 (c : Dev nD) (i : ℕ) : sProp 𝕄 := iprop(dutyTok ER (dc c (5 + i)) 0 0 ∗ dutyTok ER (dc (zsh (i + 1) c) (8 + zz c 0)) 0 0)
def T2 (c : Dev nD) (q : ℕ) : sProp 𝕄 := iprop(dutyTok ER (dc c (12 + qn c q)) 0 0 ∗ dutyTok ER (dc (psh (q % 7 + 1) c) (40 + qn c q)) 0 0)
def D1 (c : Dev nD) (i : ℕ) : sProp 𝕄 := iprop(∃ f, xP (F := F) (zsh (i + 1) c) (xset (zz c 0)) fullShare f)
def D2 (c : Dev nD) (q : ℕ) : sProp 𝕄 := iprop(∃ f, rP (F := F) (psh (q % 7 + 1) c) (rset (zz c (q / 7)) (q % 7)) f)

/-- A family's first members and its others. -/
theorem range_split (b : ℕ) : ∀ (a : ℕ) (A : ℕ → sProp 𝕄), bigSep (Finset.range (a + b)) A = iprop(bigSep (Finset.range a) A ∗ bigSep (Finset.range b) fun i => A (a + i))
  | 0, A => by
    rw [done_nil]
    simp only [Nat.zero_add]
    exact (BI.equiv_iff.mp BI.emp_sep).symm
  | a + 1, A => by
    rw [show a + 1 + b = a + b + 1 by omega, range_head, range_split b a (fun i => A (i + 1)), range_head a A]
    simp only [show ∀ i, a + i + 1 = a + 1 + i from fun i => by omega]
    exact BI.sep_assoc'.antisymm BI.sep_assoc

/-- A family numbered in groups. -/
theorem groups (b : ℕ) (hb : 0 < b) (A : ℕ → ℕ → sProp 𝕄) : ∀ a : ℕ, (bigSep (Finset.range (a * b)) fun q => A (q / b) (q % b)) = bigSep (Finset.range a) fun z => bigSep (Finset.range b) (A z)
  | 0 => by rw [Nat.zero_mul, done_nil, done_nil]
  | a + 1 => by
    rw [Nat.succ_mul, range_split b (a * b), groups b hb A a, done_last a]
    refine Eq.trans ?_ (BI.sep_comm.antisymm BI.sep_comm)
    refine congrArg (fun X => iprop((bigSep (Finset.range a) fun z => bigSep (Finset.range b) (A z)) ∗ X)) (BI.bigSep_congr fun d hd => ?_)
    have := Finset.mem_range.mp hd
    rw [Nat.mul_comm a b, Nat.mul_add_div hb, Nat.div_eq_of_lt this, Nat.mul_add_mod, Nat.mod_eq_of_lt this, Nat.add_zero]

/-- Twenty-eight pieces, seven of each of four. -/
theorem grid (A : ℕ → ℕ → sProp 𝕄) : (bigSep (Finset.range 28) fun q => A (q / 7) (q % 7)) = bigSep (Finset.range 4) fun z => bigSep (Finset.range 7) (A z) :=
  groups 7 (by decide) A 4

/-- Rows of columns are columns of rows. -/
theorem swap (b : ℕ) (A : ℕ → ℕ → sProp 𝕄) : ∀ a : ℕ, (bigSep (Finset.range a) fun i => bigSep (Finset.range b) (A i)) = bigSep (Finset.range b) fun j => bigSep (Finset.range a) fun i => A i j
  | 0 => by
    rw [done_nil]
    exact ((BI.bigSep_congr fun j _ => done_nil fun i => A i j).trans (BI.bigSep_emp_const (Finset.range b))).symm
  | a + 1 => by
    rw [done_last, swap b A a, ← bigSep_sep']
    exact BI.bigSep_congr fun j _ => (done_last a fun i => A i j).symm

/-- What the ten peers hand over at entry. -/
theorem bar_deal (c : Dev nD) : (bigSep (Finset.range 10) (barPay (F := F) c)) ⊢ iprop(bigSep (Finset.range 3) (D1 c) ∗ bigSep (Finset.range 28) (D2 c)) := by
  rw [range_split 7 3 (barPay (F := F) c), show (bigSep (Finset.range 28) (D2 (F := F) c)) = _ from grid fun z d => iprop(∃ f, rP (F := F) (psh (d + 1) c) (rset (zz c z) d) f)]
  refine BI.sep_mono (Entails.of_eq (BI.bigSep_congr fun i hi => ?_)) (Entails.of_eq (Eq.trans (BI.bigSep_congr (Ψ := fun d => bigSep (Finset.range 4) fun z => iprop(∃ f, rP (F := F) (psh (d + 1) c) (rset (zz c z) d) f)) fun d hd => ?_) (swap 4 (fun d z => iprop(∃ f, rP (F := F) (psh (d + 1) c) (rset (zz c z) d) f)) 7)))
  · have hi := Finset.mem_range.mp hi
    unfold barPay D1 pe; rw [if_pos hi, if_pos hi]
  · unfold barPay pe; rw [if_neg (by omega), if_neg (by omega), show 3 + d - 2 = d + 1 by omega, show 3 + d - 3 = d by omega]

/-- The entry wait: the exchange may begin. -/
theorem barwait_step {c : Dev nD} {R : sProp 𝕄} {α : Type} {Q : α → sProp 𝕄} {k : PUnit → Prog (TpuEff nD τ sig (Elt F) Λ₀ .tc) α} {s : Sem sig} {a : ℤ} (hs : s = (0 : Fin 2)) (ha : a = 10)
    (H : StB m c 41 0 0 0 7 0 0 (LW c) iprop(xsP m c ∗ atPos ER (rc c 0) 1 ∅ 0 ∗ R) ⊢ wpc c (k ⟨⟩) Q) :
    StA m c 41 10 (LW c) (OW1 m c) iprop((cred (tallyAt (rc c 0) () 10) ∗ atPos ER (rc c 0) 0 ∅ 0)
        ∗ bigSep (Finset.range 3) (T1 (F := F) c) ∗ bigSep (Finset.range 3) (R1 (F := F) c) ∗ bigSep (Finset.range 4) (STI (F := F) c)
        ∗ bigSep (Finset.range 28) (T2 (F := F) c) ∗ OUTs m c (Dn c 0 0) ∗ sxP m c ∗ swP m c ∗ R)
      ⊢ wpc c (.op (.semWait s a) k) Q := by
  subst hs ha
  unfold StA; unfold StB at H
  rw [done_nil, done_nil, done_nil, done_nil, todo_nil (n := 7)] at H
  iintro ⟨#HR, HO, HB, HW, Hown, Hx, ⟨Hc, Ha⟩, HT1, HR1, HST, HT2, Hout, Hsx, Hsw, HZ⟩
  iapply (wait_rule m c (.reg 0) (csem_reg 0) (w := .semWait (0 : Fin 2) 10) (k' := 10) (wpE_semWait_eq 𝒱₀ (c : Thread nD τ) none Set.univ)
    (expect_reg m c 0).symm 1 41 (by decide) (fun i hi => by unfold lvl; split_ifs <;> omega)) $$ [HO Hc Ha]
  · iframe #; iframe HO Hc Ha
  iintro ⟨HO, Ha, Hp⟩
  ihave Hp := ((Entails.of_eq (rest_bar m c)).trans (bar_deal c)) $$ Hp
  icases Hp with ⟨HD1, HD2⟩
  unfold OW1
  icases Hown with ⟨Hown, Hsh⟩
  ihave HPS := (Entails.of_eq (show iprop((bigSep (Finset.range 3) fun i => xP c (xset (zz c 0)) (qs (i + 1)) (XG m c)) ∗ bigSep (Finset.range 3) (D1 c) ∗ bigSep (Finset.range 3) (T1 (F := F) c)) = bigSep (Finset.Ico 0 3) (P1S m c) by
    rw [todo_all, ← bigSep_sep', ← bigSep_sep']; rfl)) $$ [Hsh HD1 HT1]
  · iframe Hsh HD1 HT1
  ihave HQS := (Entails.of_eq (show iprop(bigSep (Finset.range 28) (D2 (F := F) c) ∗ bigSep (Finset.range 28) (T2 (F := F) c)) = bigSep (Finset.Ico 0 28) (P2S (F := F) c) by
    rw [todo_all, ← bigSep_sep']; rfl)) $$ [HD2 HT2]
  · iframe HD2 HT2
  ihave HR1 := (Entails.of_eq (todo_all 3 (R1 (F := F) c)).symm) $$ HR1
  ihave HST := (Entails.of_eq (todo_all 4 (STI (F := F) c)).symm) $$ HST
  iapply H
  iframe #; iframe HO HPS HR1 Hown HST HQS Hout HW Hsx Hsw Hx Ha HZ

/-! ## The received pieces -/

/-- The `q`-th received piece, awaited and come. -/
def R2 (c : Dev nD) (q : ℕ) : sProp 𝕄 := iprop(cred (tallyAt (dc c (40 + q)) () NS) ∗ atPos ER (dc c (40 + q)) 0 ∅ 0)
def R2D (c : Dev nD) (q : ℕ) : sProp 𝕄 := iprop(rP c (rset (q / 7) (q % 7)) (RST m c) ∗ atPos ER (dc c (40 + q)) 1 ∅ 0)

/-- What device `c` holds while it takes in the pieces: `q` received, `n` of them stored. -/
def StC (c : Dev nD) (q n : ℕ) (R : sProp 𝕄) : sProp 𝕄 :=
  iprop(Rec m ∗ ow c 10 ∗ bigSep (Finset.Ico q 28) (R2 (F := F) c) ∗ bigSep (Finset.range q) (R2D m c) ∗ OUTs m c (Dn c 4 n) ∗ R)

/-- The wait for a piece. -/
theorem r2_step {c : Dev nD} {q n : ℕ} {R : sProp 𝕄} {α : Type} {Q : α → sProp 𝕄} {k : PUnit → Prog (TpuEff nD τ sig (Elt F) Λ₀ .tc) α}
    {se : DmaSem sig} {o : Fin 4 → ℕ} {h hq} {sp : Space} {s' : Shape} {e : EltTy} {src : Memref sig .tc sp s' e} {hsrc hdst}
    (hr : q < 28) (hS : se = ds (40 + q))
    (H : StC m c (q + 1) n R ⊢ wpc c (k ⟨⟩) Q) :
    StC m c q n R ⊢ wpc c (.op (.waitDma2 se src (rV o h hq) hsrc hdst) k) Q := by
  subst hS
  have hz0 := zz_lt c 0
  unfold StC at H ⊢
  rw [todo_head hr]; rw [done_last q] at H
  iintro ⟨#HR, HO, ⟨H1, HQ⟩, HD, Hout, HZ⟩
  ihave H1 := (Entails.of_eq (show R2 (F := F) c q = iprop(cred (tallyAt (dc c (40 + q)) () (rV o h hq).view.dmaCredit) ∗ atPos ER (dc c (40 + q)) 0 ∅ 0) by
    unfold R2; rw [NS_eq])) $$ H1
  icases H1 with ⟨Hc, Ha⟩
  iapply (wait_rule m c (.dma (ds (40 + q))) (csem_dma _ (by omega) (by omega)) (w := .waitDma2 (ds (40 + q)) src (rV o h hq) hsrc hdst) (wpE_waitDma2_eq 𝒱₀ (c : Thread nD τ) none Set.univ)
    ((NS_eq o h hq).trans ((expect_dma m c _ (by omega) (by omega) (by omega)).trans (dmaAmt_S _ (by omega))).symm) 3 10
    (by rw [lvS_dma _ (by omega), if_neg (by omega), if_neg (by omega), if_neg (by omega)])
    (fun i hi => by unfold lvl; split_ifs <;> omega)) $$ [HO Hc Ha]
  · iframe #; iframe HO Hc Ha
  iintro ⟨HO, Ha, Hp⟩
  ihave Hp := (Entails.of_eq ((rest_dma m c _ (by omega) (by omega) (by omega)).trans
    (show dmaPay m c (40 + q) = p2rPay m c (q / 7) (q % 7) by rw [← dmaPay_p2r m c (q / 7) (q % 7) (by omega) (by omega), show q / 7 * 7 + q % 7 = q by omega]))) $$ Hp
  iapply H
  iframe #; iframe HO HQ HD Hout HZ
  unfold R2D p2rPay
  iframe Hp Ha

/-- A load of the newest piece. -/
theorem rl_step {c : Dev nD} {q n : ℕ} {R : sProp 𝕄} {α : Type} {Q : α → sProp 𝕄} {k : (S1x1x128x256.Idx → Elt F .bf16) → Prog (TpuEff nD τ sig (Elt F) Λ₀ .tc) α}
    {o : Fin 4 → ℕ} {h hl} (hq : q < 28) (ho : o = ![q / 7, q % 7, 0, 0])
    (H : ∀ v, (∀ a b, v (ix4 0 0 a b) = blkv m c (q / 7 * 8 + kk c (7 - q % 7)) (ix3 0 a b)) → StC m c (q + 1) n R ⊢ wpc c (k v) Q) :
    StC m c (q + 1) n R ⊢ wpc c (.op (.load rM (Rect.unit (s := S4x7x128x256) o S1x1x128x256.size h).toLoadRect hl) k) Q := by
  have e : (rM.access (Rect.unit (s := S4x7x128x256) o S1x1x128x256.size h)).set = rset (q / 7) (q % 7) := (View.set_slice_whole _ _).trans (rrect_set _ _ o h ho)
  have H := H ((rM.access (Rect.unit (s := S4x7x128x256) o S1x1x128x256.size h)).read (Elt F) (RST m c)) (recv_read m c (q / 7) (q % 7) (by omega) (by omega) o h ho)
  unfold StC at H ⊢
  rw [done_last q] at H ⊢
  iintro ⟨#HR, HO, HQ, ⟨H1, HD⟩, Hout, HZ⟩
  unfold R2D rP at H ⊢
  icases H1 with ⟨Hx, Ha⟩
  iapply (wp_load_rect 𝒱₀ (c : Thread nD τ) none Set.univ (m := rM) (r := Rect.unit (s := S4x7x128x256) o S1x1x128x256.size h) (subset_of_eq e)) $$ Hx
  iintro Hx
  iapply H
  iframe #; iframe Hx Ha HO HQ HD Hout HZ

/-- The unused load of the result's buffer. -/
theorem cdead_step {c : Dev nD} {q n : ℕ} {R : sProp 𝕄} {α : Type} {Q : α → sProp 𝕄} {k : (S128x256.Idx → Elt F .f32) → Prog (TpuEff nD τ sig (Elt F) Λ₀ .tc) α} {o : Fin 2 → ℕ} {h hl}
    (H : ∀ v, StC m c q n R ⊢ wpc c (k v) Q) :
    StC m c q n R ⊢ wpc c (.op (.load oM (Rect.unit (s := S4096x256) o S128x256.size h).toLoadRect hl) k) Q := by
  unfold StC at H ⊢
  iintro ⟨#HR, HO, HQ, HD, Hout, HZ⟩
  iapply (outdead_rule m) $$ Hout
  iintro %v Hout
  iapply (H v)
  iframe #; iframe HO HQ HD Hout HZ

/-- A received piece is stored. -/
theorem cstore_step {c : Dev nD} {q n : ℕ} {R : sProp 𝕄} {α : Type} {Q : α → sProp 𝕄} {k : PUnit → Prog (TpuEff nD τ sig (Elt F) Λ₀ .tc) α} {o : Fin 2 → ℕ} {h hx hm} {w : S128x256.Idx → Elt F .f32}
    (ho : o = ![(n / 7 * 8 + kk c (7 - n % 7)) * 128, 0]) (hw : w = k0_pay5 (blkv m c (n / 7 * 8 + kk c (7 - n % 7))))
    (H : StC m c q (n + 1) R ⊢ wpc c (k ⟨⟩) Q) :
    StC m c q n R ⊢ wpc c (.op (.store oM (Rect.unit (s := S4096x256) o S128x256.size h) w Finset.univ hx hm) k) Q := by
  unfold StC at H ⊢
  iintro ⟨#HR, HO, HQ, HD, Hout, HZ⟩
  iapply (outstore_rule m (D' := Dn c 4 (n + 1)) ho hw (by
    rintro x (⟨i, hi, rfl⟩ | ⟨i, hi, rfl⟩)
    · exact .inl (.inl ⟨i, hi, rfl⟩)
    · by_cases h : i = n
      · exact .inr (h ▸ rfl)
      · exact .inl (.inr ⟨i, by omega, rfl⟩))) $$ Hout
  iintro Hout
  iapply H
  iframe #; iframe HO HQ HD Hout HZ

/-! ## The sends' completions -/

/-- The `i`-th block's transfer, under way and over. -/
def W1 (c : Dev nD) (i : ℕ) : sProp 𝕄 := iprop(P1W (F := F) c i ∗ atPos ER (dc c (5 + i)) 0 ∅ 0)
def W1D (c : Dev nD) (i : ℕ) : sProp 𝕄 := iprop(xP c (xset (zz c 0)) (qs (i + 1)) (XG m c) ∗ atPos ER (dc c (5 + i)) 1 ∅ 0)
/-- The `q`-th piece's transfer, under way and over. -/
def W2 (c : Dev nD) (q : ℕ) : sProp 𝕄 := iprop(P2W (F := F) c q ∗ atPos ER (dc c (12 + qn c q)) 0 ∅ 0)
def W2D (c : Dev nD) (q : ℕ) : sProp 𝕄 := iprop(PC m c (q / 7) (q % 7) ∗ atPos ER (dc c (12 + qn c q)) 1 ∅ 0)

/-- What device `c` holds while it awaits its sends: `p` blocks and `q` pieces have left. -/
def StD (c : Dev nD) (p q : ℕ) (R : sProp 𝕄) : sProp 𝕄 :=
  iprop(Rec m ∗ ow c 10 ∗ bigSep (Finset.Ico p 3) (W1 (F := F) c) ∗ bigSep (Finset.range p) (W1D m c) ∗ bigSep (Finset.Ico q 28) (W2 (F := F) c) ∗ bigSep (Finset.range q) (W2D m c) ∗ R)

/-- A block has left. -/
theorem w1_step {c : Dev nD} {p q : ℕ} {R : sProp 𝕄} {α : Type} {Q : α → sProp 𝕄} {k : PUnit → Prog (TpuEff nD τ sig (Elt F) Λ₀ .tc) α}
    {se : DmaSem sig} {o : Fin 3 → ℕ} {h hq} {sp : Space} {s' : Shape} {e : EltTy} {src : Memref sig .tc sp s' e} {hsrc hdst}
    (hr : p < 3) (hS : se = ds (5 + p))
    (H : StD m c (p + 1) q R ⊢ wpc c (k ⟨⟩) Q) :
    StD m c p q R ⊢ wpc c (.op (.waitDma2 se src (xV o h hq) hsrc hdst) k) Q := by
  subst hS
  have hz0 := zz_lt c 0
  unfold StD at H ⊢
  rw [todo_head hr]; rw [done_last p] at H
  iintro ⟨#HR, HO, ⟨H1, HP⟩, HPD, HQ, HD, HZ⟩
  ihave H1 := (Entails.of_eq (show W1 (F := F) c p = iprop(cred (tallyAt (dc c (5 + p)) () (xV o h hq).view.dmaCredit) ∗ atPos ER (dc c (5 + p)) 0 ∅ 0) by
    unfold W1 P1W; rw [NX_eq])) $$ H1
  icases H1 with ⟨Hc, Ha⟩
  iapply (wait_rule m c (.dma (ds (5 + p))) (csem_dma _ (by omega) (by omega)) (w := .waitDma2 (ds (5 + p)) src (xV o h hq) hsrc hdst) (wpE_waitDma2_eq 𝒱₀ (c : Thread nD τ) none Set.univ)
    ((NX_eq o h hq).trans ((expect_dma m c _ (by omega) (by omega) (by omega)).trans (dmaAmt_X _ (by omega) (by omega))).symm) 0 10
    (by rw [lvS_dma _ (by omega), if_pos (by omega)])
    (fun i hi => by unfold lvl; split_ifs <;> omega)) $$ [HO Hc Ha]
  · iframe #; iframe HO Hc Ha
  iintro ⟨HO, Ha, Hp⟩
  ihave Hp := (Entails.of_eq ((rest_dma m c _ (by omega) (by omega) (by omega)).trans (dmaPay_p1s m c p hr))) $$ Hp
  iapply H
  iframe #; iframe HO HP HPD HQ HD HZ
  unfold W1D p1sPay
  iframe Hp Ha

/-- A piece has left. -/
theorem w2_step {c : Dev nD} {p q : ℕ} {R : sProp 𝕄} {α : Type} {Q : α → sProp 𝕄} {k : PUnit → Prog (TpuEff nD τ sig (Elt F) Λ₀ .tc) α}
    {se : DmaSem sig} {o : Fin 3 → ℕ} {h hq'} {sp : Space} {s' : Shape} {e : EltTy} {src : Memref sig .tc sp s' e} {hsrc hdst}
    (hr : q < 28) (hS : se = ds (12 + qn c q))
    (H : StD m c p (q + 1) R ⊢ wpc c (k ⟨⟩) Q) :
    StD m c p q R ⊢ wpc c (.op (.waitDma2 se src (gV o h hq') hsrc hdst) k) Q := by
  subst hS
  have hz0 := zz_lt c 0; have hqn := qn_lt c q; have hz := zz_lt c (q / 7)
  have hd : q % 7 < 7 := Nat.mod_lt _ (by decide)
  unfold StD at H ⊢
  rw [todo_head hr]; rw [done_last q] at H
  iintro ⟨#HR, HO, HP, HPD, ⟨H1, HQ⟩, HD, HZ⟩
  ihave H1 := (Entails.of_eq (show W2 (F := F) c q = iprop(cred (tallyAt (dc c (12 + qn c q)) () (gV o h hq').view.dmaCredit) ∗ atPos ER (dc c (12 + qn c q)) 0 ∅ 0) by
    unfold W2 P2W; rw [NS_eq'])) $$ H1
  icases H1 with ⟨Hc, Ha⟩
  iapply (wait_rule m c (.dma (ds (12 + qn c q))) (csem_dma _ (by omega) (by omega)) (w := .waitDma2 (ds (12 + qn c q)) src (gV o h hq') hsrc hdst) (wpE_waitDma2_eq 𝒱₀ (c : Thread nD τ) none Set.univ)
    ((NS_eq' o h hq').trans ((expect_dma m c _ (by omega) (by omega) (by omega)).trans (dmaAmt_S _ (by omega))).symm) 0 10
    (by rw [lvS_dma _ (by omega), if_neg (by omega), if_neg (by omega), if_pos (by omega)])
    (fun i hi => by unfold lvl; split_ifs <;> omega)) $$ [HO Hc Ha]
  · iframe #; iframe HO Hc Ha
  iintro ⟨HO, Ha, Hp⟩
  ihave Hp := (Entails.of_eq ((rest_dma m c _ (by omega) (by omega) (by omega)).trans (show dmaPay m c (12 + qn c q) = p2sPay m c (zz c (q / 7)) (q % 7) from dmaPay_p2s m c _ _ hz hd))) $$ Hp
  iapply H
  iframe #; iframe HO HP HPD HQ HD HZ
  unfold W2D p2sPay PC
  iframe Hp Ha

/-! ## The exit -/

/-- What device `c` holds while it leaves: `j` payments to come, `b` exit signals sent. -/
def StE (c : Dev nD) (j b : ℕ) (R : sProp 𝕄) : sProp 𝕄 :=
  iprop(Rec m ∗ ow c j ∗ (bigSep (Finset.Ico b 10) fun i => dutyTok ER (rc (pe i c) 1) 0 (opp i)) ∗ R)

/-- An exit signal. -/
theorem ex_step {c t : Dev nD} {j b : ℕ} {R : sProp 𝕄} {α : Type} {Q : α → sProp 𝕄} {k : PUnit → Prog (TpuEff nD τ sig (Elt F) Λ₀ .tc) α} {s : Sem sig} {a : ℤ} (hb : b < 10) (hj : j + b = 9) (ht : t = pe b c) (hs : s = (1 : Fin 2)) (ha : a = 1)
    (H : StE m c j (b + 1) R ⊢ wpc c (k ⟨⟩) Q) :
    StE m c (j + 1) b R ⊢ wpc c (.op (.semSignal (t : Thread nD τ) s a) k) Q := by
  subst ht hs ha
  unfold StE at H ⊢
  rw [todo_head hb]
  iintro ⟨#HR, HO, ⟨Ht, HB⟩, HZ⟩
  iapply (sig_rule m c (pe b c) j 1 (opp b) (lc_exit c b j hj) (opp_lt b hb)) $$ [HO Ht]
  · rw [payload_exit]; iframe #; iframe HO Ht
  iintro HO
  iapply H
  iframe #; iframe HO HB HZ

/-- The exit wait. -/
theorem exwait_step {c : Dev nD} {R : sProp 𝕄} {α : Type} {Q : α → sProp 𝕄} {k : PUnit → Prog (TpuEff nD τ sig (Elt F) Λ₀ .tc) α} {s : Sem sig} {a : ℤ} (hs : s = (1 : Fin 2)) (ha : a = 10)
    (H : StE m c 0 10 iprop(atPos ER (rc c 1) 1 ∅ 0 ∗ R) ⊢ wpc c (k ⟨⟩) Q) :
    StE m c 0 10 iprop((cred (tallyAt (rc c 1) () 10) ∗ atPos ER (rc c 1) 0 ∅ 0) ∗ R) ⊢ wpc c (.op (.semWait s a) k) Q := by
  subst hs ha
  unfold StE at H ⊢
  iintro ⟨#HR, HO, HB, ⟨Hc, Ha⟩, HZ⟩
  iapply (wait_rule m c (.reg 1) (csem_reg 1) (w := .semWait (1 : Fin 2) 10) (k' := 10) (wpE_semWait_eq 𝒱₀ (c : Thread nD τ) none Set.univ)
    (expect_reg m c 1).symm 4 0 (by decide) (fun i hi => absurd hi (Nat.not_lt_zero i))) $$ [HO Hc Ha]
  · iframe #; iframe HO Hc Ha
  iintro ⟨HO, Ha, -⟩
  iapply H
  iframe #; iframe HO HB Ha HZ

end Cert.A2A
-- ==== Proof.Parts.lean ====
/-
# The program's first parts
-/
module

public import proofs.«01_k».proof.Proof.Phases

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Parts of the program -/

/-- A part of the program at the kernel's own buffers and semaphores. -/
abbrev app {β : Type*} (f : (a0 : Memref sig .tc .vmem S128x4096 .f32) → a0.IsWhole → (a1 : Memref sig .tc .hbm S4096x8192 .f32) → a1.IsWhole
    → (a2 : Memref sig .tc .smem S1 .f32) → a2.IsWhole → (a3 : Memref sig .tc .smem S1 .f32) → a3.IsWhole
    → (a4 : Memref sig .tc .vmem S4096x256 .f32) → a4.IsWhole → (a5 : Memref sig .tc .vmem S4096x2048 .f32) → a5.IsWhole
    → (a6 : Memref sig .tc .vmem S4x128x4096 .fp8e5m2) → a6.IsWhole → (a7 : Memref sig .tc .vmem S4x128x2048 .bf16) → a7.IsWhole
    → (a8 : Memref sig .tc .vmem S4x7x128x256 .bf16) → a8.IsWhole
    → DmaSems sig S_ → DmaSems sig S3 → DmaSems sig S4 → DmaSems sig S4x7 → DmaSems sig S4x7 → Sems sig S_ → β) : β :=
  f xbM (Memref.isWhole_whole _) wM (Memref.isWhole_whole _) sxM (Memref.isWhole_whole _) swM (Memref.isWhole_whole _) oM (Memref.isWhole_whole _)
    wbM (Memref.isWhole_whole _) xM (Memref.isWhole_whole _) gM (Memref.isWhole_whole _) rM (Memref.isWhole_whole _)
    cc0_scratch4 cc0_scratch5 cc0_scratch6 cc0_scratch7 cc0_scratch8 cc0_scoped0

/-- The end of a part. -/
theorem done_step {c : Dev nD} {A : sProp 𝕄} {α : Type} {Q : α → sProp 𝕄} {r : α} (H : A ⊢ Q r) : A ⊢ wpc c (.ret r) Q := by
  unfold wpc; rw [wp_ret]; exact H.trans fupd_intro
/-- A part, then the rest. -/
theorem seq_step {c : Dev nD} {A : sProp 𝕄} {α β : Type} {p : Prog (TpuEff nD τ sig (Elt F) Λ₀ .tc) α} {f : α → Prog (TpuEff nD τ sig (Elt F) Λ₀ .tc) β} {Q : β → sProp 𝕄}
    {B : α → sProp 𝕄} (h : A ⊢ wpc c p B) (h' : ∀ r, B r ⊢ wpc c (f r) Q) : A ⊢ wpc c (p >>= f) Q := by
  unfold wpc; rw [wp_bind]
  exact h.trans (wp_mono _ _ _ h')
/-- A fact held beside an assertion may be used in what follows. -/
theorem fact_step {φ : Prop} {A B : sProp 𝕄} (h : φ → A ⊢ B) : iprop(⌜φ⌝ ∗ A) ⊢ B := by
  iintro ⟨%hφ, H⟩
  iapply (h hφ) $$ H

/-! ### Semaphores and devices -/

/-- The semaphore for the `q`-th piece having been sent, as the program names it. -/
theorem s7 (c : Dev nD) (q : ℕ) (hq : q < 28) (o : Fin 2 → ℕ) (h h') (ho : o = ![zz c (q / 7), q % 7]) :
    ((cc0_scratch7.slice (Rect.unit (s := S4x7) o S1x1.size h)).squeeze S_ h').sem = ds (12 + qn c q) :=
  sem7 ⟨zz c (q / 7), zz_lt c _⟩ ⟨q % 7, Nat.mod_lt _ (by decide)⟩ o h h' ho
/-- The semaphore at the target for the `q`-th piece having been received, as the program names it. -/
theorem s8 (c : Dev nD) (q : ℕ) (hq : q < 28) (o : Fin 2 → ℕ) (h h') (ho : o = ![zz c (q / 7), q % 7]) :
    ((cc0_scratch8.slice (Rect.unit (s := S4x7) o S1x1.size h)).squeeze S_ h').sem = ds (40 + qn c q) :=
  sem8 ⟨zz c (q / 7), zz_lt c _⟩ ⟨q % 7, Nat.mod_lt _ (by decide)⟩ o h h' ho
/-- The semaphore for the block of the plane `i` above, as the program names it. -/
theorem s6 (c : Dev nD) (i : ℕ) (o : Fin 1 → ℕ) (h h') (ho : o = ![zz c i]) :
    ((cc0_scratch6.slice (Rect.unit (s := S4) o S1.size h)).squeeze S_ h').sem = ds (8 + zz c i) :=
  sem6 ⟨zz c i, zz_lt c _⟩ o h h' ho

/-! ### The entry -/

/-- Part 1: the second operand's load is started and the staged block is read. -/
theorem part1 (c : Dev nD) (R : sProp 𝕄) : StA m c 51 0 (LW0 m c) (OW0 c) R ⊢ wpc c (app (k0_part1 (F := F)))
    fun r => iprop(⌜r.1 = c ∧ r.2.2.2.2 = k0_pay1 (xstg m c)⌝ ∗ StA m c 51 0 (LW c) (OW0 c) R) := by
  unfold app; rw [k0_part1_eq_skeleton]; unfold k0_part1_skel
  simp only [Prog.lift, Prog.bind_op, Prog.bind_ret, Prog.pure_eq_ret, wp_deviceId]
  refine copy_step m sem_load ?_
  refine x_step m ?_
  refine done_step ?_
  iintro H; iframe H; ipureintro; exact ⟨rfl, rfl⟩

/-- Part 2: the device's own slot is filled and two entry signals are sent. -/
theorem part2 (c : Dev nD) (v19 v29) (R : sProp 𝕄) : StA m c 51 0 (LW c) (OW0 c) R ⊢ wpc c (app (k0_part2 (F := F)) c v19 v29 (k0_pay1 (xstg m c)))
    fun r => iprop(⌜r.sem = (0 : Fin 2)⌝ ∗ StA m c 49 2 (LW c) (OW1 m c) R) := by
  unfold app; rw [k0_part2_eq_skeleton]; unfold k0_part2_skel
  simp only [semSignalWord, semWaitWord, Prog.lift, Prog.bind_op, Prog.bind_ret, Prog.pure_eq_ret]
  refine xdead_step m (off2_eq c) fun _ => ?_
  refine xstore_step m (off2_eq c) (by unfold xslot; rw [devAt_self]) ?_
  refine bar_step m (by decide) rfl (Fin.ext (dev1_eq c)) sem_bar rfl ?_
  refine bar_step m (by decide) rfl (Fin.ext (dev2_eq c)) sem_bar rfl ?_
  refine done_step ?_
  iintro H; iframe H; ipureintro; exact sem_bar

/-- Part 3: from 2 to 4 entry signals sent. -/
theorem part3 (c : Dev nD) (W O R : sProp 𝕄) (v : Sems sig S_) (hv : v.sem = (0 : Fin 2)) (a1 a2 a3) : StA m c 49 2 W O R ⊢ wpc c (app (k0_part3 (F := F)) c a1 a2 a3 v) fun _ => StA m c 47 4 W O R := by
  unfold app; rw [k0_part3_eq_skeleton]; unfold k0_part3_skel
  simp only [semSignalWord, semWaitWord, Prog.lift, Prog.bind_op, Prog.bind_ret, Prog.pure_eq_ret]
  refine bar_step m (by decide) rfl (Fin.ext (dev3_eq c)) hv rfl ?_
  refine bar_step m (by decide) rfl (Fin.ext (dev4_eq c)) hv rfl ?_
  exact done_step (Entails.refl _)

/-- Part 4: from 4 to 6 entry signals sent. -/
theorem part4 (c : Dev nD) (W O R : sProp 𝕄) (v : Sems sig S_) (hv : v.sem = (0 : Fin 2)) (a1 a2 a3 a4) : StA m c 47 4 W O R ⊢ wpc c (app (k0_part4 (F := F)) c a1 a2 v a3 a4) fun _ => StA m c 45 6 W O R := by
  unfold app; rw [k0_part4_eq_skeleton]; unfold k0_part4_skel
  simp only [semSignalWord, semWaitWord, Prog.lift, Prog.bind_op, Prog.bind_ret, Prog.pure_eq_ret]
  refine bar_step m (by decide) rfl (Fin.ext (dev5_eq c)) hv rfl ?_
  refine bar_step m (by decide) rfl (Fin.ext (dev6_eq c)) hv rfl ?_
  exact done_step (Entails.refl _)

/-- Part 5: from 6 to 9 entry signals sent. -/
theorem part5 (c : Dev nD) (W O R : sProp 𝕄) (v : Sems sig S_) (hv : v.sem = (0 : Fin 2)) (a1 a2 a3) : StA m c 45 6 W O R ⊢ wpc c (app (k0_part5 (F := F)) c a1 a2 v a3) fun _ => StA m c 42 9 W O R := by
  unfold app; rw [k0_part5_eq_skeleton]; unfold k0_part5_skel
  simp only [semSignalWord, semWaitWord, Prog.lift, Prog.bind_op, Prog.bind_ret, Prog.pure_eq_ret]
  refine bar_step m (by decide) rfl (Fin.ext (dev7_eq c)) hv rfl ?_
  refine bar_step m (by decide) rfl (Fin.ext (dev8_eq c)) hv rfl ?_
  refine bar_step m (by decide) rfl (Fin.ext (dev9_eq c)) hv rfl ?_
  exact done_step (Entails.refl _)

/-- What is held but not used before the barrier is passed. -/
def Bar (c : Dev nD) (R : sProp 𝕄) : sProp 𝕄 :=
  iprop((cred (tallyAt (rc c 0) () 10) ∗ atPos ER (rc c 0) 0 ∅ 0)
        ∗ bigSep (Finset.range 3) (T1 (F := F) c) ∗ bigSep (Finset.range 3) (R1 (F := F) c) ∗ bigSep (Finset.range 4) (STI (F := F) c)
        ∗ bigSep (Finset.range 28) (T2 (F := F) c) ∗ OUTs m c (Dn c 0 0) ∗ sxP m c ∗ swP m c ∗ R)

/-- What is held but not used once it is. -/
def Pst (c : Dev nD) (R : sProp 𝕄) : sProp 𝕄 := iprop(xsP m c ∗ atPos ER (rc c 0) 1 ∅ 0 ∗ R)

/-- Part 6: the last entry signal is sent and the entry barrier is passed. -/
theorem part6 (c : Dev nD) (R : sProp 𝕄) (v : Sems sig S_) (hv : v.sem = (0 : Fin 2)) (a1 a2 a3 a4 a5) : StA m c 42 9 (LW c) (OW1 m c) (Bar m c R) ⊢ wpc c (app (k0_part6 (F := F)) c a1 a2 a3 v a4 a5) fun _ => StB m c 41 0 0 0 7 0 0 (LW c) (Pst m c R) := by
  unfold app; rw [k0_part6_eq_skeleton]; unfold k0_part6_skel
  simp only [semSignalWord, semWaitWord, Prog.lift, Prog.bind_op, Prog.bind_ret, Prog.pure_eq_ret]
  refine bar_step m (by decide) rfl (Fin.ext (dev10_eq c)) hv rfl ?_
  refine barwait_step m hv rfl ?_
  exact done_step (Entails.refl _)

/-! ### The block along the first axis -/

/-- Part 7: from 0 to 2 blocks sent. -/
theorem part7 (c : Dev nD) (W R : sProp 𝕄) (a1 a2) : StB m c 41 0 0 0 7 0 0 W R ⊢ wpc c (app (k0_part7 (F := F)) c a1 a2) fun _ => StB m c 39 2 0 0 7 0 0 W R := by
  unfold app; rw [k0_part7_eq_skeleton]; unfold k0_part7_skel
  simp only [Prog.lift, Prog.bind_op, Prog.bind_ret, Prog.pure_eq_ret]
  refine p1_step m (by decide) rfl (Fin.ext (dev11_eq c)) (off4_eq c) (sem5 ⟨0, by decide⟩ _ _ _ rfl) (s6 c 0 _ _ _ (off3_eq c)) ?_
  refine p1_step m (by decide) rfl (Fin.ext (dev12_eq c)) (off4_eq c) (sem5 ⟨1, by decide⟩ _ _ _ rfl) (s6 c 0 _ _ _ (off3_eq c)) ?_
  exact done_step (Entails.refl _)

/-- Part 8: the last block is sent, the scales are read, the load is awaited, and the device's own slot is computed. -/
theorem part8 (c : Dev nD) (R : sProp 𝕄) (a1 a2 a3 a4 a5) : StB m c 39 2 0 0 7 0 0 (LW c) R ⊢ wpc c (app (k0_part8 (F := F)) c a1 a2 a3 a4 a5)
    fun r => iprop(⌜r.1 = k0_pay3 (sxv m c) (swv m c)⌝ ∗ StB m c 38 3 0 1 0 0 0 (LWD m c) R) := by
  unfold app; rw [k0_part8_eq_skeleton]; unfold k0_part8_skel
  simp only [smemLoad, smemLoadElt, Prog.lift, Prog.bind_op, Prog.bind_ret, Prog.pure_eq_ret]
  refine p1_step m (by decide) rfl (Fin.ext (dev13_eq c)) (off4_eq c) (sem5 ⟨2, by decide⟩ _ _ _ rfl) (s6 c 0 _ _ _ (off3_eq c)) ?_
  refine sx_step m fun v hv => ?_
  refine sw_step m fun v' hv' => ?_
  simp only [hv, hv']
  refine ldw_step m (W := R) sem_load (by decide) ?_
  refine own_step m (off2_eq c) ?_
  refine wb_step m ?_
  refine sdead_step m (by decide) (off5_eq c) fun _ => ?_
  refine sstore_step m (by decide) rfl (off5_eq c) rfl ?_
  refine done_step ?_
  iintro H; iframe H; ipureintro; rfl

/-- A received block is multiplied. -/
theorem block_step {c : Dev nD} {j p r s d q n : ℕ} {R : sProp 𝕄} {α : Type} {Q : α → sProp 𝕄} {k : PUnit → Prog (TpuEff nD τ sig (Elt F) Λ₀ .tc) α}
    {se : DmaSem sig} {o1 : Fin 3 → ℕ} {h1 hq} {sp : Space} {s' : Shape} {e : EltTy} {src : Memref sig .tc sp s' e} {hsrc hdst}
    {o o' o'' : Fin 3 → ℕ} {h hl h2 hl2 h' hl' h'' hx hm} {w : (S1x128x4096.Idx → Elt F .fp8e5m2) → (S4096x2048.Idx → Elt F .f32) → S1x128x2048.Idx → Elt F .bf16}
    (hr : r < 3) (hj : j ≤ 38) (hsr : s = r + 1) (hd : d = 7) (hS : se = ds (8 + zz c (r + 1))) (ho : o = ![zz c (r + 1), 0, 0]) (ho' : o' = ![zz c s, 0, 0]) (ho'' : o'' = ![zz c s, 0, 0])
    (hw : w (xslot m c (zz c s)) (WB m c) = STGv m c (zz c s))
    (H : StB m c j p (r + 1) (s + 1) 0 q n (LWD m c) R ⊢ wpc c (k ⟨⟩) Q) :
    StB m c j p r s d q n (LWD m c) R ⊢ wpc c (.op (.waitDma2 se src (xV o1 h1 hq) hsrc hdst) fun _ =>
      .op (.load xM (Rect.unit (s := S4x128x4096) o S1x128x4096.size h).toLoadRect hl) fun x => .op (.load wbM (Rect.unit (s := S4096x2048) ![0, 0] S4096x2048.size h2).toLoadRect hl2) fun y =>
      .op (.load gM (Rect.unit (s := S4x128x2048) o' S1x128x2048.size h').toLoadRect hl') fun _ => .op (.store gM (Rect.unit (s := S4x128x2048) o'' S1x128x2048.size h'') (w x y) Finset.univ hx hm) k) Q := by
  refine r1_step m hr hj hS ?_
  refine blk_step m ho ?_
  refine wb_step m ?_
  refine sdead_step m (by omega) ho' fun _ => ?_
  exact sstore_step m (by omega) hd ho'' (hsr ▸ hw) H

/-- The device's own piece of a product goes into the result. -/
theorem own_out {c : Dev nD} {j p r s d q n : ℕ} {W R : sProp 𝕄} {α : Type} {Q : α → sProp 𝕄} {k : PUnit → Prog (TpuEff nD τ sig (Elt F) Λ₀ .tc) α}
    {o : Fin 3 → ℕ} {o' o'' : Fin 2 → ℕ} {h hl h' hl' h'' hx hm} {w : (S1x128x256.Idx → Elt F .bf16) → S128x256.Idx → Elt F .f32}
    (hs : s < 4) (hsn : s = n) (ho : o = ![zz c s, 0, kk c 0 * 256]) (ho'' : o'' = ![(zz c n * 8 + kk c 0) * 128, 0]) (hw : ∀ v, w v = k0_pay5 v)
    (H : StB m c j p r (s + 1) d q (n + 1) W R ⊢ wpc c (k ⟨⟩) Q) :
    StB m c j p r (s + 1) d q n W R ⊢ wpc c (.op (.load gM (Rect.unit (s := S4x128x2048) o S1x128x256.size h).toLoadRect hl) fun v =>
      .op (.load oM (Rect.unit (s := S4096x256) o' S128x256.size h').toLoadRect hl') fun _ => .op (.store oM (Rect.unit (s := S4096x256) o'' S128x256.size h'') (w v) Finset.univ hx hm) k) Q := by
  refine opc_step m hs ho ?_
  refine odead_step m fun _ => ?_
  exact ostore_step m ho'' (by rw [hw, hsn]) H

/-- Part 9: from 0 to 1 pieces sent. -/
theorem part9 (c : Dev nD) (W R : sProp 𝕄) (a1 a2 a3 a4 a5) : StB m c 38 3 0 1 0 0 0 W R ⊢ wpc c (app (k0_part9 (F := F)) c a1 a2 a3 a4 a5) fun _ => StB m c 37 3 0 1 1 1 0 W R := by
  unfold app; rw [k0_part9_eq_skeleton]; unfold k0_part9_skel
  simp only [Prog.lift, Prog.bind_op, Prog.bind_ret, Prog.pure_eq_ret]
  refine p2_step m (by decide) rfl rfl rfl (Fin.ext (dev14_eq c)) (off7_eq c) (off8_eq c 0) (s7 c 0 (by decide) _ _ _ (off6_eq c)) (s8 c 0 (by decide) _ _ _ (off6_eq c)) ?_
  exact done_step (Entails.refl _)

/-- Part 10: from 1 to 3 pieces sent. -/
theorem part10 (c : Dev nD) (W R : sProp 𝕄) (a1 a2) : StB m c 37 3 0 1 1 1 0 W R ⊢ wpc c (app (k0_part10 (F := F)) c a1 a2) fun _ => StB m c 35 3 0 1 3 3 0 W R := by
  unfold app; rw [k0_part10_eq_skeleton]; unfold k0_part10_skel
  simp only [Prog.lift, Prog.bind_op, Prog.bind_ret, Prog.pure_eq_ret]
  refine p2_step m (by decide) rfl rfl rfl (Fin.ext (dev15_eq c)) (off10_eq c) (off8_eq c 1) (s7 c 1 (by decide) _ _ _ (off9_eq c)) (s8 c 1 (by decide) _ _ _ (off9_eq c)) ?_
  refine p2_step m (by decide) rfl rfl rfl (Fin.ext (dev16_eq c)) (off12_eq c) (off8_eq c 2) (s7 c 2 (by decide) _ _ _ (off11_eq c)) (s8 c 2 (by decide) _ _ _ (off11_eq c)) ?_
  exact done_step (Entails.refl _)

/-- Part 11: from 3 to 4 pieces sent. -/
theorem part11 (c : Dev nD) (W R : sProp 𝕄) (a1 a2 a3 a4 a5) : StB m c 35 3 0 1 3 3 0 W R ⊢ wpc c (app (k0_part11 (F := F)) c a1 a2 a3 a4 a5) fun _ => StB m c 34 3 0 1 4 4 0 W R := by
  unfold app; rw [k0_part11_eq_skeleton]; unfold k0_part11_skel
  simp only [Prog.lift, Prog.bind_op, Prog.bind_ret, Prog.pure_eq_ret]
  refine p2_step m (by decide) rfl rfl rfl (Fin.ext (dev17_eq c)) (off14_eq c) (off8_eq c 3) (s7 c 3 (by decide) _ _ _ (off13_eq c)) (s8 c 3 (by decide) _ _ _ (off13_eq c)) ?_
  exact done_step (Entails.refl _)

/-- Part 12: from 4 to 6 pieces sent. -/
theorem part12 (c : Dev nD) (W R : sProp 𝕄) (a1 a2) : StB m c 34 3 0 1 4 4 0 W R ⊢ wpc c (app (k0_part12 (F := F)) c a1 a2) fun _ => StB m c 32 3 0 1 6 6 0 W R := by
  unfold app; rw [k0_part12_eq_skeleton]; unfold k0_part12_skel
  simp only [Prog.lift, Prog.bind_op, Prog.bind_ret, Prog.pure_eq_ret]
  refine p2_step m (by decide) rfl rfl rfl (Fin.ext (dev18_eq c)) (off16_eq c) (off8_eq c 4) (s7 c 4 (by decide) _ _ _ (off15_eq c)) (s8 c 4 (by decide) _ _ _ (off15_eq c)) ?_
  refine p2_step m (by decide) rfl rfl rfl (Fin.ext (dev19_eq c)) (off18_eq c) (off8_eq c 5) (s7 c 5 (by decide) _ _ _ (off17_eq c)) (s8 c 5 (by decide) _ _ _ (off17_eq c)) ?_
  exact done_step (Entails.refl _)

/-- Part 13: from 6 to 7 pieces sent, from 0 to 1 own pieces stored. -/
theorem part13 (c : Dev nD) (W R : sProp 𝕄) (a1 a2 a3 a4 a5 a6) : StB m c 32 3 0 1 6 6 0 W R ⊢ wpc c (app (k0_part13 (F := F)) c a1 a2 a3 a4 a5 a6) fun _ => StB m c 31 3 0 1 7 7 1 W R := by
  unfold app; rw [k0_part13_eq_skeleton]; unfold k0_part13_skel
  simp only [Prog.lift, Prog.bind_op, Prog.bind_ret, Prog.pure_eq_ret]
  refine p2_step m (by decide) rfl rfl rfl (Fin.ext (dev20_eq c)) (off20_eq c) (off8_eq c 6) (s7 c 6 (by decide) _ _ _ (off19_eq c)) (s8 c 6 (by decide) _ _ _ (off19_eq c)) ?_
  refine own_out m (by decide) rfl (off21_eq c) (off22_eq c) (fun _ => rfl) ?_
  exact done_step (Entails.refl _)

/-! ### The second block -/

/-- Part 14: from 0 to 1 blocks received, from 1 to 2 slots computed. -/
theorem part14 (c : Dev nD) (R : sProp 𝕄) (a1 a2) (hv : a2 = k0_pay3 (sxv m c) (swv m c)) (a3 a4 a5 a6) : StB m c 31 3 0 1 7 7 1 (LWD m c) R ⊢ wpc c (app (k0_part14 (F := F)) c a1 a2 a3 a4 a5 a6) fun _ => StB m c 31 3 1 2 0 7 1 (LWD m c) R := by
  unfold app; rw [k0_part14_eq_skeleton]; unfold k0_part14_skel
  subst hv
  simp only [Prog.lift, Prog.bind_op, Prog.bind_ret, Prog.pure_eq_ret]
  refine block_step m (by decide) (by decide) rfl rfl (s6 c 1 _ _ _ (off23_eq c 0)) (off25_eq c 0) (off26_eq c 0) (off26_eq c 0) rfl ?_
  exact done_step (Entails.refl _)

/-- Part 15: from 7 to 8 pieces sent. -/
theorem part15 (c : Dev nD) (W R : sProp 𝕄) (a1 a2 a3 a4 a5) : StB m c 31 3 1 2 0 7 1 W R ⊢ wpc c (app (k0_part15 (F := F)) c a1 a2 a3 a4 a5) fun _ => StB m c 30 3 1 2 1 8 1 W R := by
  unfold app; rw [k0_part15_eq_skeleton]; unfold k0_part15_skel
  simp only [Prog.lift, Prog.bind_op, Prog.bind_ret, Prog.pure_eq_ret]
  refine p2_step m (by decide) rfl rfl rfl (Fin.ext (dev21_eq c)) (off28_eq c 0) (off29_eq c 0 0) (s7 c 7 (by decide) _ _ _ (off27_eq c 0)) (s8 c 7 (by decide) _ _ _ (off27_eq c 0)) ?_
  exact done_step (Entails.refl _)

/-- Part 16: from 8 to 10 pieces sent. -/
theorem part16 (c : Dev nD) (W R : sProp 𝕄) (a1 a2) : StB m c 30 3 1 2 1 8 1 W R ⊢ wpc c (app (k0_part16 (F := F)) c a1 a2) fun _ => StB m c 28 3 1 2 3 10 1 W R := by
  unfold app; rw [k0_part16_eq_skeleton]; unfold k0_part16_skel
  simp only [Prog.lift, Prog.bind_op, Prog.bind_ret, Prog.pure_eq_ret]
  refine p2_step m (by decide) rfl rfl rfl (Fin.ext (dev22_eq c)) (off31_eq c 0) (off29_eq c 0 1) (s7 c 8 (by decide) _ _ _ (off30_eq c 0)) (s8 c 8 (by decide) _ _ _ (off30_eq c 0)) ?_
  refine p2_step m (by decide) rfl rfl rfl (Fin.ext (dev23_eq c)) (off33_eq c 0) (off29_eq c 0 2) (s7 c 9 (by decide) _ _ _ (off32_eq c 0)) (s8 c 9 (by decide) _ _ _ (off32_eq c 0)) ?_
  exact done_step (Entails.refl _)

/-- Part 17: from 10 to 11 pieces sent. -/
theorem part17 (c : Dev nD) (W R : sProp 𝕄) (a1 a2 a3 a4 a5) : StB m c 28 3 1 2 3 10 1 W R ⊢ wpc c (app (k0_part17 (F := F)) c a1 a2 a3 a4 a5) fun _ => StB m c 27 3 1 2 4 11 1 W R := by
  unfold app; rw [k0_part17_eq_skeleton]; unfold k0_part17_skel
  simp only [Prog.lift, Prog.bind_op, Prog.bind_ret, Prog.pure_eq_ret]
  refine p2_step m (by decide) rfl rfl rfl (Fin.ext (dev24_eq c)) (off35_eq c 0) (off29_eq c 0 3) (s7 c 10 (by decide) _ _ _ (off34_eq c 0)) (s8 c 10 (by decide) _ _ _ (off34_eq c 0)) ?_
  exact done_step (Entails.refl _)

/-- Part 18: from 11 to 13 pieces sent. -/
theorem part18 (c : Dev nD) (W R : sProp 𝕄) (a1 a2) : StB m c 27 3 1 2 4 11 1 W R ⊢ wpc c (app (k0_part18 (F := F)) c a1 a2) fun _ => StB m c 25 3 1 2 6 13 1 W R := by
  unfold app; rw [k0_part18_eq_skeleton]; unfold k0_part18_skel
  simp only [Prog.lift, Prog.bind_op, Prog.bind_ret, Prog.pure_eq_ret]
  refine p2_step m (by decide) rfl rfl rfl (Fin.ext (dev25_eq c)) (off37_eq c 0) (off29_eq c 0 4) (s7 c 11 (by decide) _ _ _ (off36_eq c 0)) (s8 c 11 (by decide) _ _ _ (off36_eq c 0)) ?_
  refine p2_step m (by decide) rfl rfl rfl (Fin.ext (dev26_eq c)) (off39_eq c 0) (off29_eq c 0 5) (s7 c 12 (by decide) _ _ _ (off38_eq c 0)) (s8 c 12 (by decide) _ _ _ (off38_eq c 0)) ?_
  exact done_step (Entails.refl _)

/-- Part 19: from 13 to 14 pieces sent, from 1 to 2 own pieces stored. -/
theorem part19 (c : Dev nD) (W R : sProp 𝕄) (a1 a2 a3 a4 a5 a6 a7) : StB m c 25 3 1 2 6 13 1 W R ⊢ wpc c (app (k0_part19 (F := F)) c a1 a2 a3 a4 a5 a6 a7) fun _ => StB m c 24 3 1 2 7 14 2 W R := by
  unfold app; rw [k0_part19_eq_skeleton]; unfold k0_part19_skel
  simp only [Prog.lift, Prog.bind_op, Prog.bind_ret, Prog.pure_eq_ret]
  refine p2_step m (by decide) rfl rfl rfl (Fin.ext (dev27_eq c)) (off41_eq c 0) (off29_eq c 0 6) (s7 c 13 (by decide) _ _ _ (off40_eq c 0)) (s8 c 13 (by decide) _ _ _ (off40_eq c 0)) ?_
  refine own_out m (by decide) rfl (off42_eq c 0) (off43_eq c 0) (fun _ => rfl) ?_
  exact done_step (Entails.refl _)

/-! ### The third block -/

/-- Part 20: from 1 to 2 blocks received, from 2 to 3 slots computed. -/
theorem part20 (c : Dev nD) (R : sProp 𝕄) (a1 a2 a3) (hv : a3 = k0_pay3 (sxv m c) (swv m c)) (a4) : StB m c 24 3 1 2 7 14 2 (LWD m c) R ⊢ wpc c (app (k0_part20 (F := F)) c a1 a2 a3 a4) fun _ => StB m c 24 3 2 3 0 14 2 (LWD m c) R := by
  unfold app; rw [k0_part20_eq_skeleton]; unfold k0_part20_skel
  subst hv
  simp only [Prog.lift, Prog.bind_op, Prog.bind_ret, Prog.pure_eq_ret]
  refine block_step m (by decide) (by decide) rfl rfl (s6 c 2 _ _ _ (off23_eq c 1)) (off25_eq c 1) (off26_eq c 1) (off26_eq c 1) rfl ?_
  exact done_step (Entails.refl _)

/-- Part 21: from 14 to 16 pieces sent. -/
theorem part21 (c : Dev nD) (W R : sProp 𝕄) (a1 a2 a3) : StB m c 24 3 2 3 0 14 2 W R ⊢ wpc c (app (k0_part21 (F := F)) c a1 a2 a3) fun _ => StB m c 22 3 2 3 2 16 2 W R := by
  unfold app; rw [k0_part21_eq_skeleton]; unfold k0_part21_skel
  simp only [Prog.lift, Prog.bind_op, Prog.bind_ret, Prog.pure_eq_ret]
  refine p2_step m (by decide) rfl rfl rfl (Fin.ext (dev28_eq c)) (off28_eq c 1) (off29_eq c 1 0) (s7 c 14 (by decide) _ _ _ (off27_eq c 1)) (s8 c 14 (by decide) _ _ _ (off27_eq c 1)) ?_
  refine p2_step m (by decide) rfl rfl rfl (Fin.ext (dev29_eq c)) (off31_eq c 1) (off29_eq c 1 1) (s7 c 15 (by decide) _ _ _ (off30_eq c 1)) (s8 c 15 (by decide) _ _ _ (off30_eq c 1)) ?_
  exact done_step (Entails.refl _)

/-- Part 22: from 16 to 17 pieces sent. -/
theorem part22 (c : Dev nD) (W R : sProp 𝕄) (a1 a2 a3 a4) : StB m c 22 3 2 3 2 16 2 W R ⊢ wpc c (app (k0_part22 (F := F)) c a1 a2 a3 a4) fun _ => StB m c 21 3 2 3 3 17 2 W R := by
  unfold app; rw [k0_part22_eq_skeleton]; unfold k0_part22_skel
  simp only [Prog.lift, Prog.bind_op, Prog.bind_ret, Prog.pure_eq_ret]
  refine p2_step m (by decide) rfl rfl rfl (Fin.ext (dev30_eq c)) (off33_eq c 1) (off29_eq c 1 2) (s7 c 16 (by decide) _ _ _ (off32_eq c 1)) (s8 c 16 (by decide) _ _ _ (off32_eq c 1)) ?_
  exact done_step (Entails.refl _)

/-- Part 23: from 17 to 19 pieces sent. -/
theorem part23 (c : Dev nD) (W R : sProp 𝕄) (a1 a2 a3) : StB m c 21 3 2 3 3 17 2 W R ⊢ wpc c (app (k0_part23 (F := F)) c a1 a2 a3) fun _ => StB m c 19 3 2 3 5 19 2 W R := by
  unfold app; rw [k0_part23_eq_skeleton]; unfold k0_part23_skel
  simp only [Prog.lift, Prog.bind_op, Prog.bind_ret, Prog.pure_eq_ret]
  refine p2_step m (by decide) rfl rfl rfl (Fin.ext (dev31_eq c)) (off35_eq c 1) (off29_eq c 1 3) (s7 c 17 (by decide) _ _ _ (off34_eq c 1)) (s8 c 17 (by decide) _ _ _ (off34_eq c 1)) ?_
  refine p2_step m (by decide) rfl rfl rfl (Fin.ext (dev32_eq c)) (off37_eq c 1) (off29_eq c 1 4) (s7 c 18 (by decide) _ _ _ (off36_eq c 1)) (s8 c 18 (by decide) _ _ _ (off36_eq c 1)) ?_
  exact done_step (Entails.refl _)

/-- Part 24: from 19 to 20 pieces sent. -/
theorem part24 (c : Dev nD) (W R : sProp 𝕄) (a1 a2 a3 a4) : StB m c 19 3 2 3 5 19 2 W R ⊢ wpc c (app (k0_part24 (F := F)) c a1 a2 a3 a4) fun _ => StB m c 18 3 2 3 6 20 2 W R := by
  unfold app; rw [k0_part24_eq_skeleton]; unfold k0_part24_skel
  simp only [Prog.lift, Prog.bind_op, Prog.bind_ret, Prog.pure_eq_ret]
  refine p2_step m (by decide) rfl rfl rfl (Fin.ext (dev33_eq c)) (off39_eq c 1) (off29_eq c 1 5) (s7 c 19 (by decide) _ _ _ (off38_eq c 1)) (s8 c 19 (by decide) _ _ _ (off38_eq c 1)) ?_
  exact done_step (Entails.refl _)

/-- Part 25: from 20 to 21 pieces sent, from 2 to 3 own pieces stored. -/
theorem part25 (c : Dev nD) (W R : sProp 𝕄) (a1 a2 a3 a4) : StB m c 18 3 2 3 6 20 2 W R ⊢ wpc c (app (k0_part25 (F := F)) c a1 a2 a3 a4) fun _ => StB m c 17 3 2 3 7 21 3 W R := by
  unfold app; rw [k0_part25_eq_skeleton]; unfold k0_part25_skel
  simp only [Prog.lift, Prog.bind_op, Prog.bind_ret, Prog.pure_eq_ret]
  refine p2_step m (by decide) rfl rfl rfl (Fin.ext (dev34_eq c)) (off41_eq c 1) (off29_eq c 1 6) (s7 c 20 (by decide) _ _ _ (off40_eq c 1)) (s8 c 20 (by decide) _ _ _ (off40_eq c 1)) ?_
  refine own_out m (by decide) rfl (off42_eq c 1) (off43_eq c 1) (fun _ => rfl) ?_
  exact done_step (Entails.refl _)

/-! ### The fourth block -/

/-- Part 26: from 2 to 3 blocks received, from 3 to 4 slots computed. -/
theorem part26 (c : Dev nD) (R : sProp 𝕄) (a1 a2 a3) (hv : a3 = k0_pay3 (sxv m c) (swv m c)) (a4) : StB m c 17 3 2 3 7 21 3 (LWD m c) R ⊢ wpc c (app (k0_part26 (F := F)) c a1 a2 a3 a4) fun _ => StB m c 17 3 3 4 0 21 3 (LWD m c) R := by
  unfold app; rw [k0_part26_eq_skeleton]; unfold k0_part26_skel
  subst hv
  simp only [Prog.lift, Prog.bind_op, Prog.bind_ret, Prog.pure_eq_ret]
  refine block_step m (by decide) (by decide) rfl rfl (s6 c 3 _ _ _ (off23_eq c 2)) (off25_eq c 2) (off26_eq c 2) (off26_eq c 2) rfl ?_
  exact done_step (Entails.refl _)

/-- Part 27: from 21 to 23 pieces sent. -/
theorem part27 (c : Dev nD) (W R : sProp 𝕄) (a1 a2) : StB m c 17 3 3 4 0 21 3 W R ⊢ wpc c (app (k0_part27 (F := F)) c a1 a2) fun _ => StB m c 15 3 3 4 2 23 3 W R := by
  unfold app; rw [k0_part27_eq_skeleton]; unfold k0_part27_skel
  simp only [Prog.lift, Prog.bind_op, Prog.bind_ret, Prog.pure_eq_ret]
  refine p2_step m (by decide) rfl rfl rfl (Fin.ext (dev35_eq c)) (off28_eq c 2) (off29_eq c 2 0) (s7 c 21 (by decide) _ _ _ (off27_eq c 2)) (s8 c 21 (by decide) _ _ _ (off27_eq c 2)) ?_
  refine p2_step m (by decide) rfl rfl rfl (Fin.ext (dev36_eq c)) (off31_eq c 2) (off29_eq c 2 1) (s7 c 22 (by decide) _ _ _ (off30_eq c 2)) (s8 c 22 (by decide) _ _ _ (off30_eq c 2)) ?_
  exact done_step (Entails.refl _)

/-- Part 28: from 23 to 24 pieces sent. -/
theorem part28 (c : Dev nD) (W R : sProp 𝕄) (a1 a2 a3 a4 a5) : StB m c 15 3 3 4 2 23 3 W R ⊢ wpc c (app (k0_part28 (F := F)) c a1 a2 a3 a4 a5) fun _ => StB m c 14 3 3 4 3 24 3 W R := by
  unfold app; rw [k0_part28_eq_skeleton]; unfold k0_part28_skel
  simp only [Prog.lift, Prog.bind_op, Prog.bind_ret, Prog.pure_eq_ret]
  refine p2_step m (by decide) rfl rfl rfl (Fin.ext (dev37_eq c)) (off33_eq c 2) (off29_eq c 2 2) (s7 c 23 (by decide) _ _ _ (off32_eq c 2)) (s8 c 23 (by decide) _ _ _ (off32_eq c 2)) ?_
  exact done_step (Entails.refl _)

/-- Part 29: from 24 to 26 pieces sent. -/
theorem part29 (c : Dev nD) (W R : sProp 𝕄) (a1 a2) : StB m c 14 3 3 4 3 24 3 W R ⊢ wpc c (app (k0_part29 (F := F)) c a1 a2) fun _ => StB m c 12 3 3 4 5 26 3 W R := by
  unfold app; rw [k0_part29_eq_skeleton]; unfold k0_part29_skel
  simp only [Prog.lift, Prog.bind_op, Prog.bind_ret, Prog.pure_eq_ret]
  refine p2_step m (by decide) rfl rfl rfl (Fin.ext (dev38_eq c)) (off35_eq c 2) (off29_eq c 2 3) (s7 c 24 (by decide) _ _ _ (off34_eq c 2)) (s8 c 24 (by decide) _ _ _ (off34_eq c 2)) ?_
  refine p2_step m (by decide) rfl rfl rfl (Fin.ext (dev39_eq c)) (off37_eq c 2) (off29_eq c 2 4) (s7 c 25 (by decide) _ _ _ (off36_eq c 2)) (s8 c 25 (by decide) _ _ _ (off36_eq c 2)) ?_
  exact done_step (Entails.refl _)

/-- Part 30: from 26 to 27 pieces sent. -/
theorem part30 (c : Dev nD) (W R : sProp 𝕄) (a1 a2 a3 a4 a5) : StB m c 12 3 3 4 5 26 3 W R ⊢ wpc c (app (k0_part30 (F := F)) c a1 a2 a3 a4 a5) fun _ => StB m c 11 3 3 4 6 27 3 W R := by
  unfold app; rw [k0_part30_eq_skeleton]; unfold k0_part30_skel
  simp only [Prog.lift, Prog.bind_op, Prog.bind_ret, Prog.pure_eq_ret]
  refine p2_step m (by decide) rfl rfl rfl (Fin.ext (dev40_eq c)) (off39_eq c 2) (off29_eq c 2 5) (s7 c 26 (by decide) _ _ _ (off38_eq c 2)) (s8 c 26 (by decide) _ _ _ (off38_eq c 2)) ?_
  exact done_step (Entails.refl _)

end Cert.A2A
-- ==== Proof.Parts2.lean ====
module

public import proofs.«01_k».proof.Proof.Parts

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## From the sends to the receives -/

/-- What is held but not used while the pieces arrive. -/
def KC (c : Dev nD) (R : sProp 𝕄) : sProp 𝕄 :=
  iprop(bigSep (Finset.range 3) (P1W (F := F) c) ∗ bigSep (Finset.range 3) (R1D m c) ∗ xP c (xset (zz c 0)) (qs 0) (XG m c) ∗ bigSep (Finset.range 4) (OP m c)
    ∗ bigSep (Finset.range 28) (P2W (F := F) c) ∗ LWD m c ∗ sxP m c ∗ swP m c ∗ xsP m c ∗ atPos ER (rc c 0) 1 ∅ 0 ∗ R)

/-- What is held after the last send is what the receives start from. -/
theorem to_c (c : Dev nD) (R : sProp 𝕄) :
    StB m c 10 3 3 4 7 28 4 (LWD m c) (Pst m c iprop(bigSep (Finset.range 28) (R2 (F := F) c) ∗ R)) ⊢ StC m c 0 0 (KC m c R) := by
  unfold StB StC Pst KC
  rw [← Finset.range_eq_Ico, done_nil]
  iintro ⟨#HR, HO, -, HPW, -, HRD, Hown, -, HOP, -, -, HQW, Hout, HW, Hsx, Hsw, Hxs, Ha, H2, HZ⟩
  iframe #; iframe HO HPW HRD Hown HOP HQW Hout HW Hsx Hsw Hxs Ha H2 HZ

/-- The semaphore for the `q`-th slot's piece having been received, as the program names it. -/
theorem s9 (q : ℕ) (hq : q < 28) (o : Fin 2 → ℕ) (h h') (ho : o = ![q / 7, q % 7]) :
    ((cc0_scratch8.slice (Rect.unit (s := S4x7) o S1x1.size h)).squeeze S_ h').sem = ds (40 + q) :=
  (sem8 ⟨q / 7, by omega⟩ ⟨q % 7, Nat.mod_lt _ (by decide)⟩ o h h' ho).trans (congrArg (fun n => ds (40 + n)) (show q / 7 * 7 + q % 7 = q by omega))

/-- A received piece, as its sender's own. -/
theorem pay12_eq (v : S1x1x128x256.Idx → Elt F .bf16) (g : S1x128x256.Idx → Elt F .bf16) (h : ∀ a b, v (ix4 0 0 a b) = g (ix3 0 a b)) : k0_pay12 v = k0_pay5 g := by
  unfold k0_pay12 k0_pay5
  funext y
  refine congrArg (FloatOps.extf .f32 bitsLt_bf16_f32) ?_
  refine (shapeCast_apply v _ y (ix4 0 0 (y 0) (y 1)) ?_).trans ((h (y 0) (y 1)).trans (shapeCast_apply g _ y (ix3 0 (y 0) (y 1)) ?_).symm)
  · rw [Shape.rowMajor_val_four, Shape.rowMajor_val_two]; simp [S1x1x128x256, S128x256]
  · rw [Shape.rowMajor_val_three, Shape.rowMajor_val_two]; simp [S1x128x256, S128x256]

/-- A received piece goes into the result. -/
theorem recv_out {c : Dev nD} {n : ℕ} {R : sProp 𝕄} {α : Type} {Q : α → sProp 𝕄} {k : PUnit → Prog (TpuEff nD τ sig (Elt F) Λ₀ .tc) α}
    {o : Fin 4 → ℕ} {o' o'' : Fin 2 → ℕ} {h hl h' hl' h'' hx hm} {w : (S1x1x128x256.Idx → Elt F .bf16) → S128x256.Idx → Elt F .f32}
    (hn : n < 28) (ho : o = ![n / 7, n % 7, 0, 0]) (ho'' : o'' = ![(n / 7 * 8 + kk c (7 - n % 7)) * 128, 0]) (hw : ∀ v, w v = k0_pay12 v)
    (H : StC m c (n + 1) (n + 1) R ⊢ wpc c (k ⟨⟩) Q) :
    StC m c (n + 1) n R ⊢ wpc c (.op (.load rM (Rect.unit (s := S4x7x128x256) o S1x1x128x256.size h).toLoadRect hl) fun v =>
      .op (.load oM (Rect.unit (s := S4096x256) o' S128x256.size h').toLoadRect hl') fun _ => .op (.store oM (Rect.unit (s := S4096x256) o'' S128x256.size h'') (w v) Finset.univ hx hm) k) Q := by
  refine rl_step m hn ho fun v hv => ?_
  refine cdead_step m fun _ => ?_
  exact cstore_step m ho'' ((hw v).trans (pay12_eq v _ hv)) H

/-- Part 31: the last piece is sent and the first is received. -/
theorem part31 (c : Dev nD) (R : sProp 𝕄) (a1 a2) : StB m c 11 3 3 4 6 27 3 (LWD m c) (Pst m c iprop(bigSep (Finset.range 28) (R2 (F := F) c) ∗ R)) ⊢ wpc c (app (k0_part31 (F := F)) c a1 a2) fun _ => StC m c 1 0 (KC m c R) := by
  unfold app; rw [k0_part31_eq_skeleton]; unfold k0_part31_skel
  simp only [Prog.lift, Prog.bind_op, Prog.bind_ret, Prog.pure_eq_ret]
  refine p2_step m (by decide) rfl rfl rfl (Fin.ext (dev41_eq c)) (off41_eq c 2) (off29_eq c 2 6) (s7 c 27 (by decide) _ _ _ (off40_eq c 2)) (s8 c 27 (by decide) _ _ _ (off40_eq c 2)) ?_
  refine own_out m (by decide) rfl (off42_eq c 2) (off43_eq c 2) (fun _ => rfl) ?_
  refine (to_c m c R).trans ?_
  refine r2_step m (by decide) (s9 0 (by decide) _ _ _ rfl) ?_
  exact done_step (Entails.refl _)

/-! ## The receives -/

/-- Part 32: from 1 to 2 pieces received, from 0 to 1 pieces stored. -/
theorem part32 (c : Dev nD) (R : sProp 𝕄) (a1 a2 a3 a4) : StC m c 1 0 R ⊢ wpc c (app (k0_part32 (F := F)) c a1 a2 a3 a4) fun _ => StC m c 2 1 R := by
  unfold app; rw [k0_part32_eq_skeleton]; unfold k0_part32_skel
  simp only [Prog.lift, Prog.bind_op, Prog.bind_ret, Prog.pure_eq_ret]
  refine recv_out m (by decide) rfl (off44_eq c 0 0) (fun _ => rfl) ?_
  refine r2_step m (by decide) (s9 1 (by decide) _ _ _ rfl) ?_
  exact done_step (Entails.refl _)

/-- Part 33: from 2 to 3 pieces received, from 1 to 2 pieces stored. -/
theorem part33 (c : Dev nD) (R : sProp 𝕄) (a1 a2 a3 a4 a5 a6) : StC m c 2 1 R ⊢ wpc c (app (k0_part33 (F := F)) c a1 a2 a3 a4 a5 a6) fun _ => StC m c 3 2 R := by
  unfold app; rw [k0_part33_eq_skeleton]; unfold k0_part33_skel
  simp only [Prog.lift, Prog.bind_op, Prog.bind_ret, Prog.pure_eq_ret]
  refine recv_out m (by decide) rfl (off44_eq c 0 1) (fun _ => rfl) ?_
  refine r2_step m (by decide) (s9 2 (by decide) _ _ _ rfl) ?_
  exact done_step (Entails.refl _)

/-- Part 34: from 3 to 4 pieces received, from 2 to 3 pieces stored. -/
theorem part34 (c : Dev nD) (R : sProp 𝕄) (a1 a2) : StC m c 3 2 R ⊢ wpc c (app (k0_part34 (F := F)) c a1 a2) fun _ => StC m c 4 3 R := by
  unfold app; rw [k0_part34_eq_skeleton]; unfold k0_part34_skel
  simp only [Prog.lift, Prog.bind_op, Prog.bind_ret, Prog.pure_eq_ret]
  refine recv_out m (by decide) rfl (off44_eq c 0 2) (fun _ => rfl) ?_
  refine r2_step m (by decide) (s9 3 (by decide) _ _ _ rfl) ?_
  exact done_step (Entails.refl _)

/-- Part 35: from 4 to 5 pieces received, from 3 to 4 pieces stored. -/
theorem part35 (c : Dev nD) (R : sProp 𝕄) (a1 a2) : StC m c 4 3 R ⊢ wpc c (app (k0_part35 (F := F)) c a1 a2) fun _ => StC m c 5 4 R := by
  unfold app; rw [k0_part35_eq_skeleton]; unfold k0_part35_skel
  simp only [Prog.lift, Prog.bind_op, Prog.bind_ret, Prog.pure_eq_ret]
  refine recv_out m (by decide) rfl (off44_eq c 0 3) (fun _ => rfl) ?_
  refine r2_step m (by decide) (s9 4 (by decide) _ _ _ rfl) ?_
  exact done_step (Entails.refl _)

/-- Part 36: from 5 to 6 pieces received, from 4 to 5 pieces stored. -/
theorem part36 (c : Dev nD) (R : sProp 𝕄) (a1 a2) : StC m c 5 4 R ⊢ wpc c (app (k0_part36 (F := F)) c a1 a2)
    fun r => iprop(⌜r = k0_pay5 (blkv m c (5 / 7 * 8 + kk c (7 - 5 % 7)))⌝ ∗ StC m c 6 5 R) := by
  unfold app; rw [k0_part36_eq_skeleton]; unfold k0_part36_skel
  simp only [Prog.lift, Prog.bind_op, Prog.bind_ret, Prog.pure_eq_ret]
  refine recv_out m (by decide) rfl (off44_eq c 0 4) (fun _ => rfl) ?_
  refine r2_step m (by decide) (s9 5 (by decide) _ _ _ rfl) ?_
  refine rl_step m (q := 5) (by decide) rfl fun v hv => ?_
  refine done_step ?_
  iintro H; iframe H; ipureintro; exact pay12_eq v _ hv

/-- Part 37: from 6 to 7 pieces received, from 5 to 7 pieces stored. -/
theorem part37 (c : Dev nD) (R : sProp 𝕄) (a1 a2) (hv : a2 = k0_pay5 (blkv m c (5 / 7 * 8 + kk c (7 - 5 % 7)))) : StC m c 6 5 R ⊢ wpc c (app (k0_part37 (F := F)) c a1 a2) fun _ => StC m c 7 7 R := by
  unfold app; rw [k0_part37_eq_skeleton]; unfold k0_part37_skel
  simp only [Prog.lift, Prog.bind_op, Prog.bind_ret, Prog.pure_eq_ret]
  refine cdead_step m fun _ => ?_
  refine cstore_step m (n := 5) (off44_eq c 0 5) hv ?_
  refine r2_step m (by decide) (s9 6 (by decide) _ _ _ rfl) ?_
  refine recv_out m (by decide) rfl (off44_eq c 0 6) (fun _ => rfl) ?_
  exact done_step (Entails.refl _)

/-- Part 38: from 7 to 8 pieces received, from 7 to 8 pieces stored. -/
theorem part38 (c : Dev nD) (R : sProp 𝕄) (a1) : StC m c 7 7 R ⊢ wpc c (app (k0_part38 (F := F)) c a1) fun _ => StC m c 8 8 R := by
  unfold app; rw [k0_part38_eq_skeleton]; unfold k0_part38_skel
  simp only [Prog.lift, Prog.bind_op, Prog.bind_ret, Prog.pure_eq_ret]
  refine r2_step m (by decide) (s9 7 (by decide) _ _ _ rfl) ?_
  refine recv_out m (by decide) rfl (off44_eq c 1 0) (fun _ => rfl) ?_
  exact done_step (Entails.refl _)

/-- Part 39: from 8 to 9 pieces received, from 8 to 9 pieces stored. -/
theorem part39 (c : Dev nD) (R : sProp 𝕄) (a1) : StC m c 8 8 R ⊢ wpc c (app (k0_part39 (F := F)) c a1) fun _ => StC m c 9 9 R := by
  unfold app; rw [k0_part39_eq_skeleton]; unfold k0_part39_skel
  simp only [Prog.lift, Prog.bind_op, Prog.bind_ret, Prog.pure_eq_ret]
  refine r2_step m (by decide) (s9 8 (by decide) _ _ _ rfl) ?_
  refine recv_out m (by decide) rfl (off44_eq c 1 1) (fun _ => rfl) ?_
  exact done_step (Entails.refl _)

/-- Part 40: from 9 to 10 pieces received, from 9 to 10 pieces stored. -/
theorem part40 (c : Dev nD) (R : sProp 𝕄) (a1 a2 a3) : StC m c 9 9 R ⊢ wpc c (app (k0_part40 (F := F)) c a1 a2 a3) fun _ => StC m c 10 10 R := by
  unfold app; rw [k0_part40_eq_skeleton]; unfold k0_part40_skel
  simp only [Prog.lift, Prog.bind_op, Prog.bind_ret, Prog.pure_eq_ret]
  refine r2_step m (by decide) (s9 9 (by decide) _ _ _ rfl) ?_
  refine recv_out m (by decide) rfl (off44_eq c 1 2) (fun _ => rfl) ?_
  exact done_step (Entails.refl _)

/-- Part 41: from 10 to 11 pieces received, from 10 to 11 pieces stored. -/
theorem part41 (c : Dev nD) (R : sProp 𝕄) (a1) : StC m c 10 10 R ⊢ wpc c (app (k0_part41 (F := F)) c a1) fun _ => StC m c 11 11 R := by
  unfold app; rw [k0_part41_eq_skeleton]; unfold k0_part41_skel
  simp only [Prog.lift, Prog.bind_op, Prog.bind_ret, Prog.pure_eq_ret]
  refine r2_step m (by decide) (s9 10 (by decide) _ _ _ rfl) ?_
  refine recv_out m (by decide) rfl (off44_eq c 1 3) (fun _ => rfl) ?_
  exact done_step (Entails.refl _)

/-- Part 42: from 11 to 12 pieces received, from 11 to 12 pieces stored. -/
theorem part42 (c : Dev nD) (R : sProp 𝕄) (a1) : StC m c 11 11 R ⊢ wpc c (app (k0_part42 (F := F)) c a1) fun _ => StC m c 12 12 R := by
  unfold app; rw [k0_part42_eq_skeleton]; unfold k0_part42_skel
  simp only [Prog.lift, Prog.bind_op, Prog.bind_ret, Prog.pure_eq_ret]
  refine r2_step m (by decide) (s9 11 (by decide) _ _ _ rfl) ?_
  refine recv_out m (by decide) rfl (off44_eq c 1 4) (fun _ => rfl) ?_
  exact done_step (Entails.refl _)

/-- Part 43: from 12 to 14 pieces received, from 12 to 13 pieces stored. -/
theorem part43 (c : Dev nD) (R : sProp 𝕄) (a1) : StC m c 12 12 R ⊢ wpc c (app (k0_part43 (F := F)) c a1) fun _ => StC m c 14 13 R := by
  unfold app; rw [k0_part43_eq_skeleton]; unfold k0_part43_skel
  simp only [Prog.lift, Prog.bind_op, Prog.bind_ret, Prog.pure_eq_ret]
  refine r2_step m (by decide) (s9 12 (by decide) _ _ _ rfl) ?_
  refine recv_out m (by decide) rfl (off44_eq c 1 5) (fun _ => rfl) ?_
  refine r2_step m (by decide) (s9 13 (by decide) _ _ _ rfl) ?_
  exact done_step (Entails.refl _)

/-- Part 44: from 14 to 15 pieces received, from 13 to 14 pieces stored. -/
theorem part44 (c : Dev nD) (R : sProp 𝕄) (a1 a2) : StC m c 14 13 R ⊢ wpc c (app (k0_part44 (F := F)) c a1 a2) fun _ => StC m c 15 14 R := by
  unfold app; rw [k0_part44_eq_skeleton]; unfold k0_part44_skel
  simp only [Prog.lift, Prog.bind_op, Prog.bind_ret, Prog.pure_eq_ret]
  refine recv_out m (by decide) rfl (off44_eq c 1 6) (fun _ => rfl) ?_
  refine r2_step m (by decide) (s9 14 (by decide) _ _ _ rfl) ?_
  exact done_step (Entails.refl _)

/-- Part 45: from 15 to 16 pieces received, from 14 to 15 pieces stored. -/
theorem part45 (c : Dev nD) (R : sProp 𝕄) (a1 a2 a3 a4 a5) : StC m c 15 14 R ⊢ wpc c (app (k0_part45 (F := F)) c a1 a2 a3 a4 a5) fun _ => StC m c 16 15 R := by
  unfold app; rw [k0_part45_eq_skeleton]; unfold k0_part45_skel
  simp only [Prog.lift, Prog.bind_op, Prog.bind_ret, Prog.pure_eq_ret]
  refine recv_out m (by decide) rfl (off44_eq c 2 0) (fun _ => rfl) ?_
  refine r2_step m (by decide) (s9 15 (by decide) _ _ _ rfl) ?_
  exact done_step (Entails.refl _)

/-- Part 46: from 16 to 17 pieces received, from 15 to 16 pieces stored. -/
theorem part46 (c : Dev nD) (R : sProp 𝕄) (a1 a2 a3 a4) : StC m c 16 15 R ⊢ wpc c (app (k0_part46 (F := F)) c a1 a2 a3 a4) fun _ => StC m c 17 16 R := by
  unfold app; rw [k0_part46_eq_skeleton]; unfold k0_part46_skel
  simp only [Prog.lift, Prog.bind_op, Prog.bind_ret, Prog.pure_eq_ret]
  refine recv_out m (by decide) rfl (off44_eq c 2 1) (fun _ => rfl) ?_
  refine r2_step m (by decide) (s9 16 (by decide) _ _ _ rfl) ?_
  exact done_step (Entails.refl _)

/-- Part 47: from 17 to 18 pieces received, from 16 to 17 pieces stored. -/
theorem part47 (c : Dev nD) (R : sProp 𝕄) (a1 a2 a3 a4 a5 a6) : StC m c 17 16 R ⊢ wpc c (app (k0_part47 (F := F)) c a1 a2 a3 a4 a5 a6) fun _ => StC m c 18 17 R := by
  unfold app; rw [k0_part47_eq_skeleton]; unfold k0_part47_skel
  simp only [Prog.lift, Prog.bind_op, Prog.bind_ret, Prog.pure_eq_ret]
  refine recv_out m (by decide) rfl (off44_eq c 2 2) (fun _ => rfl) ?_
  refine r2_step m (by decide) (s9 17 (by decide) _ _ _ rfl) ?_
  exact done_step (Entails.refl _)

/-- Part 48: from 18 to 19 pieces received, from 17 to 18 pieces stored. -/
theorem part48 (c : Dev nD) (R : sProp 𝕄) (a1 a2) : StC m c 18 17 R ⊢ wpc c (app (k0_part48 (F := F)) c a1 a2) fun _ => StC m c 19 18 R := by
  unfold app; rw [k0_part48_eq_skeleton]; unfold k0_part48_skel
  simp only [Prog.lift, Prog.bind_op, Prog.bind_ret, Prog.pure_eq_ret]
  refine recv_out m (by decide) rfl (off44_eq c 2 3) (fun _ => rfl) ?_
  refine r2_step m (by decide) (s9 18 (by decide) _ _ _ rfl) ?_
  exact done_step (Entails.refl _)

/-- Part 49: from 19 to 20 pieces received, from 18 to 19 pieces stored. -/
theorem part49 (c : Dev nD) (R : sProp 𝕄) (a1 a2) : StC m c 19 18 R ⊢ wpc c (app (k0_part49 (F := F)) c a1 a2) fun _ => StC m c 20 19 R := by
  unfold app; rw [k0_part49_eq_skeleton]; unfold k0_part49_skel
  simp only [Prog.lift, Prog.bind_op, Prog.bind_ret, Prog.pure_eq_ret]
  refine recv_out m (by decide) rfl (off44_eq c 2 4) (fun _ => rfl) ?_
  refine r2_step m (by decide) (s9 19 (by decide) _ _ _ rfl) ?_
  exact done_step (Entails.refl _)

/-- Part 50: from 20 to 21 pieces received, from 19 to 20 pieces stored. -/
theorem part50 (c : Dev nD) (R : sProp 𝕄) (a1 a2) : StC m c 20 19 R ⊢ wpc c (app (k0_part50 (F := F)) c a1 a2)
    fun r => iprop(⌜r = k0_pay5 (blkv m c (20 / 7 * 8 + kk c (7 - 20 % 7)))⌝ ∗ StC m c 21 20 R) := by
  unfold app; rw [k0_part50_eq_skeleton]; unfold k0_part50_skel
  simp only [Prog.lift, Prog.bind_op, Prog.bind_ret, Prog.pure_eq_ret]
  refine recv_out m (by decide) rfl (off44_eq c 2 5) (fun _ => rfl) ?_
  refine r2_step m (by decide) (s9 20 (by decide) _ _ _ rfl) ?_
  refine rl_step m (q := 20) (by decide) rfl fun v hv => ?_
  refine done_step ?_
  iintro H; iframe H; ipureintro; exact pay12_eq v _ hv

/-- Part 51: from 21 to 22 pieces received, from 20 to 22 pieces stored. -/
theorem part51 (c : Dev nD) (R : sProp 𝕄) (a1 a2) (hv : a2 = k0_pay5 (blkv m c (20 / 7 * 8 + kk c (7 - 20 % 7)))) : StC m c 21 20 R ⊢ wpc c (app (k0_part51 (F := F)) c a1 a2) fun _ => StC m c 22 22 R := by
  unfold app; rw [k0_part51_eq_skeleton]; unfold k0_part51_skel
  simp only [Prog.lift, Prog.bind_op, Prog.bind_ret, Prog.pure_eq_ret]
  refine cdead_step m fun _ => ?_
  refine cstore_step m (n := 20) (off44_eq c 2 6) hv ?_
  refine r2_step m (by decide) (s9 21 (by decide) _ _ _ rfl) ?_
  refine recv_out m (by decide) rfl (off44_eq c 3 0) (fun _ => rfl) ?_
  exact done_step (Entails.refl _)

/-- Part 52: from 22 to 23 pieces received, from 22 to 23 pieces stored. -/
theorem part52 (c : Dev nD) (R : sProp 𝕄) (a1) : StC m c 22 22 R ⊢ wpc c (app (k0_part52 (F := F)) c a1) fun _ => StC m c 23 23 R := by
  unfold app; rw [k0_part52_eq_skeleton]; unfold k0_part52_skel
  simp only [Prog.lift, Prog.bind_op, Prog.bind_ret, Prog.pure_eq_ret]
  refine r2_step m (by decide) (s9 22 (by decide) _ _ _ rfl) ?_
  refine recv_out m (by decide) rfl (off44_eq c 3 1) (fun _ => rfl) ?_
  exact done_step (Entails.refl _)

/-- Part 53: from 23 to 24 pieces received, from 23 to 24 pieces stored. -/
theorem part53 (c : Dev nD) (R : sProp 𝕄) (a1) : StC m c 23 23 R ⊢ wpc c (app (k0_part53 (F := F)) c a1) fun _ => StC m c 24 24 R := by
  unfold app; rw [k0_part53_eq_skeleton]; unfold k0_part53_skel
  simp only [Prog.lift, Prog.bind_op, Prog.bind_ret, Prog.pure_eq_ret]
  refine r2_step m (by decide) (s9 23 (by decide) _ _ _ rfl) ?_
  refine recv_out m (by decide) rfl (off44_eq c 3 2) (fun _ => rfl) ?_
  exact done_step (Entails.refl _)

/-- Part 54: from 24 to 25 pieces received, from 24 to 25 pieces stored. -/
theorem part54 (c : Dev nD) (R : sProp 𝕄) (a1 a2 a3) : StC m c 24 24 R ⊢ wpc c (app (k0_part54 (F := F)) c a1 a2 a3) fun _ => StC m c 25 25 R := by
  unfold app; rw [k0_part54_eq_skeleton]; unfold k0_part54_skel
  simp only [Prog.lift, Prog.bind_op, Prog.bind_ret, Prog.pure_eq_ret]
  refine r2_step m (by decide) (s9 24 (by decide) _ _ _ rfl) ?_
  refine recv_out m (by decide) rfl (off44_eq c 3 3) (fun _ => rfl) ?_
  exact done_step (Entails.refl _)

/-- Part 55: from 25 to 26 pieces received, from 25 to 26 pieces stored. -/
theorem part55 (c : Dev nD) (R : sProp 𝕄) (a1) : StC m c 25 25 R ⊢ wpc c (app (k0_part55 (F := F)) c a1) fun _ => StC m c 26 26 R := by
  unfold app; rw [k0_part55_eq_skeleton]; unfold k0_part55_skel
  simp only [Prog.lift, Prog.bind_op, Prog.bind_ret, Prog.pure_eq_ret]
  refine r2_step m (by decide) (s9 25 (by decide) _ _ _ rfl) ?_
  refine recv_out m (by decide) rfl (off44_eq c 3 4) (fun _ => rfl) ?_
  exact done_step (Entails.refl _)

/-- Part 56: from 26 to 27 pieces received, from 26 to 27 pieces stored. -/
theorem part56 (c : Dev nD) (R : sProp 𝕄) (a1) : StC m c 26 26 R ⊢ wpc c (app (k0_part56 (F := F)) c a1) fun _ => StC m c 27 27 R := by
  unfold app; rw [k0_part56_eq_skeleton]; unfold k0_part56_skel
  simp only [Prog.lift, Prog.bind_op, Prog.bind_ret, Prog.pure_eq_ret]
  refine r2_step m (by decide) (s9 26 (by decide) _ _ _ rfl) ?_
  refine recv_out m (by decide) rfl (off44_eq c 3 5) (fun _ => rfl) ?_
  exact done_step (Entails.refl _)

/-! ## From the receives to the sends' completions -/

/-- What is held but not used while the sends complete. -/
def KD (c : Dev nD) (R : sProp 𝕄) : sProp 𝕄 :=
  iprop(bigSep (Finset.range 3) (R1D m c) ∗ xP c (xset (zz c 0)) (qs 0) (XG m c) ∗ bigSep (Finset.range 4) (OP m c)
    ∗ LWD m c ∗ sxP m c ∗ swP m c ∗ xsP m c ∗ atPos ER (rc c 0) 1 ∅ 0 ∗ OUTs m c (Dn c 4 28) ∗ bigSep (Finset.range 28) (R2D m c) ∗ R)

/-- The device's positions at its own sends' semaphores. -/
def WP (c : Dev nD) : sProp 𝕄 :=
  iprop((bigSep (Finset.range 3) fun i => atPos ER (dc c (5 + i)) 0 ∅ 0) ∗ bigSep (Finset.range 28) fun q => atPos ER (dc c (12 + qn c q)) 0 ∅ 0)

/-- What is held after the last receive is what the waits for the sends start from. -/
theorem to_d (c : Dev nD) (R : sProp 𝕄) : StC m c 28 28 (KC m c iprop(WP (F := F) c ∗ R)) ⊢ StD m c 0 0 (KD m c R) := by
  unfold StC KC StD KD WP
  rw [← Finset.range_eq_Ico, ← Finset.range_eq_Ico, done_nil, done_nil]
  have h1 : iprop(bigSep (Finset.range 3) (P1W (F := F) c) ∗ bigSep (Finset.range 3) fun i => atPos ER (dc c (5 + i)) 0 ∅ 0) ⊢ bigSep (Finset.range 3) (W1 (F := F) c) := by
    rw [← bigSep_sep']; exact Entails.refl _
  have h2 : iprop(bigSep (Finset.range 28) (P2W (F := F) c) ∗ bigSep (Finset.range 28) fun q => atPos ER (dc c (12 + qn c q)) 0 ∅ 0) ⊢ bigSep (Finset.range 28) (W2 (F := F) c) := by
    rw [← bigSep_sep']; exact Entails.refl _
  iintro ⟨#HR, HO, -, H2, Hout, HPW, HRD, Hown, HOP, HQW, HW, Hsx, Hsw, Hxs, Ha, ⟨Hw1, Hw2⟩, HZ⟩
  ihave H1 := h1 $$ [HPW Hw1]
  · iframe HPW Hw1
  ihave H3 := h2 $$ [HQW Hw2]
  · iframe HQW Hw2
  iframe #; iframe HO H1 H3 HRD Hown HOP HW Hsx Hsw Hxs Ha Hout H2 HZ

/-- Part 57: the last piece is stored and the first block's send is awaited. -/
theorem part57 (c : Dev nD) (R : sProp 𝕄) (a1) : StC m c 27 27 (KC m c iprop(WP (F := F) c ∗ R)) ⊢ wpc c (app (k0_part57 (F := F)) c a1) fun _ => StD m c 1 0 (KD m c R) := by
  unfold app; rw [k0_part57_eq_skeleton]; unfold k0_part57_skel
  simp only [Prog.lift, Prog.bind_op, Prog.bind_ret, Prog.pure_eq_ret]
  refine r2_step m (by decide) (s9 27 (by decide) _ _ _ rfl) ?_
  refine recv_out m (by decide) rfl (off44_eq c 3 6) (fun _ => rfl) ?_
  refine (to_d m c R).trans ?_
  refine w1_step m (by decide) (sem5 ⟨0, by decide⟩ _ _ _ rfl) ?_
  exact done_step (Entails.refl _)

/-! ## The sends' completions -/

/-- Part 58: from 1 to 3 blocks' sends awaited, from 0 to 3 pieces' sends awaited. -/
theorem part58 (c : Dev nD) (R : sProp 𝕄) : StD m c 1 0 R ⊢ wpc c (app (k0_part58 (F := F)) c) fun _ => StD m c 3 3 R := by
  unfold app; rw [k0_part58_eq_skeleton]; unfold k0_part58_skel
  simp only [Prog.lift, Prog.bind_op, Prog.bind_ret, Prog.pure_eq_ret]
  refine w1_step m (by decide) (sem5 ⟨1, by decide⟩ _ _ _ rfl) ?_
  refine w1_step m (by decide) (sem5 ⟨2, by decide⟩ _ _ _ rfl) ?_
  refine w2_step m (by decide) (s7 c 0 (by decide) _ _ _ (off6_eq c)) ?_
  refine w2_step m (by decide) (s7 c 1 (by decide) _ _ _ (off9_eq c)) ?_
  refine w2_step m (by decide) (s7 c 2 (by decide) _ _ _ (off11_eq c)) ?_
  exact done_step (Entails.refl _)

/-- Part 59: from 3 to 7 pieces' sends awaited. -/
theorem part59 (c : Dev nD) (R : sProp 𝕄) : StD m c 3 3 R ⊢ wpc c (app (k0_part59 (F := F)) c) fun _ => StD m c 3 7 R := by
  unfold app; rw [k0_part59_eq_skeleton]; unfold k0_part59_skel
  simp only [Prog.lift, Prog.bind_op, Prog.bind_ret, Prog.pure_eq_ret]
  refine w2_step m (by decide) (s7 c 3 (by decide) _ _ _ (off13_eq c)) ?_
  refine w2_step m (by decide) (s7 c 4 (by decide) _ _ _ (off15_eq c)) ?_
  refine w2_step m (by decide) (s7 c 5 (by decide) _ _ _ (off17_eq c)) ?_
  refine w2_step m (by decide) (s7 c 6 (by decide) _ _ _ (off19_eq c)) ?_
  exact done_step (Entails.refl _)

/-- Part 60: from 7 to 11 pieces' sends awaited. -/
theorem part60 (c : Dev nD) (R : sProp 𝕄) : StD m c 3 7 R ⊢ wpc c (app (k0_part60 (F := F)) c) fun _ => StD m c 3 11 R := by
  unfold app; rw [k0_part60_eq_skeleton]; unfold k0_part60_skel
  simp only [Prog.lift, Prog.bind_op, Prog.bind_ret, Prog.pure_eq_ret]
  refine w2_step m (by decide) (s7 c 7 (by decide) _ _ _ (off27_eq c 0)) ?_
  refine w2_step m (by decide) (s7 c 8 (by decide) _ _ _ (off30_eq c 0)) ?_
  refine w2_step m (by decide) (s7 c 9 (by decide) _ _ _ (off32_eq c 0)) ?_
  refine w2_step m (by decide) (s7 c 10 (by decide) _ _ _ (off34_eq c 0)) ?_
  exact done_step (Entails.refl _)

/-- Part 61: from 11 to 16 pieces' sends awaited. -/
theorem part61 (c : Dev nD) (R : sProp 𝕄) : StD m c 3 11 R ⊢ wpc c (app (k0_part61 (F := F)) c) fun _ => StD m c 3 16 R := by
  unfold app; rw [k0_part61_eq_skeleton]; unfold k0_part61_skel
  simp only [Prog.lift, Prog.bind_op, Prog.bind_ret, Prog.pure_eq_ret]
  refine w2_step m (by decide) (s7 c 11 (by decide) _ _ _ (off36_eq c 0)) ?_
  refine w2_step m (by decide) (s7 c 12 (by decide) _ _ _ (off38_eq c 0)) ?_
  refine w2_step m (by decide) (s7 c 13 (by decide) _ _ _ (off40_eq c 0)) ?_
  refine w2_step m (by decide) (s7 c 14 (by decide) _ _ _ (off27_eq c 1)) ?_
  refine w2_step m (by decide) (s7 c 15 (by decide) _ _ _ (off30_eq c 1)) ?_
  exact done_step (Entails.refl _)

/-- Part 62: from 16 to 20 pieces' sends awaited. -/
theorem part62 (c : Dev nD) (R : sProp 𝕄) : StD m c 3 16 R ⊢ wpc c (app (k0_part62 (F := F)) c) fun _ => StD m c 3 20 R := by
  unfold app; rw [k0_part62_eq_skeleton]; unfold k0_part62_skel
  simp only [Prog.lift, Prog.bind_op, Prog.bind_ret, Prog.pure_eq_ret]
  refine w2_step m (by decide) (s7 c 16 (by decide) _ _ _ (off32_eq c 1)) ?_
  refine w2_step m (by decide) (s7 c 17 (by decide) _ _ _ (off34_eq c 1)) ?_
  refine w2_step m (by decide) (s7 c 18 (by decide) _ _ _ (off36_eq c 1)) ?_
  refine w2_step m (by decide) (s7 c 19 (by decide) _ _ _ (off38_eq c 1)) ?_
  exact done_step (Entails.refl _)

/-- Part 63: from 20 to 24 pieces' sends awaited. -/
theorem part63 (c : Dev nD) (R : sProp 𝕄) : StD m c 3 20 R ⊢ wpc c (app (k0_part63 (F := F)) c) fun _ => StD m c 3 24 R := by
  unfold app; rw [k0_part63_eq_skeleton]; unfold k0_part63_skel
  simp only [Prog.lift, Prog.bind_op, Prog.bind_ret, Prog.pure_eq_ret]
  refine w2_step m (by decide) (s7 c 20 (by decide) _ _ _ (off40_eq c 1)) ?_
  refine w2_step m (by decide) (s7 c 21 (by decide) _ _ _ (off27_eq c 2)) ?_
  refine w2_step m (by decide) (s7 c 22 (by decide) _ _ _ (off30_eq c 2)) ?_
  refine w2_step m (by decide) (s7 c 23 (by decide) _ _ _ (off32_eq c 2)) ?_
  exact done_step (Entails.refl _)

/-! ## The exit -/

/-- What is held but not used while the device leaves. -/
def KE (c : Dev nD) (R : sProp 𝕄) : sProp 𝕄 :=
  iprop(bigSep (Finset.range 3) (W1D m c) ∗ bigSep (Finset.range 28) (W2D m c) ∗ KD m c R)

/-- The device's exit: its tickets, the credit and its position. -/
def EX (c : Dev nD) : sProp 𝕄 :=
  iprop((bigSep (Finset.range 10) fun i => dutyTok ER (rc (pe i c) 1) 0 (opp i)) ∗ cred (tallyAt (rc c 1) () 10) ∗ atPos ER (rc c 1) 0 ∅ 0)

/-- What is held once all sends have completed is what the exit starts from. -/
theorem to_e (c : Dev nD) (R : sProp 𝕄) : StD m c 3 28 (KD m c iprop(EX (F := F) c ∗ R)) ⊢ StE m c 10 0 iprop((cred (tallyAt (rc c 1) () 10) ∗ atPos ER (rc c 1) 0 ∅ 0) ∗ KE m c R) := by
  unfold StD StE KE KD EX
  rw [← Finset.range_eq_Ico]
  iintro ⟨#HR, HO, -, H1, -, H2, HRD, Hown, HOP, HW, Hsx, Hsw, Hxs, Ha, Hout, H3, ⟨Ht, Hc, Hp⟩, HZ⟩
  iframe #; iframe HO Ht Hc Hp H1 H2 HRD Hown HOP HW Hsx Hsw Hxs Ha Hout H3 HZ

/-- Part 64: the last four pieces' sends are awaited. -/
theorem part64 (c : Dev nD) (R : sProp 𝕄) (a1) : StD m c 3 24 (KD m c iprop(EX (F := F) c ∗ R)) ⊢ wpc c (app (k0_part64 (F := F)) c a1)
    fun _ => StE m c 10 0 iprop((cred (tallyAt (rc c 1) () 10) ∗ atPos ER (rc c 1) 0 ∅ 0) ∗ KE m c R) := by
  unfold app; rw [k0_part64_eq_skeleton]; unfold k0_part64_skel
  simp only [Prog.lift, Prog.bind_op, Prog.bind_ret, Prog.pure_eq_ret]
  refine w2_step m (by decide) (s7 c 24 (by decide) _ _ _ (off34_eq c 2)) ?_
  refine w2_step m (by decide) (s7 c 25 (by decide) _ _ _ (off36_eq c 2)) ?_
  refine w2_step m (by decide) (s7 c 26 (by decide) _ _ _ (off38_eq c 2)) ?_
  refine w2_step m (by decide) (s7 c 27 (by decide) _ _ _ (off40_eq c 2)) ?_
  exact done_step (to_e m c R)

/-- Part 65: from 0 to 2 exit signals sent. -/
theorem part65 (c : Dev nD) (R : sProp 𝕄) (a1 a2 a3 a4 a5 a6 a7) : StE m c 10 0 R ⊢ wpc c (app (k0_part65 (F := F)) c a1 a2 a3 a4 a5 a6 a7) fun _ => StE m c 8 2 R := by
  unfold app; rw [k0_part65_eq_skeleton]; unfold k0_part65_skel
  simp only [semSignalWord, semWaitWord, Prog.lift, Prog.bind_op, Prog.bind_ret, Prog.pure_eq_ret]
  refine ex_step m (by decide) rfl (Fin.ext (dev42_eq c)) sem_exit rfl ?_
  refine ex_step m (by decide) rfl (Fin.ext (dev43_eq c)) sem_exit rfl ?_
  exact done_step (Entails.refl _)

/-- Part 66: from 2 to 5 exit signals sent. -/
theorem part66 (c : Dev nD) (R : sProp 𝕄) (a1 a2 a3) : StE m c 8 2 R ⊢ wpc c (app (k0_part66 (F := F)) c a1 a2 a3) fun _ => StE m c 5 5 R := by
  unfold app; rw [k0_part66_eq_skeleton]; unfold k0_part66_skel
  simp only [semSignalWord, semWaitWord, Prog.lift, Prog.bind_op, Prog.bind_ret, Prog.pure_eq_ret]
  refine ex_step m (by decide) rfl (Fin.ext (dev44_eq c)) sem_exit rfl ?_
  refine ex_step m (by decide) rfl (Fin.ext (dev45_eq c)) sem_exit rfl ?_
  refine ex_step m (by decide) rfl (Fin.ext (dev46_eq c)) sem_exit rfl ?_
  exact done_step (Entails.refl _)

/-- Part 67: from 5 to 7 exit signals sent. -/
theorem part67 (c : Dev nD) (R : sProp 𝕄) (a1 a2 a3 a4) : StE m c 5 5 R ⊢ wpc c (app (k0_part67 (F := F)) c a1 a2 a3 a4) fun _ => StE m c 3 7 R := by
  unfold app; rw [k0_part67_eq_skeleton]; unfold k0_part67_skel
  simp only [semSignalWord, semWaitWord, Prog.lift, Prog.bind_op, Prog.bind_ret, Prog.pure_eq_ret]
  refine ex_step m (by decide) rfl (Fin.ext (dev47_eq c)) sem_exit rfl ?_
  refine ex_step m (by decide) rfl (Fin.ext (dev48_eq c)) sem_exit rfl ?_
  exact done_step (Entails.refl _)

/-- Part 68: from 7 to 9 exit signals sent. -/
theorem part68 (c : Dev nD) (R : sProp 𝕄) (a1 a2 a3 a4 a5 a6 a7) : StE m c 3 7 R ⊢ wpc c (app (k0_part68 (F := F)) c a1 a2 a3 a4 a5 a6 a7) fun _ => StE m c 1 9 R := by
  unfold app; rw [k0_part68_eq_skeleton]; unfold k0_part68_skel
  simp only [semSignalWord, semWaitWord, Prog.lift, Prog.bind_op, Prog.bind_ret, Prog.pure_eq_ret]
  refine ex_step m (by decide) rfl (Fin.ext (dev49_eq c)) sem_exit rfl ?_
  refine ex_step m (by decide) rfl (Fin.ext (dev50_eq c)) sem_exit rfl ?_
  exact done_step (Entails.refl _)

end Cert.A2A
-- ==== Proof.Whole.lean ====
module

public import proofs.«01_k».proof.Proof.Parts2

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The whole body -/

/-- What device `c` holds at the start, besides `R`. -/
def Start (c : Dev nD) (R : sProp 𝕄) : sProp 𝕄 :=
  StA m c 51 0 (LW0 m c) (OW0 c) (Bar m c iprop(bigSep (Finset.range 28) (R2 (F := F) c) ∗ WP (F := F) c ∗ EX (F := F) c ∗ R))

set_option maxHeartbeats 4000000 in
/-- The printed part that runs parts 1 to 60: from the start to eleven pieces' sends awaited. -/
theorem part69 (c : Dev nD) (R : sProp 𝕄) : Start m c R ⊢ wpc c (app (k0_part69 (F := F)))
    fun r => iprop(⌜r.1 = c⌝ ∗ StD m c 3 11 (KD m c iprop(EX (F := F) c ∗ R))) := by
  unfold app; rw [k0_part69_eq_skeleton]; unfold k0_part69_skel Start
  refine seq_step (part1 m c _) ?_
  rintro ⟨d0, v19, v29, v30, v35⟩
  refine fact_step ?_
  rintro ⟨hd, hv⟩
  obtain rfl : d0 = c := hd
  obtain rfl : v35 = k0_pay1 (xstg m d0) := hv
  refine seq_step (part2 m d0 _ _ _) fun v40 => fact_step fun hv => ?_
  refine seq_step (part3 m d0 _ _ _ _ hv _ _ _) fun _ => ?_
  refine seq_step (part4 m d0 _ _ _ _ hv _ _ _ _) fun _ => ?_
  refine seq_step (part5 m d0 _ _ _ _ hv _ _ _) fun _ => ?_
  refine seq_step (part6 m d0 _ _ hv _ _ _ _ _) fun _ => ?_
  refine seq_step (part7 m d0 _ _ _ _) fun _ => ?_
  refine seq_step (part8 m d0 _ _ _ _ _ _) fun _ => fact_step fun hw => ?_
  refine seq_step (part9 m d0 _ _ _ _ _ _ _) fun _ => ?_
  refine seq_step (part10 m d0 _ _ _ _) fun _ => ?_
  refine seq_step (part11 m d0 _ _ _ _ _ _ _) fun _ => ?_
  refine seq_step (part12 m d0 _ _ _ _) fun _ => ?_
  refine seq_step (part13 m d0 _ _ _ _ _ _ _ _) fun _ => ?_
  refine seq_step (part14 m d0 _ _ _ hw _ _ _ _) fun _ => ?_
  refine seq_step (part15 m d0 _ _ _ _ _ _ _) fun _ => ?_
  refine seq_step (part16 m d0 _ _ _ _) fun _ => ?_
  refine seq_step (part17 m d0 _ _ _ _ _ _ _) fun _ => ?_
  refine seq_step (part18 m d0 _ _ _ _) fun _ => ?_
  refine seq_step (part19 m d0 _ _ _ _ _ _ _ _ _) fun _ => ?_
  refine seq_step (part20 m d0 _ _ _ _ hw _) fun _ => ?_
  refine seq_step (part21 m d0 _ _ _ _ _) fun _ => ?_
  refine seq_step (part22 m d0 _ _ _ _ _ _) fun _ => ?_
  refine seq_step (part23 m d0 _ _ _ _ _) fun _ => ?_
  refine seq_step (part24 m d0 _ _ _ _ _ _) fun _ => ?_
  refine seq_step (part25 m d0 _ _ _ _ _ _) fun _ => ?_
  refine seq_step (part26 m d0 _ _ _ _ hw _) fun _ => ?_
  refine seq_step (part27 m d0 _ _ _ _) fun _ => ?_
  refine seq_step (part28 m d0 _ _ _ _ _ _ _) fun _ => ?_
  refine seq_step (part29 m d0 _ _ _ _) fun _ => ?_
  refine seq_step (part30 m d0 _ _ _ _ _ _ _) fun _ => ?_
  refine seq_step (part31 m d0 _ _ _) fun _ => ?_
  refine seq_step (part32 m d0 _ _ _ _ _) fun _ => ?_
  refine seq_step (part33 m d0 _ _ _ _ _ _ _) fun _ => ?_
  refine seq_step (part34 m d0 _ _ _) fun _ => ?_
  refine seq_step (part35 m d0 _ _ _) fun _ => ?_
  refine seq_step (part36 m d0 _ _ _) fun _ => fact_step fun hv => ?_
  refine seq_step (part37 m d0 _ _ _ hv) fun _ => ?_
  refine seq_step (part38 m d0 _ _) fun _ => ?_
  refine seq_step (part39 m d0 _ _) fun _ => ?_
  refine seq_step (part40 m d0 _ _ _ _) fun _ => ?_
  refine seq_step (part41 m d0 _ _) fun _ => ?_
  refine seq_step (part42 m d0 _ _) fun _ => ?_
  refine seq_step (part43 m d0 _ _) fun _ => ?_
  refine seq_step (part44 m d0 _ _ _) fun _ => ?_
  refine seq_step (part45 m d0 _ _ _ _ _ _) fun _ => ?_
  refine seq_step (part46 m d0 _ _ _ _ _) fun _ => ?_
  refine seq_step (part47 m d0 _ _ _ _ _ _ _) fun _ => ?_
  refine seq_step (part48 m d0 _ _ _) fun _ => ?_
  refine seq_step (part49 m d0 _ _ _) fun _ => ?_
  refine seq_step (part50 m d0 _ _ _) fun _ => fact_step fun hv => ?_
  refine seq_step (part51 m d0 _ _ _ hv) fun _ => ?_
  refine seq_step (part52 m d0 _ _) fun _ => ?_
  refine seq_step (part53 m d0 _ _) fun _ => ?_
  refine seq_step (part54 m d0 _ _ _ _) fun _ => ?_
  refine seq_step (part55 m d0 _ _) fun _ => ?_
  refine seq_step (part56 m d0 _ _) fun _ => ?_
  refine seq_step (part57 m d0 _ _) fun _ => ?_
  refine seq_step (part58 m d0 _) fun _ => ?_
  refine seq_step (part59 m d0 _) fun _ => ?_
  refine seq_step (part60 m d0 _) fun _ => ?_
  refine done_step ?_
  iintro H; iframe H; ipureintro; rfl

/-- The whole body: a device that holds `Start` runs to its end. -/
theorem whole (c : Dev nD) (R : sProp 𝕄) : Start m c R ⊢ wpc c (app (cc0_body (F := F)))
    fun _ => StE m c 0 10 iprop(atPos ER (rc c 1) 1 ∅ 0 ∗ KE m c R) := by
  unfold app; rw [cc0_body_eq_skeleton]; unfold cc0_body_skel
  refine seq_step (part69 m c _) ?_
  rintro ⟨d0, v19, v29, v30⟩
  refine fact_step fun hd => ?_
  obtain rfl : d0 = c := hd
  refine seq_step (part61 m d0 _) fun _ => ?_
  refine seq_step (part62 m d0 _) fun _ => ?_
  refine seq_step (part63 m d0 _) fun _ => ?_
  refine seq_step (part64 m d0 _ _) fun _ => ?_
  refine seq_step (part65 m d0 _ _ _ _ _ _ _ _) fun _ => ?_
  refine seq_step (part66 m d0 _ _ _ _) fun _ => ?_
  refine seq_step (part67 m d0 _ _ _ _ _) fun _ => ?_
  refine seq_step (part68 m d0 _ _ _ _ _ _ _ _) fun _ => ?_
  simp only [semSignalWord, semWaitWord, Prog.lift, Prog.bind_op, Prog.bind_ret, Prog.pure_eq_ret]
  refine ex_step m (by decide) rfl (Fin.ext (dev51_eq d0)) sem_exit rfl ?_
  refine exwait_step m sem_exit rfl ?_
  exact done_step (Entails.refl _)

end Cert.A2A
-- ==== Proof.Memory.lean ====
module

public import proofs.«01_k».proof.Proof.Whole

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Renumbering families -/

/-- A family in another order. -/
theorem range_perm (n : ℕ) (σ : ℕ → ℕ) (hl : ∀ i < n, σ i < n) (hi : ∀ i < n, ∀ j < n, σ i = σ j → i = j) (A : ℕ → sProp 𝕄) :
    bigSep (Finset.range n) A = bigSep (Finset.range n) fun i => A (σ i) := by
  have hinj : ∀ x ∈ Finset.range n, ∀ y ∈ Finset.range n, σ x = σ y → x = y := fun x hx y hy => hi x (Finset.mem_range.mp hx) y (Finset.mem_range.mp hy)
  have e : (Finset.range n).image σ = Finset.range n := by
    refine Finset.eq_of_subset_of_card_le (fun x hx => ?_) (le_of_eq (Finset.card_image_of_injOn hinj).symm)
    obtain ⟨y, hy, rfl⟩ := Finset.mem_image.mp hx
    exact Finset.mem_range.mpr (hl y (Finset.mem_range.mp hy))
  refine Eq.trans (congrArg (fun S => bigSep S A) e.symm) ?_
  unfold bigSep
  exact Finset.fold_image hinj

/-- The planes in the order a device goes round them. -/
theorem planes (c : Dev nD) (A : ℕ → sProp 𝕄) : bigSep (Finset.range 4) A = bigSep (Finset.range 4) fun i => A (zz c i) :=
  range_perm 4 (zz c) (fun i _ => zz_lt c i) (fun i hi j hj => zz_inj i hi j hj c) A
/-- The device's own plane taken out of the four. -/
theorem planes_head (c : Dev nD) (A : ℕ → sProp 𝕄) : bigSep (Finset.range 4) A = iprop(A (zz c 0) ∗ bigSep (Finset.range 3) fun i => A (zz c (i + 1))) :=
  (planes c A).trans (range_head 3 fun i => A (zz c i))
/-- Seven members backwards. -/
theorem backwards (A : ℕ → sProp 𝕄) : bigSep (Finset.range 7) A = bigSep (Finset.range 7) fun d => A (6 - d) :=
  range_perm 7 (6 - ·) (fun i hi => by omega) (fun i hi j hj h => by have h : 6 - i = 6 - j := h; omega) A
/-- The pieces in the order a device sends them. -/
theorem pieces (c : Dev nD) (A : ℕ → sProp 𝕄) : bigSep (Finset.range 28) A = bigSep (Finset.range 28) fun q => A (qn c q) := by
  refine range_perm 28 (qn c) (fun q _ => qn_lt c q) (fun i hi j hj h => ?_) A
  unfold qn at h
  have h1 := zz_inj (i / 7) (by omega) (j / 7) (by omega) c (by omega)
  omega
/-- A family over the numbers below `n`, as one over `Fin n`. -/
theorem over_fin (n : ℕ) (A : ℕ → sProp 𝕄) : (bigSep Finset.univ fun k : Fin n => A k.val) = bigSep (Finset.range n) A := by
  rw [show Finset.range n = Finset.univ.map (Fin.valEmbedding (n := n)) by
    ext x; simp only [Finset.mem_range, Finset.mem_map, Finset.mem_univ, true_and]
    exact ⟨fun h => ⟨⟨x, h⟩, rfl⟩, by rintro ⟨y, rfl⟩; exact y.isLt⟩, BI.bigSep_map]; rfl

/-- Whatever is said of each semaphore of a device, by what the semaphore is for. -/
theorem sems_eq (c : Dev nD) (A : SemLoc sig → sProp 𝕄) :
    (bigSep Finset.univ fun k : Fin 66 => A (csem k)) = iprop(A (.reg (0 : Fin 2)) ∗ A (.reg (1 : Fin 2)) ∗ A (.dma (ds 4))
      ∗ (bigSep (Finset.range 3) fun i => A (.dma (ds (5 + i))))
      ∗ (A (.dma (ds (8 + zz c 0))) ∗ bigSep (Finset.range 3) fun i => A (.dma (ds (8 + zz c (i + 1)))))
      ∗ (bigSep (Finset.range 28) fun q => A (.dma (ds (12 + qn c q)))) ∗ bigSep (Finset.range 28) fun q => A (.dma (ds (40 + q)))) := by
  let B : ℕ → sProp 𝕄 := fun n => if h : n < 2 then A (.reg (⟨n, h⟩ : Fin 2)) else A (.dma (ds (n + 2)))
  have hB : ∀ n, 2 ≤ n → B n = A (.dma (ds (n + 2))) := fun n hn => dif_neg (by omega)
  have e : (bigSep Finset.univ fun k : Fin 66 => A (csem k)) = bigSep (Finset.range 66) B := by
    rw [← over_fin]
    refine BI.bigSep_congr fun k _ => ?_
    unfold csem; dsimp only [B]; split <;> rfl
  have sh : ∀ (a b : ℕ) (h : a + 2 = b) (h2 : 2 ≤ a) (n : ℕ), (bigSep (Finset.range n) fun i => B (a + i)) = bigSep (Finset.range n) fun i => A (.dma (ds (b + i))) := fun a b h h2 n =>
    BI.bigSep_congr fun i _ => by rw [hB _ (by omega), show a + i + 2 = b + i by omega]
  rw [e, ← planes_head c (fun z => A (.dma (ds (8 + z)))), ← pieces c (fun q => A (.dma (ds (12 + q)))),
    show (66 : ℕ) = 65 + 1 from rfl, range_head 65, show (65 : ℕ) = 64 + 1 from rfl, range_head 64, show (64 : ℕ) = 63 + 1 from rfl, range_head 63,
    show (63 : ℕ) = 3 + 60 from rfl, range_split 60 3, show (60 : ℕ) = 4 + 56 from rfl, range_split 56 4, show (56 : ℕ) = 28 + 28 from rfl, range_split 28 28]
  have f : ∀ a b n : ℕ, a + 2 = b → 2 ≤ a → ∀ g : ℕ → ℕ, (∀ i, g i = a + i) → (bigSep (Finset.range n) fun i => B (g i)) = bigSep (Finset.range n) fun i => A (.dma (ds (b + i))) := fun a b n h h2 g hg => by
    rw [← sh a b h h2 n]; exact BI.bigSep_congr fun i _ => by rw [hg]
  rw [f 3 5 3 rfl (by omega) (fun i => i + 1 + 1 + 1) (fun i => by omega), f 6 8 4 rfl (by omega) (fun i => 3 + i + 1 + 1 + 1) (fun i => by omega),
    f 10 12 28 rfl (by omega) (fun i => 3 + (4 + i) + 1 + 1 + 1) (fun i => by omega), f 38 40 28 rfl (by omega) (fun i => 3 + (4 + (28 + i)) + 1 + 1 + 1) (fun i => by omega)]
  rfl

/-! ## Whole buffers and their slots -/

/-- The gathered blocks' buffer is its four slots. -/
theorem x_whole (c : Dev nD) (f) : xP (F := F) c Finset.univ fullShare f = bigSep (Finset.range 4) fun z => xP c (xset z) fullShare f := by
  have hd : ∀ a ∈ Finset.range 4, ∀ b ∈ Finset.range 4, a ≠ b → Disjoint (xset a) (xset b) := by
    intro a _ b _ hab
    rw [Finset.disjoint_left]
    intro i hi hi'
    unfold xset at hi hi'
    rw [Finset.mem_filter] at hi hi'
    exact hab (hi.2.symm.trans hi'.2)
  refine Eq.trans (congrArg (fun S => xP c S fullShare f) (Finset.ext fun i => ?_))
    (pointsTo_biUnion (nD := nD) (τ := τ) (sig := sig) (Ix := Unit) (Val := Elt F) (Name := ℕ) (U := UU) (Lvl := ℕ) (ℓ := (c : Thread nD τ).loc cc0_scratch1) (q := fullShare) (f := f) (Finset.range 4) xset hd)
  refine Iff.trans ?_ Finset.mem_biUnion.symm
  unfold xset
  simp only [Finset.mem_filter, Finset.mem_univ, true_and, Finset.mem_range]
  exact ⟨fun _ => ⟨_, (i (0 : Fin 3)).isLt, rfl⟩, fun _ => trivial⟩

/-- The partial products' buffer is its four slots. -/
theorem g_whole (c : Dev nD) (f) : gP (F := F) c Finset.univ f = bigSep (Finset.range 4) fun z => gP c (gslot z) f := by
  have hd : ∀ a ∈ Finset.range 4, ∀ b ∈ Finset.range 4, a ≠ b → Disjoint (gslot a) (gslot b) := by
    intro a _ b _ hab
    rw [Finset.disjoint_left]
    intro i hi hi'
    unfold gslot at hi hi'
    rw [Finset.mem_filter] at hi hi'
    exact hab (hi.2.symm.trans hi'.2)
  refine Eq.trans (congrArg (fun S => gP c S f) (Finset.ext fun i => ?_))
    (pointsTo_biUnion (nD := nD) (τ := τ) (sig := sig) (Ix := Unit) (Val := Elt F) (Name := ℕ) (U := UU) (Lvl := ℕ) (ℓ := (c : Thread nD τ).loc cc0_scratch2) (q := fullShare) (f := f) (Finset.range 4) gslot hd)
  refine Iff.trans ?_ Finset.mem_biUnion.symm
  unfold gslot
  simp only [Finset.mem_filter, Finset.mem_univ, true_and, Finset.mem_range]
  exact ⟨fun _ => ⟨_, (i (0 : Fin 3)).isLt, rfl⟩, fun _ => trivial⟩

/-- The received pieces' buffer is its twenty-eight slots. -/
theorem r_whole (c : Dev nD) (f) : rP (F := F) c Finset.univ f = bigSep (Finset.range 28) fun q => rP c (rset (q / 7) (q % 7)) f := by
  have hd : ∀ a ∈ Finset.range 28, ∀ b ∈ Finset.range 28, a ≠ b → Disjoint (rset (a / 7) (a % 7)) (rset (b / 7) (b % 7)) := by
    intro a _ b _ hab
    rw [Finset.disjoint_left]
    intro i hi hi'
    unfold rset at hi hi'
    rw [Finset.mem_filter] at hi hi'
    have h1 := hi.2.1.symm.trans hi'.2.1
    have h2 := hi.2.2.symm.trans hi'.2.2
    omega
  refine Eq.trans (congrArg (fun S => rP c S f) (Finset.ext fun i => ?_))
    (pointsTo_biUnion (nD := nD) (τ := τ) (sig := sig) (Ix := Unit) (Val := Elt F) (Name := ℕ) (U := UU) (Lvl := ℕ) (ℓ := (c : Thread nD τ).loc cc0_scratch3) (q := fullShare) (f := f) (Finset.range 28) (fun q => rset (q / 7) (q % 7)) hd)
  refine Iff.trans ?_ Finset.mem_biUnion.symm
  unfold rset
  simp only [Finset.mem_filter, Finset.mem_univ, true_and, Finset.mem_range]
  have h0 : (i (0 : Fin 4)).val < 4 := (i (0 : Fin 4)).isLt
  have h1 : (i (1 : Fin 4)).val < 7 := (i (1 : Fin 4)).isLt
  exact ⟨fun _ => ⟨(i (0 : Fin 4)).val * 7 + (i (1 : Fin 4)).val, by omega, by omega, by omega⟩, fun _ => trivial⟩

/-- The second operand without the plane's columns. -/
def wrest (c : Dev nD) : sProp 𝕄 := ((c : Thread nD τ).loc main_arg1) ↦[Finset.univ \ (wV c).view.set]{fullShare} (m ((c : Thread nD τ).loc main_arg1))
def wP (c : Dev nD) : sProp 𝕄 := ((c : Thread nD τ).loc main_arg1) ↦{fullShare} (m ((c : Thread nD τ).loc main_arg1))
/-- The second operand is the plane's columns and the rest. -/
theorem w_whole (c : Dev nD) : wP (F := F) m c = iprop(wsl m c ∗ wrest m c) := by
  unfold wP wsl wrest
  have h := pointsTo_union (nD := nD) (τ := τ) (sig := sig) (Ix := Unit) (Val := Elt F) (Name := ℕ) (U := UU) (Lvl := ℕ) (ℓ := (c : Thread nD τ).loc main_arg1) (q := fullShare) (f := m ((c : Thread nD τ).loc main_arg1))
    (I := (wV c).view.set) (J := Finset.univ \ (wV c).view.set) Finset.disjoint_sdiff
  rw [Finset.union_sdiff_of_subset (Finset.subset_univ _)] at h
  exact h.mp.antisymm h.mpr

/-- Of a gathered block the contents may be forgotten. -/
theorem x_some (c : Dev nD) (S f) : xP (F := F) c S fullShare f ⊢ iprop(∃ f, xP c S fullShare f) := by iintro H; iexists f; iexact H
/-- Of a partial product the contents may be forgotten. -/
theorem g_some (c : Dev nD) (S f) : gP (F := F) c S f ⊢ iprop(∃ f, gP c S f) := by iintro H; iexists f; iexact H
/-- Of a received piece the contents may be forgotten. -/
theorem r_some (c : Dev nD) (S f) : rP (F := F) c S f ⊢ iprop(∃ f, rP c S f) := by iintro H; iexists f; iexact H

/-! ## What the peers are handed at entry -/

/-- What device `c` hands the ten at entry is its own slots: three of the gathered blocks, and all of the received pieces. -/
theorem bar_give (c : Dev nD) (fx fr) :
    iprop((bigSep (Finset.range 3) fun i => xP (F := F) c (xset (zz c (i + 1))) fullShare fx) ∗ rP c Finset.univ fr)
      ⊢ bigSep (Finset.range 10) fun i => barPay (F := F) (pe i c) (opp i) := by
  rw [show (10 : ℕ) = 3 + 7 from rfl, range_split 7 3]
  refine BI.sep_mono (BI.bigSep_mono fun i hi => ?_) ?_
  · have hi := Finset.mem_range.mp hi
    unfold barPay
    rw [if_pos (by unfold opp; rw [if_pos hi]; omega), pe_opp i (by omega) c, show pe i c = zsh (i + 1) c from if_pos hi, zz_zsh (i + 1) (by omega) 0 (by omega) c]
    exact x_some c _ fx
  · rw [r_whole, grid fun z d => rP (F := F) c (rset z d) fr, planes c, swap, backwards]
    refine BI.bigSep_mono fun d hd => ?_
    have hd := Finset.mem_range.mp hd
    have ho : opp (3 + d) = 9 - d := by unfold opp; rw [if_neg (by omega)]; omega
    unfold barPay
    rw [if_neg (by omega), pe_opp (3 + d) (by omega) c, show pe (3 + d) c = psh (d + 1) c by unfold pe; rw [if_neg (by omega), show 3 + d - 2 = d + 1 by omega], ho, show 9 - d - 3 = 6 - d by omega]
    refine BI.bigSep_mono fun z hz => ?_
    have hz := Finset.mem_range.mp hz
    rw [zz_psh (d + 1) (by omega) z hz c]
    exact r_some c _ fr

end Cert.A2A

end
-- ==== Proof.Body.lean ====
module

public import proofs.«01_k».proof.Proof.Memory
public import proofs.«01_k».proof.Proof.Gen.KernelIdeal.Launch
public import Idealize.ShloMosaic.Lib.Pipeline.Launch

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- Its positions, all at the first round. -/
def Pos (c : Dev nD) : sProp 𝕄 := bigSep Finset.univ fun k : Fin 66 => atPos ER (kcell (c, k)) 0 ∅ 0
/-- The tickets of the duties it pays. -/
def Toks (c : Dev nD) : sProp 𝕄 :=
  iprop((bigSep (Finset.range 10) fun i => dutyTok ER (rc (pe i c) 0) 0 (opp i)) ∗ (bigSep (Finset.range 10) fun i => dutyTok ER (rc (pe i c) 1) 0 (opp i))
    ∗ dutyTok ER (dc c 4) 0 0 ∗ bigSep (Finset.range 3) (T1 (F := F) c) ∗ bigSep (Finset.range 28) (T2 (F := F) c))
/-- The credits of what others pay it. -/
def Creds (c : Dev nD) : sProp 𝕄 :=
  iprop(cred (tallyAt (rc c 0) () 10) ∗ cred (tallyAt (rc c 1) () 10) ∗ (bigSep (Finset.range 3) fun i => cred (tallyAt (dc c (8 + zz c (i + 1))) () NX))
    ∗ bigSep (Finset.range 28) fun q => cred (tallyAt (dc c (40 + q)) () NS))
def start (c : Dev nD) : sProp 𝕄 := iprop(Rec m ∗ Pos c ∗ Toks c ∗ Creds c ∗ wP m c)
/-- The four scratch buffers, at any contents. -/
def scr (c : Dev nD) : sProp 𝕄 :=
  iprop((∃ f, wbP (F := F) c f) ∗ (∃ f, xP (F := F) c Finset.univ fullShare f) ∗ (∃ f, gP (F := F) c Finset.univ f) ∗ ∃ f, rP (F := F) c Finset.univ f)
def Φ₀ (c : Dev nD) : sProp 𝕄 := iprop(start m c ∗ scr c)
def Φ₁ (c : Dev nD) : sProp 𝕄 := iprop((bigSep Finset.univ fun k : Fin 66 => semVal (kcell (c, k)) 0) ∗ wP m c ∗ scr c)

/-- What the body carries along and does not touch. -/
def Rst (c : Dev nD) : sProp 𝕄 := iprop(atPos ER (dc c (8 + zz c 0)) 0 ∅ 0 ∗ wrest m c)

/-- The staged buffers before and after. -/
def ins (c : Dev nD) : sProp 𝕄 := iprop(xsP m c ∗ sxP m c ∗ swP m c)

/-- What the launch gives is what the first part starts from. -/
theorem enter (c : Dev nD) :
    iprop(Φ₀ m c ∗ ow (F := F) c 51 ∗ ins m c ∗ ∃ v : (cc0_stg3_0 : Ref sig .tc).ty.Contents (Elt F), ((c : Thread nD τ).loc cc0_stg3_0) ↦{fullShare} v)
      ⊢ Start m c (Rst m c) := by
  have hp : Pos (F := F) c = _ := sems_eq c fun s => atPos ER ((c : Thread nD τ), s) 0 ∅ 0
  have hB : (bigSep (Finset.Ico 0 10) (BS (F := F) c)) = iprop((bigSep (Finset.range 10) fun i => dutyTok ER (rc (pe i c) 0) 0 (opp i)) ∗ bigSep (Finset.range 10) fun i => barPay (F := F) (pe i c) (opp i)) :=
    (todo_all 10 _).trans (bigSep_sep' _ _ _)
  have hR1 : (bigSep (Finset.range 3) (R1 (F := F) c)) = iprop((bigSep (Finset.range 3) fun i => cred (tallyAt (dc c (8 + zz c (i + 1))) () NX)) ∗ bigSep (Finset.range 3) fun i => atPos ER (dc c (8 + zz c (i + 1))) 0 ∅ 0) := bigSep_sep' _ _ _
  have hR2 : (bigSep (Finset.range 28) (R2 (F := F) c)) = iprop((bigSep (Finset.range 28) fun q => cred (tallyAt (dc c (40 + q)) () NS)) ∗ bigSep (Finset.range 28) fun q => atPos ER (dc c (40 + q)) 0 ∅ 0) := bigSep_sep' _ _ _
  have hg : ∀ f, gP (F := F) c Finset.univ f ⊢ bigSep (Finset.range 4) (STI (F := F) c) := fun f => by
    rw [g_whole, planes c]; exact BI.bigSep_mono fun i _ => g_some c _ f
  have hx : ∀ f, xP (F := F) c Finset.univ fullShare f ⊢ iprop(xP (F := F) c (xset (zz c 0)) fullShare f ∗ bigSep (Finset.range 3) fun i => xP (F := F) c (xset (zz c (i + 1))) fullShare f) := fun f => by
    rw [x_whole, planes_head c]
  unfold Φ₀ start scr Toks Creds ins Rst
  rw [hp, w_whole]
  iintro ⟨⟨⟨#HR, ⟨Hp0, Hp1, Hp4, Hp5, ⟨Hp8, Hp8'⟩, Hp12, Hp40⟩, ⟨HtB, HtE, Ht4, HT1, HT2⟩, ⟨Hc0, Hc1, Hc8, Hc40⟩, Hw, Hwr⟩, Hwb, ⟨%fx, Hx⟩, ⟨%fg, Hg⟩, ⟨%fr, Hr⟩⟩, Ho, ⟨Hxs, Hsx, Hsw⟩, ⟨%v, Hv⟩⟩
  ihave Hx := (hx fx) $$ Hx
  icases Hx with ⟨Hxo, Hx⟩
  ihave Hg := (hg fg) $$ Hg
  ihave Hb := (bar_give c fx fr) $$ [Hx Hr]
  · iframe Hx Hr
  ihave HB := (Entails.of_eq hB.symm) $$ [HtB Hb]
  · iframe HtB Hb
  ihave HR1 := (Entails.of_eq hR1.symm) $$ [Hc8 Hp8']
  · iframe Hc8 Hp8'
  ihave HR2 := (Entails.of_eq hR2.symm) $$ [Hc40 Hp40]
  · iframe Hc40 Hp40
  unfold Start StA LW0 OW0 Bar WP EX OUTs
  iframe #
  iframe Ho HB Hwb Hw Ht4 Hp4 Hxs Hc0 Hp0 HT1 HR1 Hg HT2 Hsx Hsw HR2 Hp5 Hp12 HtE Hc1 Hp1 Hp8 Hwr
  isplitl [Hxo]; · iexists fx; iexact Hxo
  iexists v
  isplitl [Hv]; · iexact Hv
  ipureintro
  intro i hD
  rcases hD with ⟨j, hj, -⟩ | ⟨j, hj, -⟩ <;> omega

/-! ## The way out -/

/-- A semaphore with nothing more to come. -/
def Over (c : Dev nD) (s : SemLoc sig) : sProp 𝕄 :=
  iprop(∃ r : ℕ, ⌜∀ r', r ≤ r' → (Rd (F := F) m).duties ((c : Thread nD τ), s) r' = ∅⌝ ∗ atPos ER ((c : Thread nD τ), s) r ∅ 0)
/-- A semaphore past its one round is over. -/
theorem over_one (c : Dev nD) (s : SemLoc sig) : (atPos ER ((c : Thread nD τ), s) 1 ∅ 0 : sProp 𝕄) ⊢ Over (F := F) m c s := by
  unfold Over; iintro H; iexists 1; isplitr; · ipureintro; exact duties_later m _
  iexact H
/-- The received-block semaphore of the device's own plane is over from the start. -/
theorem over_off (c : Dev nD) : (atPos ER (dc c (8 + zz c 0)) 0 ∅ 0 : sProp 𝕄) ⊢ Over (F := F) m c (.dma (ds (8 + zz c 0))) := by
  unfold Over; iintro H; iexists 0; isplitr; · ipureintro; exact duties_off m c
  iexact H
/-- A family of semaphores past their rounds is over. -/
theorem over_fam (c : Dev nD) (n : ℕ) (g : ℕ → ℕ) :
    (bigSep (Finset.range n) fun i => (atPos ER (dc c (g i)) 1 ∅ 0 : sProp 𝕄)) ⊢ bigSep (Finset.range n) fun i => Over (F := F) m c (.dma (ds (g i))) :=
  BI.bigSep_mono fun i _ => over_one m c _
/-- A semaphore that is over is given back at zero. -/
theorem close_one (c : Dev nD) (s : SemLoc sig) (hs : ∃ k, csem k = s) :
    iprop(Rec m ∗ Over (F := F) m c s) ⊢ |={Set.univ}=> semVal ((c : Thread nD τ), s) 0 := by
  unfold Over
  iintro ⟨#HR, ⟨%r, %hr, Ha⟩⟩
  ihave ⟨⟨%κ, #HI⟩, -, -⟩ := (rec_get m c s hs) $$ HR
  imod (cell_close ER (Rd m) (Set.mem_univ κ) (fun h => h) (R := r) hr) $$ [Ha] with H
  · isplitr; · iexact HI
    iexact Ha
  imodintro
  iexact H
/-- All the kernel's semaphores are given back at zero. -/
theorem close_all (c : Dev nD) :
    iprop(Rec m ∗ bigSep Finset.univ fun k : Fin 66 => Over (F := F) m c (csem k)) ⊢ |={Set.univ}=> bigSep Finset.univ fun k : Fin 66 => semVal (kcell (c, k)) 0 :=
  ((sep_mono_left (BI.bigSep_of_persistent Finset.univ (Rec (F := F) m))).trans (by
    rw [← bigSep_sep']; exact BI.bigSep_mono fun k _ => close_one m c (csem k) ⟨k, rfl⟩)).trans (bigSep_fupd _ _)

/-- Every row block is filled. -/
theorem all_filled : ∀ c : Dev nD, ∀ D < 32, (∃ i < 4, D = zz c i * 8 + kk c 0) ∨ (∃ i < 28, D = i / 7 * 8 + kk c (7 - i % 7)) := by decide +kernel

/-- With every row block stored, the whole result is there. -/
theorem out_full (c : Dev nD) : OUTs m c (Dn c 4 28) ⊢ ((c : Thread nD τ).loc cc0_stg3_0) ↦{fullShare} (OUT m c) := by
  unfold OUTs
  iintro ⟨%v, Hv, %h⟩
  have e : v = OUT m c := funext fun i => h i (all_filled c _ (by
    have : (i (0 : Fin 2)).val < 4096 := (i (0 : Fin 2)).isLt
    omega))
  subst e
  iexact Hv

/-- What the last part leaves is what the launch wants back. -/
theorem leave (c : Dev nD) :
    StE m c 0 10 iprop(atPos ER (rc c 1) 1 ∅ 0 ∗ KE m c (Rst m c))
      ⊢ |={Set.univ}=> iprop(Φ₁ m c ∗ ow (F := F) c 0 ∗ ins m c ∗ ((c : Thread nD τ).loc cc0_stg3_0) ↦{fullShare} (OUT m c)) := by
  have hO : (bigSep Finset.univ fun k : Fin 66 => Over (F := F) m c (csem k)) = _ := sems_eq c fun s => Over (F := F) m c s
  have h1 : (bigSep (Finset.range 3) (W1D m c)) = iprop((bigSep (Finset.range 3) fun i => xP c (xset (zz c 0)) (qs (i + 1)) (XG m c)) ∗ bigSep (Finset.range 3) fun i => atPos ER (dc c (5 + i)) 1 ∅ 0) := bigSep_sep' _ _ _
  have h2 : (bigSep (Finset.range 28) (W2D m c)) = iprop((bigSep (Finset.range 28) fun q => PC m c (q / 7) (q % 7)) ∗ bigSep (Finset.range 28) fun q => atPos ER (dc c (12 + qn c q)) 1 ∅ 0) := bigSep_sep' _ _ _
  have h3 : (bigSep (Finset.range 3) (R1D m c)) = iprop((bigSep (Finset.range 3) fun i => xP c (xset (zz c (i + 1))) fullShare (XG m c)) ∗ bigSep (Finset.range 3) fun i => atPos ER (dc c (8 + zz c (i + 1))) 1 ∅ 0) := bigSep_sep' _ _ _
  have h4 : (bigSep (Finset.range 28) (R2D m c)) = iprop((bigSep (Finset.range 28) fun q => rP c (rset (q / 7) (q % 7)) (RST m c)) ∗ bigSep (Finset.range 28) fun q => atPos ER (dc c (40 + q)) 1 ∅ 0) := bigSep_sep' _ _ _
  have hx : iprop((xP c (xset (zz c 0)) (qs 0) (XG m c) ∗ bigSep (Finset.range 3) fun i => xP c (xset (zz c 0)) (qs (i + 1)) (XG m c)) ∗ bigSep (Finset.range 3) fun i => xP c (xset (zz c (i + 1))) fullShare (XG m c))
      = xP (F := F) c Finset.univ fullShare (XG m c) := by rw [← own_share, x_whole, planes_head c]
  have hg : iprop((bigSep (Finset.range 4) (OP m c)) ∗ bigSep (Finset.range 28) fun q => PC m c (q / 7) (q % 7)) = gP (F := F) c Finset.univ (STG m c) := by
    rw [grid (PC m c), ← bigSep_sep', g_whole, planes c fun z => gP c (gslot z) (STG m c)]
    exact BI.bigSep_congr fun i _ => (gslot_split c (zz c i) (STG m c)).symm
  unfold StE KE KD LWD Rst
  rw [h1, h2, h3, h4]
  iintro ⟨#HR, HO, -, HaE, ⟨HW1, Ha5⟩, ⟨HW2, Ha12⟩, ⟨HX, Ha8⟩, Hxo, Hop, ⟨Hwb, Hw, Ha4⟩, Hsx, Hsw, Hxs, HaB, Hout, ⟨Hr, Ha40⟩, Hoff, Hwr⟩
  ihave HX := (Entails.of_eq hx) $$ [Hxo HW1 HX]
  · iframe Hxo HW1 HX
  ihave HG := (Entails.of_eq hg) $$ [Hop HW2]
  · iframe Hop HW2
  ihave HRr := (Entails.of_eq (r_whole c (RST m c)).symm) $$ Hr
  ihave Hwp := (Entails.of_eq (w_whole m c).symm) $$ [Hw Hwr]
  · iframe Hw Hwr
  ihave Hout := (out_full m c) $$ Hout
  ihave Ha5 := (over_fam m c 3 fun i => 5 + i) $$ Ha5
  ihave Ha8 := (over_fam m c 3 fun i => 8 + zz c (i + 1)) $$ Ha8
  ihave Ha12 := (over_fam m c 28 fun i => 12 + qn c i) $$ Ha12
  ihave Ha40 := (over_fam m c 28 fun i => 40 + i) $$ Ha40
  ihave HaB := (over_one m c (.reg (0 : Fin 2))) $$ HaB
  ihave HaE := (over_one m c (.reg (1 : Fin 2))) $$ HaE
  ihave Ha4 := (over_one m c (.dma (ds 4))) $$ Ha4
  ihave Hoff := (over_off m c) $$ Hoff
  ihave HA := (Entails.of_eq hO.symm) $$ [Ha5 Ha8 Ha12 Ha40 HaB HaE Ha4 Hoff]
  · iframe HaB HaE Ha4 Ha5 Hoff Ha8 Ha12 Ha40
  imod (close_all m c) $$ [HA] with HZ
  · iframe #; iframe HA
  imodintro
  unfold Φ₁ scr ins
  iframe HZ Hwp HO Hxs Hsx Hsw Hout
  isplitl [Hwb]; · iexists _; iexact Hwb
  isplitl [HX]; · iexists _; iexact HX
  isplitl [HG]; · iexists _; iexact HG
  iexists _; iexact HRr

/-! ## The pipeline's data and the body's obligation -/

section Obligation

variable (ρ : Dev nD → PrngReg)

/-- The pipeline's grid has one point. -/
theorem cfg0_N : cfg0.N = 1 := by decide
def t₀ : Fin cfg0.N := ⟨0, by rw [cfg0_N]; decide⟩
/-- Every point of the grid is its first. -/
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => sxstg m c
    | ⟨2, _⟩ => swstg m c
    | ⟨3, _⟩ => OUT m c
  Φ t := match t with
    | ⟨0, _⟩ => Φ₀ m c
    | ⟨_ + 1, _⟩ => Φ₁ m c
  q _ := fullShare
  owed t := match t with
    | ⟨0, _⟩ => Od c 51
    | ⟨_ + 1, _⟩ => 0

/-- A family over the windows is its four members. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- Every input window is fetched. -/
theorem fetch_in (t : Fin cfg0.N) (w : Fin 4) (hw : w ≠ 3) : (cfg0.win w).fetch t = true := by rw [fin_N t]; revert w; decide

/-- Holding a whole buffer, in the two ways it is said. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m c) ∗ stg c cc0_stg1_0 (sxstg m c)
    ∗ stg c cc0_stg2_0 (swstg m c) ∗ stg c cc0_stg3_0 (OUT m c))

/-- What the launch hands the body is what the body starts from. -/
theorem pre_in (c : Dev nD) : bodyPre m ρ c ⊢ Start m c (Rst m c) := by
  have b0 : ∀ d, (dats m ρ 0 c).before (0 : Fin 4) t₀ d = xstg m c := fun d => by unfold Dat.before; rw [if_pos (fetch_in t₀ 0 (by decide))]; rfl
  have b1 : ∀ d, (dats m ρ 0 c).before (1 : Fin 4) t₀ d = sxstg m c := fun d => by unfold Dat.before; rw [if_pos (fetch_in t₀ 1 (by decide))]; rfl
  have b2 : ∀ d, (dats m ρ 0 c).before (2 : Fin 4) t₀ d = swstg m c := fun d => by unfold Dat.before; rw [if_pos (fetch_in t₀ 2 (by decide))]; rfl
  unfold bodyPre Dat.owesAt Pipeline.owesWithin
  iintro ⟨HΦ, ⟨%W, %hW, HO⟩, ⟨%d0, %g0, %h0, H0⟩, ⟨%d1, %g1, %h1, H1⟩, ⟨%d2, %g2, %h2, H2⟩, ⟨%d3, %g3, %h3, H3⟩⟩
  have h0 := h0.trans (b0 d0)
  have h1 := h1.trans (b1 d1)
  have h2 := h2.trans (b2 d2)
  subst h0; subst h1; subst h2
  iapply (enter m c)
  iframe HΦ
  isplitl [HO]
  · unfold ow; iexists W; iexact HO
  isplitl [H0 H1 H2]
  · unfold ins xsP sxP swP; iframe H0 H1 H2
  iexists g3; iexact H3

/-- What the body ends with is what the launch expects back. -/
theorem post_out (c : Dev nD) :
    iprop(Φ₁ m c ∗ ow (F := F) c 0 ∗ ins m c ∗ ((c : Thread nD τ).loc cc0_stg3_0) ↦{fullShare} (OUT m c)) ⊢ bodyPost m ρ c := by
  unfold bodyPost Dat.owesAt Pipeline.owesWithin ow ins xsP sxP swP
  iintro ⟨HΦ, ⟨%W, HO⟩, ⟨H0, H1, H2⟩, H3⟩
  iframe HΦ
  isplitl [HO]
  · iexists W
    isplitr
    · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body runs from what the pipeline gives to what it wants back. -/
theorem run_body (c : Dev nD) : bodyPre m ρ c ⊢ wpc c (app (cc0_body (F := F))) fun _ => bodyPost m ρ c := by
  refine (pre_in m ρ c).trans ((whole m c (Rst m c)).trans ?_)
  exact (wp_mono frame (wpE (defs₀ (F := F)) 𝒱₀ (c : Thread nD τ) none) Set.univ fun _ => (leave m c).trans (BI.fupd_mono (post_out m ρ c))).trans
    (wp_fupd frame (wpE (defs₀ (F := F)) 𝒱₀ (c : Thread nD τ) none) Set.univ _ _)

/-- The library's obligation on device `c`'s body. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact run_body m ρ c

end Obligation

end Cert.A2A

end
-- ==== Proof.Deal.lean ====
module

public import proofs.«01_k».proof.Proof.Body

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tickets, as minted and as dealt -/

/-- The `t`-th ticket of device `c`'s own semaphores: ten at entry, ten at exit, one for each transfer semaphore. -/
def tokOf (p : Dev nD × Fin 84) : GSem nD τ sig × ℕ × ℕ :=
  if p.2.val < 10 then (rc p.1 0, 0, p.2.val) else if p.2.val < 20 then (rc p.1 1, 0, p.2.val - 10) else (dc p.1 (p.2.val - 16), 0, 0)

/-- Transfer semaphores of different numbers differ. -/
theorem ds_inj {a b : ℕ} (ha : a < 68) (hb : b < 68) (h : (SemLoc.dma (ds a) : SemLoc sig) = .dma (ds b)) : a = b := by
  have h1 : ds a = ds b := by injection h
  rw [← ds_val a ha, ← ds_val b hb, h1]

/-- A token's device. -/
theorem tokOf_dev (p : Dev nD × Fin 84) : (tokOf p).1.1.1 = p.1 := by unfold tokOf; split <;> [rfl; (split <;> rfl)]
/-- Different tokens are of different duties. -/
theorem tokOf_injective : Function.Injective tokOf := by
  rintro ⟨c, t⟩ ⟨c', t'⟩ h
  have h1 : c = c' := (tokOf_dev (c, t)).symm.trans ((congrArg (fun x : GSem nD τ sig × ℕ × ℕ => x.1.1.1) h).trans (tokOf_dev (c', t')))
  subst h1
  have hs := congrArg (fun x : GSem nD τ sig × ℕ × ℕ => x.1.2) h
  have hd := congrArg (fun x : GSem nD τ sig × ℕ × ℕ => x.2.2) h
  unfold tokOf at hs hd
  dsimp only at hs hd
  have ht := t.isLt
  have ht' := t'.isLt
  have : t.val = t'.val := by
    by_cases a : t.val < 10 <;> by_cases b : t.val < 20 <;> by_cases a' : t'.val < 10 <;> by_cases b' : t'.val < 20 <;>
      simp only [a, b, a', b', if_true, if_false] at hs hd <;>
      first
      | omega
      | (have := ds_inj (by omega) (by omega) hs; omega)
      | (exact absurd hs (by decide))
      | (exact absurd hs (by simp))
  rw [Fin.ext this]

/-- The listed semaphores differ. -/
theorem csem_injective : Function.Injective csem := by
  intro k k' h
  have hk := k.isLt
  have hk' := k'.isLt
  unfold csem at h
  refine Fin.ext ?_
  by_cases a : k.val < 2 <;> by_cases a' : k'.val < 2 <;> simp only [a, a', dif_pos, dif_neg, not_false_eq_true] at h
  · have : (⟨k.val, a⟩ : Fin 2) = ⟨k'.val, a'⟩ := by injection h
    exact congrArg (fun x : Fin 2 => x.val) this
  · exact absurd h (by simp)
  · exact absurd h (by simp)
  · have := ds_inj (by omega) (by omega) h; omega
/-- The listed semaphores of all devices differ. -/
theorem kcell_injective : Function.Injective (kcell : Dev nD × Fin 66 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩
def allToks : Finset (GSem nD τ sig × ℕ × ℕ) := Finset.univ.map ⟨tokOf, tokOf_injective⟩

/-- The tickets of device `c`'s own semaphores. -/
def toks (c : Dev nD) : sProp 𝕄 :=
  iprop((bigSep (Finset.range 10) fun i => dutyTok ER (rc c 0) 0 i) ∗ (bigSep (Finset.range 10) fun i => dutyTok ER (rc c 1) 0 i) ∗ dutyTok ER (dc c 4) 0 0
    ∗ (bigSep (Finset.range 3) fun i => dutyTok ER (dc c (5 + i)) 0 0) ∗ (bigSep (Finset.range 4) fun z => dutyTok ER (dc c (8 + z)) 0 0)
    ∗ (bigSep (Finset.range 28) fun q => dutyTok ER (dc c (12 + q)) 0 0) ∗ bigSep (Finset.range 28) fun q => dutyTok ER (dc c (40 + q)) 0 0)

/-- A device's tokens, by kind. -/
theorem toks_eq (c : Dev nD) : (bigSep Finset.univ fun t : Fin 84 => (dutyTok ER (tokOf (c, t)).1 (tokOf (c, t)).2.1 (tokOf (c, t)).2.2 : sProp 𝕄)) = toks c := by
  let B : ℕ → sProp 𝕄 := fun n => if n < 10 then dutyTok ER (rc c 0) 0 n else if n < 20 then dutyTok ER (rc c 1) 0 (n - 10) else dutyTok ER (dc c (n - 16)) 0 0
  have e : (bigSep Finset.univ fun t : Fin 84 => (dutyTok ER (tokOf (c, t)).1 (tokOf (c, t)).2.1 (tokOf (c, t)).2.2 : sProp 𝕄)) = bigSep (Finset.range 84) B := by
    rw [← over_fin]
    refine BI.bigSep_congr fun t _ => ?_
    unfold tokOf; dsimp only [B]; split <;> [rfl; (split <;> rfl)]
  have b0 : (bigSep (Finset.range 10) fun i => B i) = bigSep (Finset.range 10) fun i => dutyTok ER (rc c 0) 0 i :=
    BI.bigSep_congr fun i hi => if_pos (Finset.mem_range.mp hi)
  have b1 : (bigSep (Finset.range 10) fun i => B (10 + i)) = bigSep (Finset.range 10) fun i => dutyTok ER (rc c 1) 0 i :=
    BI.bigSep_congr fun i hi => by
      have := Finset.mem_range.mp hi
      dsimp only [B]; rw [if_neg (by omega), if_pos (by omega), Nat.add_sub_cancel_left]
  have b2 : ∀ a n : ℕ, 20 ≤ a + 16 → ∀ g : ℕ → ℕ, (∀ i, g i = a + 16 + i) → (bigSep (Finset.range n) fun i => B (g i)) = bigSep (Finset.range n) fun i => dutyTok ER (dc c (a + i)) 0 0 := fun a n h g hg =>
    BI.bigSep_congr fun i _ => by
      dsimp only [B]; rw [hg, if_neg (by omega), if_neg (by omega), show a + 16 + i - 16 = a + i by omega]
  rw [e]
  unfold toks
  rw [show (84 : ℕ) = 10 + 74 from rfl, range_split 74 10, b0, show (74 : ℕ) = 10 + 64 from rfl, range_split 64 10, b1, show (64 : ℕ) = 63 + 1 from rfl, range_head 63,
    show (63 : ℕ) = 3 + 60 from rfl, range_split 60 3, show (60 : ℕ) = 4 + 56 from rfl, range_split 56 4, show (56 : ℕ) = 28 + 28 from rfl, range_split 28 28,
    b2 5 3 (by omega) (fun i => 10 + (10 + (i + 1))) (fun i => by omega), b2 8 4 (by omega) (fun i => 10 + (10 + (3 + i + 1))) (fun i => by omega),
    b2 12 28 (by omega) (fun i => 10 + (10 + (3 + (4 + i) + 1))) (fun i => by omega), b2 40 28 (by omega) (fun i => 10 + (10 + (3 + (4 + (28 + i)) + 1))) (fun i => by omega)]
  rfl

/-- Families over the devices, row by row. -/
theorem univ_swap (A : Dev nD → ℕ → sProp 𝕄) : ∀ n : ℕ, (bigSep Finset.univ fun c : Dev nD => bigSep (Finset.range n) (A c)) = bigSep (Finset.range n) fun i => bigSep Finset.univ fun c : Dev nD => A c i
  | 0 => by
    rw [done_nil]
    exact (BI.bigSep_congr fun c _ => done_nil (A c)).trans (BI.bigSep_emp_const (Finset.univ : Finset (Dev nD)))
  | n + 1 => by
    rw [done_last, ← univ_swap A n, ← bigSep_sep']
    exact BI.bigSep_congr fun c _ => done_last n (A c)

/-- Each member handed to the device that holds it next. -/
theorem around (n : ℕ) (σ : ℕ → Dev nD → Dev nD) (hσ : ∀ i < n, Function.Injective (σ i)) (A B : Dev nD → ℕ → sProp 𝕄) (h : ∀ i < n, ∀ c, A (σ i c) i = B c i) :
    (bigSep Finset.univ fun c : Dev nD => bigSep (Finset.range n) (A c)) = bigSep Finset.univ fun c : Dev nD => bigSep (Finset.range n) (B c) := by
  rw [univ_swap, univ_swap]
  refine BI.bigSep_congr fun i hi => ?_
  have hi := Finset.mem_range.mp hi
  rw [bigSep_univ_equiv (Equiv.ofBijective (σ i) (Finite.injective_iff_bijective.mp (hσ i hi))) fun c => A c i]
  exact BI.bigSep_congr fun c _ => h i hi c

/-- Different devices have different `i`-th peers. -/
theorem pe_inj (i : ℕ) (hi : i < 10) : Function.Injective (pe i) := fun a b h => by rw [← pe_opp i hi a, ← pe_opp i hi b, h]
/-- Different devices have different peers a fixed number of planes above. -/
theorem zsh_inj (i : ℕ) (hi : i < 3) : Function.Injective (zsh (i + 1)) := fun a b h => by rw [← zsh_opp i hi a, ← zsh_opp i hi b, h]
/-- Different devices have different neighbours a fixed number of places after. -/
theorem psh_inj (i : ℕ) (hi : i < 7) : Function.Injective (psh (i + 1)) := fun a b h => by rw [← psh_opp i hi a, ← psh_opp i hi b, h]

/-- The ten tickets of a counting semaphore go to the ten peers. -/
theorem deal_reg (k : Fin 2) : (bigSep Finset.univ fun c : Dev nD => bigSep (Finset.range 10) fun i => (dutyTok ER (rc c k) 0 i : sProp 𝕄))
    = bigSep Finset.univ fun c : Dev nD => bigSep (Finset.range 10) fun i => (dutyTok ER (rc (pe i c) k) 0 (opp i) : sProp 𝕄) := by
  refine Eq.trans (BI.bigSep_congr fun c _ => range_perm 10 opp opp_lt (fun i hi j hj h => by rw [← opp_opp i hi, ← opp_opp j hj, h]) fun i => (dutyTok ER (rc c k) 0 i : sProp 𝕄)) ?_
  exact around 10 pe pe_inj (fun c i => (dutyTok ER (rc c k) 0 (opp i) : sProp 𝕄)) _ fun i hi c => rfl
/-- The tickets of a block's arrival go to the block's device. -/
theorem deal_block : (bigSep Finset.univ fun c : Dev nD => bigSep (Finset.range 4) fun z => (dutyTok ER (dc c (8 + z)) 0 0 : sProp 𝕄))
    ⊢ bigSep Finset.univ fun c : Dev nD => bigSep (Finset.range 3) fun i => (dutyTok ER (dc (zsh (i + 1) c) (8 + zz c 0)) 0 0 : sProp 𝕄) := by
  refine Entails.trans (Q := bigSep Finset.univ fun c : Dev nD => bigSep (Finset.range 3) fun i => (dutyTok ER (dc c (8 + zz c (opp i + 1))) 0 0 : sProp 𝕄)) ?_ (Entails.of_eq ?_)
  · refine BI.bigSep_mono fun c _ => ?_
    rw [planes_head c fun z => (dutyTok ER (dc c (8 + z)) 0 0 : sProp 𝕄), range_perm 3 opp (by decide) (by decide) fun i => (dutyTok ER (dc c (8 + zz c (i + 1))) 0 0 : sProp 𝕄)]
    exact sep_and.trans and_elimR
  · exact around 3 (fun i => zsh (i + 1)) zsh_inj (fun c i => (dutyTok ER (dc c (8 + zz c (opp i + 1))) 0 0 : sProp 𝕄)) _ fun i hi c => by
      show (dutyTok ER (dc (zsh (i + 1) c) (8 + zz (zsh (i + 1) c) (opp i + 1))) 0 0 : sProp 𝕄) = _
      rw [zz_zsh0 i hi c]
/-- The tickets of a piece's arrival go to the piece's device. -/
theorem deal_piece : (bigSep Finset.univ fun c : Dev nD => bigSep (Finset.range 28) fun q => (dutyTok ER (dc c (40 + q)) 0 0 : sProp 𝕄))
    = bigSep Finset.univ fun c : Dev nD => bigSep (Finset.range 28) fun q => (dutyTok ER (dc (psh (q % 7 + 1) c) (40 + qn c q)) 0 0 : sProp 𝕄) := by
  refine Eq.trans (BI.bigSep_congr fun c _ => pieces c fun q => (dutyTok ER (dc c (40 + q)) 0 0 : sProp 𝕄)) ?_
  refine around 28 (fun q => psh (q % 7 + 1)) (fun q _ => psh_inj _ (Nat.mod_lt _ (by decide))) (fun c q => (dutyTok ER (dc c (40 + qn c q)) 0 0 : sProp 𝕄)) _ fun q hq c => ?_
  show (dutyTok ER (dc (psh (q % 7 + 1) c) (40 + qn (psh (q % 7 + 1) c) q)) 0 0 : sProp 𝕄) = _
  unfold qn
  rw [zz_psh (q % 7 + 1) (by omega) (q / 7) (by omega) c]

/-- The tokens that devices' semaphores start with are dealt to the devices that use them. -/
theorem toks_around : (bigSep Finset.univ fun c : Dev nD => (toks c : sProp 𝕄)) ⊢ bigSep Finset.univ fun c : Dev nD => Toks (F := F) c := by
  have h1 : ∀ c : Dev nD, (bigSep (Finset.range 3) (T1 (F := F) c)) = iprop((bigSep (Finset.range 3) fun i => dutyTok ER (dc c (5 + i)) 0 0) ∗ bigSep (Finset.range 3) fun i => dutyTok ER (dc (zsh (i + 1) c) (8 + zz c 0)) 0 0) := fun c => bigSep_sep' _ _ _
  have h2 : ∀ c : Dev nD, (bigSep (Finset.range 28) (T2 (F := F) c)) = iprop((bigSep (Finset.range 28) fun q => dutyTok ER (dc c (12 + q)) 0 0) ∗ bigSep (Finset.range 28) fun q => dutyTok ER (dc (psh (q % 7 + 1) c) (40 + qn c q)) 0 0) := fun c => by
    rw [pieces c fun q => (dutyTok ER (dc c (12 + q)) 0 0 : sProp 𝕄)]; exact bigSep_sep' _ _ _
  unfold toks Toks
  simp only [h1, h2, bigSep_sep']
  rw [deal_reg 0, deal_reg 1, deal_piece]
  iintro ⟨H0, H1, H4, H5, H8, H12, H40⟩
  ihave H8 := deal_block $$ H8
  iframe H0 H1 H4 H5 H8 H12 H40

/-! ## What a semaphore is owed at the start -/

/-- The device whose `j`-th payment from the last is to device `c`. -/
def li (c : Dev nD) (j : ℕ) : Dev nD :=
  if j < 10 then pe (opp (9 - j)) c else if j < 38 then psh (7 - (37 - j) % 7) c else if j < 41 then zsh (j - 37) c else pe (opp (50 - j)) c
/-- The device named as owing `c` its `j`-th payment does owe it to `c`. -/
theorem lcD_li : ∀ j < 51, ∀ c, lcD (li c j) j = c := by decide +kernel
/-- The device that a `j`-th payment goes to names its payer. -/
theorem li_lcD : ∀ j < 51, ∀ c, li (lcD c j) j = c := by decide +kernel
/-- The semaphore that payment is to. -/
def ls (c : Dev nD) (j : ℕ) : SemLoc sig :=
  if j < 10 then .reg 1 else if j < 38 then .dma (ds (40 + qn c (37 - j))) else if j < 41 then .dma (ds (8 + zz c (j - 37))) else .reg 0
/-- The semaphore the `j`-th payment to device `c` goes to. -/
theorem lcS_li (c : Dev nD) (j : ℕ) : lcS (li c j) j = ls c j := by
  unfold lcS li ls qn
  split
  · rfl
  · split
    · rw [zz_psh (7 - (37 - j) % 7) (by omega) ((37 - j) / 7) (by omega) c]
    · split
      · rw [zz_zsh (j - 37) (by omega) 0 (by omega) c, Nat.add_zero]
      · rfl

/-- What all devices owe a semaphore, payment by payment. -/
theorem owed_sum (c : Dev nD) (s : SemLoc sig) : (∑ d : Dev nD, Od d 51 ((c : Thread nD τ), s) ()) = ∑ j ∈ Finset.range 51, if ls c j = s then amt s else 0 := by
  rw [Finset.sum_congr rfl fun d _ => Od_apply d ((c : Thread nD τ), s) () 51, Finset.sum_comm]
  refine Finset.sum_congr rfl fun j hj => ?_
  have hj := Finset.mem_range.mp hj
  rw [Finset.sum_eq_single (li c j)]
  · have e : lc (li c j) j = ((c : Thread nD τ), ls c j) := by unfold lc; rw [lcD_li j hj c, lcS_li]
    rw [e]
    by_cases h : ls c j = s
    · rw [if_pos h, if_pos (by rw [h])]
    · rw [if_neg h, if_neg fun h' => h (congrArg Prod.snd h')]
  · intro d _ hd
    refine if_neg fun h => hd ?_
    have h1 : lcD d j = c := congrArg (fun g : GSem nD τ sig => g.1.1) h
    rw [← h1, li_lcD j hj d]
  · exact fun h => absurd (Finset.mem_univ _) h

/-- A barrier is owed ten. -/
theorem owed_reg (c : Dev nD) (i : Fin 2) : (∑ d : Dev nD, Od d 51 (rc c i) ()) = 10 := by
  rw [owed_sum]
  have e : ∀ j ∈ Finset.range 51, (if ls c j = .reg i then amt (.reg i : SemLoc sig) else 0) = if (if j < 10 then i = 1 else if j < 41 then False else i = 0) then 1 else 0 := fun j _ => by
    unfold ls
    by_cases h1 : j < 10
    · simp only [h1, if_true]
      by_cases hi : i = 1
      · subst hi; simp; rfl
      · rw [if_neg hi, if_neg fun h => hi (by injection h with h; exact h.symm)]
    · by_cases h2 : j < 38
      · simp [h1, h2, show j < 41 by omega]
      · by_cases h3 : j < 41
        · simp [h1, h2, h3]
        · simp only [h1, h2, h3, if_false]
          by_cases hi : i = 0
          · subst hi; simp; rfl
          · rw [if_neg hi, if_neg fun h => hi (by injection h with h; exact h.symm)]
  rw [Finset.sum_congr rfl e]
  clear e
  revert i; decide

/-- A semaphore that just one payment goes to is owed its amount. -/
theorem owed_one (c : Dev nD) (s : SemLoc sig) (j₀ : ℕ) (h : j₀ < 51) (h₀ : ls c j₀ = s) (h1 : ∀ j < 51, ls c j = s → j = j₀) : (∑ d : Dev nD, Od d 51 ((c : Thread nD τ), s) ()) = amt s := by
  rw [owed_sum, Finset.sum_eq_single j₀, if_pos h₀]
  · exact fun j hj hn => if_neg fun h' => hn (h1 j (Finset.mem_range.mp hj) h')
  · exact fun h' => absurd (Finset.mem_range.mpr h) h'

/-- A transfer semaphore's amount. -/
theorem amt_dma (n : ℕ) (h : n < 68) : amt (.dma (ds n) : SemLoc sig) = dmaAmt n := by show dmaAmt (ds n).val = _; rw [ds_val n h]

/-- The semaphore of a block to be received is owed the block's credit. -/
theorem owed_block (c : Dev nD) (i : ℕ) (hi : i < 3) : (∑ d : Dev nD, Od d 51 (dc c (8 + zz c (i + 1))) ()) = NX := by
  have hz := zz_lt c (i + 1)
  refine (owed_one c _ (38 + i) (by omega) ?_ fun j hj h => ?_).trans ((amt_dma _ (by omega)).trans (dmaAmt_X _ (by omega) (by omega)))
  · unfold ls; rw [if_neg (by omega), if_neg (by omega), if_pos (by omega), show 38 + i - 37 = i + 1 by omega]
  · unfold ls at h
    by_cases h1 : j < 10
    · simp [h1] at h
    · by_cases h2 : j < 38
      · simp only [h1, h2, if_true, if_false] at h
        have := qn_lt c (37 - j)
        have := ds_inj (by omega) (by omega) h
        omega
      · by_cases h3 : j < 41
        · simp only [h1, h2, h3, if_true, if_false] at h
          have := zz_lt c (j - 37)
          have := ds_inj (by omega) (by omega) h
          have := zz_inj (j - 37) (by omega) (i + 1) (by omega) c (by omega)
          omega
        · simp [h1, h2, h3] at h

/-- The semaphore of a piece to be received is owed the piece's credit. -/
theorem owed_piece (c : Dev nD) (q : ℕ) (hq : q < 28) : (∑ d : Dev nD, Od d 51 (dc c (40 + qn c q)) ()) = NS := by
  have hz := qn_lt c q
  refine (owed_one c _ (37 - q) (by omega) ?_ fun j hj h => ?_).trans ((amt_dma _ (by omega)).trans (dmaAmt_S _ (by omega)))
  · unfold ls; rw [if_neg (by omega), if_pos (by omega), show 37 - (37 - q) = q by omega]
  · unfold ls at h
    by_cases h1 : j < 10
    · simp [h1] at h
    · by_cases h2 : j < 38
      · simp only [h1, h2, if_true, if_false] at h
        have := qn_lt c (37 - j)
        have h4 := ds_inj (by omega) (by omega) h
        unfold qn at h4
        have := zz_inj ((37 - j) / 7) (by omega) (q / 7) (by omega) c (by omega)
        omega
      · by_cases h3 : j < 41
        · simp only [h1, h2, h3, if_true, if_false] at h
          have := zz_lt c (j - 37)
          have := ds_inj (by omega) (by omega) h
          omega
        · simp [h1, h2, h3] at h

/-- A semaphore's credit at the start is what it is owed. -/
theorem launch_at (c : Dev nD) (s : SemLoc sig) (n : ℕ) (h : (∑ d : Dev nD, Od d 51 ((c : Thread nD τ), s) ()) = n) :
    tallyOn ((c : Thread nD τ), s) (launchCredit (Pipeline.owing fun d => Od d 51) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

/-- The credits a device is launched with. -/
theorem creds (c : Dev nD) : (Pipeline.launchCred (fun d => Od d 51) c : sProp 𝕄) ⊢ Creds (F := F) c := by
  have h0 := launch_at c _ _ (owed_reg c 0)
  have h1 := launch_at c _ _ (owed_reg c 1)
  have h8 : (bigSep (Finset.range 3) fun i => (cred (tallyOn (dc c (8 + zz c (i + 1))) (launchCredit (Pipeline.owing fun d => Od d 51) 0 (dc c (8 + zz c (i + 1))))) : sProp 𝕄))
      = bigSep (Finset.range 3) fun i => cred (tallyAt (dc c (8 + zz c (i + 1))) () NX) :=
    BI.bigSep_congr fun i hi => by rw [launch_at c _ _ (owed_block c i (Finset.mem_range.mp hi))]
  have h40 : (bigSep (Finset.range 28) fun q => (cred (tallyOn (dc c (40 + q)) (launchCredit (Pipeline.owing fun d => Od d 51) 0 (dc c (40 + q)))) : sProp 𝕄))
      = bigSep (Finset.range 28) fun q => cred (tallyAt (dc c (40 + q)) () NS) := by
    rw [pieces c, pieces c fun q => (cred (tallyAt (dc c (40 + q)) () NS) : sProp 𝕄)]
    exact BI.bigSep_congr fun q hq => by rw [launch_at c _ _ (owed_piece c q (Finset.mem_range.mp hq))]
  unfold Pipeline.launchCred
  refine (BI.bigSep_subset (Finset.subset_univ (Finset.univ.map ⟨csem, csem_injective⟩))).trans ?_
  rw [BI.bigSep_map]
  refine (Entails.of_eq (sems_eq c fun s => (cred (tallyOn ((c : Thread nD τ), s) (launchCredit (Pipeline.owing fun d => Od d 51) 0 ((c : Thread nD τ), s))) : sProp 𝕄))).trans ?_
  unfold Creds
  rw [h0, h1, h8, h40]
  iintro ⟨H0, H1, -, -, ⟨-, H8⟩, -, H40⟩
  iframe H0 H1 H8 H40

end Cert.A2A

end
-- ==== Proof.Run.lean ====
module

public import proofs.«01_k».proof.Proof.Deal
public import Idealize.ShloMosaic.Lib.Pipeline.CollectiveSegs

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own semaphores: all but the one the runtime provides at entry. -/
abbrev osem : Fin 65 → SemLoc sig := fun k => csem k.succ
/-- The kernel's own semaphores, listed once each. -/
theorem ownSemFacts : Pipeline.OwnSemFacts cfg0.spec osem where
  isScoped := by decide
  inj := fun a b h => Fin.succ_injective _ (csem_injective h)
  disj := by decide

/-- Every window's array is held whole. -/
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

/-- What the launch deals device `c`. -/
def G (c : Dev nD) : sProp 𝕄 :=
  iprop((bigSep Finset.univ fun k : Fin 66 => roundState ER (Rd m) (kcell (c, k)) 0)
    ∗ (bigSep Finset.univ fun k : Fin 66 => atPos ER (kcell (c, k)) 0 ∅ 0) ∗ (bigSep Finset.univ fun k : Fin 66 => reached ER (kcell (c, k)) 0) ∗ toks c)

/-- The records without the levels. -/
def Recs : sProp 𝕄 :=
  iprop((bigSep Finset.univ fun p : Dev nD × Fin 66 => iprop(∃ κ, cellInv ER (Rd m) κ (kcell p))) ∗ bigSep Finset.univ fun p : Dev nD × Fin 66 => reached ER (kcell p) 0)
instance Recs_persistent : Persistent (Recs (F := F) m) := by unfold Recs; infer_instance

/-- What the devices together make of it. -/
def G' (c : Dev nD) : sProp 𝕄 := iprop(Recs m ∗ Pos c ∗ Toks c)

/-- The initial ghost state of the semaphores is dealt to the devices. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 66 => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod]
    exact BI.bigSep_congr fun c _ => toks_eq c
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-- The launch's one unscoped semaphore. -/
theorem unscopedSems0_eq (c : Dev nD) : (unscopedSems0 c : sProp 𝕄) = semVal (kcell (c, 0)) 0 := by
  unfold unscopedSems0; rw [bigSep_eq_bigSepL_of_eq [SemLoc.reg (0 : Fin 2)] (by decide) (by decide)]; rfl

/-- The first of sixty-six taken out. -/
theorem univ_succ (A : Fin 66 → sProp 𝕄) : bigSep Finset.univ A = iprop(A 0 ∗ bigSep Finset.univ fun k : Fin 65 => A k.succ) := by
  have e : (Finset.univ : Finset (Fin 66)) = insert 0 (Finset.univ.map ⟨Fin.succ, Fin.succ_injective _⟩) := by decide
  rw [e, BI.bigSep_insert (by decide), BI.bigSep_map]; rfl

/-- The kernel's own semaphores and the runtime's are the ones the protocol tracks. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 66 => semVal (kcell (c, k)) 0 : sProp 𝕄) := by
  rw [unscopedSems0_eq, univ_succ]; rfl

/-- A device's semaphores at zero are put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd m) κ (kcell (c, k))))
          ∗ (bigSep Finset.univ fun k : Fin 66 => reached ER (kcell (c, k)) 0) ∗ Pos c ∗ toks c) := by
  unfold G
  iintro ⟨Hos, Hus, Hst, Hat, Hr, Htok⟩
  ihave Hv := (Entails.of_eq (sems0_eq (F := F) c)) $$ [Hos Hus]
  · iframe Hus Hos
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k : Fin 66 => iprop(∃ κ : ℕ, cellInv ER (Rd m) κ (kcell (c, k))) : sProp 𝕄) from by
        rw [← bigSep_sep']
        exact (BI.bigSep_mono fun k _ => (Rounds.body_intro ER (Rd m) (kcell (c, k))).trans inv_alloc).trans (bigSep_fupd _ _)) $$ [Hv Hst] with Hinv
  · iframe Hv Hst
  imodintro
  unfold Pos
  iframe Hinv Hr Hat Htok

/-- The tokens, and copies of the invariants, are regrouped by the device that uses them. -/
theorem regroup :
    (bigSep Finset.univ fun c : Dev nD => iprop((bigSep Finset.univ fun k : Fin 66 => iprop(∃ κ : ℕ, cellInv ER (Rd m) κ (kcell (c, k))))
          ∗ (bigSep Finset.univ fun k : Fin 66 => reached ER (kcell (c, k)) 0) ∗ Pos c ∗ toks c) : sProp 𝕄)
      ⊢ bigSep Finset.univ (G' m) := by
  rw [bigSep_sep', bigSep_sep', bigSep_sep', ← bigSep_univ_prod (fun p : Dev nD × Fin 66 => iprop(∃ κ : ℕ, cellInv ER (Rd (F := F) m) κ (kcell p))),
    ← bigSep_univ_prod (fun p : Dev nD × Fin 66 => (reached ER (kcell p) 0 : sProp 𝕄))]
  have hG : bigSep Finset.univ (G' (F := F) m) = iprop((bigSep (Finset.univ : Finset (Dev nD)) fun _ => Recs (F := F) m) ∗ (bigSep Finset.univ fun c : Dev nD => Pos (F := F) c) ∗ bigSep Finset.univ fun c : Dev nD => Toks (F := F) c) := by
    unfold G'; rw [bigSep_sep', bigSep_sep']
  rw [hG]
  iintro ⟨#HI, #HR, Hat, Htok⟩
  ihave Htok := (toks_around (F := F)) $$ Htok
  iframe Hat Htok
  iapply (BI.bigSep_of_persistent (Finset.univ : Finset (Dev nD)) (Recs (F := F) m))
  unfold Recs
  isplitr; · iexact HI
  iexact HR

/-- All that the devices are launched with, set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-- A device's start, from what it is launched with. -/
theorem start_intro (c : Dev nD) :
    iprop(Pipeline.unscopedRestP Pipeline.Prefetch.none cfg0.spec c (fun b => m ((c : Thread nD τ).loc b)) ∗ levAts L lv
        ∗ Pipeline.launchCred (fun d => Od d 51) c ∗ prngReg c (ρ c) ∗ G' m c)
      ⊢ |={Set.univ}=> iprop(start m c ∗ emp) := by
  have hu : (Pipeline.unscopedRestP (Ix := Unit) (Name := ℕ) (U := UU) (Lvl := ℕ) Pipeline.Prefetch.none cfg0.spec c (fun b => m ((c : Thread nD τ).loc b)) : sProp 𝕄) = wP m c :=
    (Pipeline.unscopedRestP_none _ _ _).trans (unscopedRest0_eq c _)
  rw [hu]
  iintro ⟨Hw, #Hlev, Hcr, -, HG⟩
  ihave Hc := (creds (F := F) c) $$ Hcr
  unfold G' Recs
  icases HG with ⟨⟨#HI, #HR⟩, HP, HT⟩
  imodintro
  isplitl
  · unfold start Rec
    iframe HP HT Hc Hw
    isplitr; · iexact HI
    isplitr; · iexact HR
    iexact Hlev
  · iempintro

/-- The scratch buffers, listed. -/
theorem scr_eq (c : Dev nD) : (Pipeline.scopedRest (Ix := Unit) (Name := ℕ) (U := UU) (Lvl := ℕ) (Val := Elt F) cfg0.spec c : sProp 𝕄) = scr c := scopedRest0_eq c

/-- What a device starts with is what the pipeline's body needs. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  iframe Hs Hr

/-- What is kept past the pipeline: the runtime's semaphore and the second operand. -/
def left (c : Dev nD) : sProp 𝕄 := iprop(unscopedSems0 c ∗ wP m c)

/-- What the pipeline's body leaves is what is kept, the semaphores at zero and the scratch buffers. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scr_eq]
  unfold Φ₁ left
  rw [← sems0_eq]
  iintro ⟨⟨HU, HO⟩, Hw, Hr⟩
  iframe HU HO Hw Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) ≤ 0 := by fin_cases w <;> fin_cases s <;> decide
    rcases t with ⟨_ | _, ht⟩
    · exact mayWait c _ 0 51 h0 fun i hi => by unfold lvl; split <;> [omega; (split <;> [omega; (split <;> omega)])]
    · exact mayWait c _ 0 0 h0 fun i hi => absurd hi (by omega)

/-! ## The run -/

def finalA (c : Dev nD) (w : Fin cfg0.W) : Buf (Elt F) ((cfg0.win w).arr.view.loc (c : Thread nD τ)) := (dats m ρ 0 c).arrAt w cfg0.N

/-- What is read at the end on device `c` besides the windows' arrays. -/
def QY (c : Dev nD) (s : MemSt nD τ sig (Elt F)) : Prop :=
  (∀ sm : SemLoc sig, sm.isScoped .tc = false → s.sem ((c.tc : Thread nD τ), sm) = 0) ∧ s.mem ((c : Thread nD τ).loc main_arg1) = m ((c : Thread nD τ).loc main_arg1)

/-- From what is kept, the final memory has the second operand unchanged and the runtime's semaphore at zero. -/
theorem read_left (c : Dev nD) (s' : Phys nD τ sig (Elt F)) :
    iprop(left m c ∗ emp ∗ SI s') ⊢ |={Set.univ}=> iprop(⌜QY m c s'.mem⌝ ∗ SI s') := by
  unfold left wP
  iintro ⟨⟨Hu, Hw⟩, -, HSI⟩
  imod (Pipeline.unscopedSems0_read (X := (unscopedSems0 c : sProp 𝕄)) (c := c) fupd_intro s') $$ [Hu HSI] with ⟨%h, HSI⟩
  · iframe Hu HSI
  ihave %h' := (SI_pointsTo_agree (Ix := Unit) (Name := ℕ) (U := UU) (Lvl := ℕ) (st := s')) $$ [HSI Hw]
  · iframe HSI Hw
  imodintro
  isplitr
  · ipureintro; exact ⟨h, funext fun i => h' i (Finset.mem_univ _)⟩
  iexact HSI

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- For any float values, from any memory with zero counters: every weakly fair execution on the thirty-two devices ends, with each
    window's array at its computed contents, the second operand unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Od d 51) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QY m)
    (hY := read_left m)
    (hQ := fun _ h hs => ⟨fun c => ⟨(h c).1, (h c).2.2.2⟩, sem_eq_zero hs fun c => (h c).2.2.1⟩)

end Cert.A2A

end
-- ==== Proof.Frames.lean ====
module

public import proofs.«01_k».proof.Proof.Run
public import Idealize.ShloMosaic.Lib.Pipeline.ValueKit

@[expose] public section

set_option maxRecDepth 20000

noncomputable section

namespace Cert.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the windows' arrays end holding -/

/-- The inputs' arrays end as they were launched. -/
theorem final_x (c : Dev nD) : finalA m ρ c (0 : Fin 4) = m ((c : Thread nD τ).loc main_arg0) := (dats m ρ 0 c).arrAt_in (0 : Fin 4) rfl _
/-- The first scale's array ends as it was launched. -/
theorem final_sx (c : Dev nD) : finalA m ρ c (1 : Fin 4) = m ((c : Thread nD τ).loc main_arg2) := (dats m ρ 0 c).arrAt_in (1 : Fin 4) rfl _
/-- The second scale's array ends as it was launched. -/
theorem final_sw (c : Dev nD) : finalA m ρ c (2 : Fin 4) = m ((c : Thread nD τ).loc main_arg3) := (dats m ρ 0 c).arrAt_in (2 : Fin 4) rfl _

/-- The result's array ends holding what the body leaves in its staging buffer: the one block is the whole array. -/
theorem final_out (c : Dev nD) : finalA m ρ c (3 : Fin 4) = OUT m c :=
  (dats m ρ 0 c).arrAt_eq_of_after_last (3 : Fin 4) t₀ (by decide +kernel) (OUT m c) fun j => rfl

/-- The end of a run, array by array: the four arguments unchanged, the result on device `c` at `OUT`. -/
theorem run_arrays : θ_run defs (onTc (τ := τ) (main (F := F))) ⟨m, fun _ => 0, ρ⟩ (fun r => (∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (3 : Fin 4)).trans (final_out m ρ c), ((h.1 c).1 (0 : Fin 4)).trans (final_x m ρ c),
    (h.1 c).2, ((h.1 c).1 (1 : Fin 4)).trans (final_sx m ρ c), ((h.1 c).1 (2 : Fin 4)).trans (final_sw m ρ c)⟩, h.2⟩) (run_main m ρ)

end Cert.A2A

end
-- ==== Proof.Value.lean ====
module

public import proofs.«01_k».proof.Proof.Frames
public import Idealize.ShloMosaic.Lib.MatmulPlain
public import Idealize.ShloMosaic.Lib.StackMember
public import Idealize.ShloMosaic.Lib.KernelVsHost

@[expose] public section

set_option maxRecDepth 20000

noncomputable section

namespace Cert.A2A

open Cert.KernelIdeal Cert.KernelIdeal.Gen
open Idealize.ShloMosaic hiding ix2 ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-! ## The operands of each device, as matrices of extended reals -/

/-- Device `c`'s block of rows of the first operand. -/
def argX (c : Dev nD) (r : Fin 128) (k : Fin 4096) : EReal := m ((c : Thread nD τ).loc main_arg0) (ix2 r k)
/-- Device `c`'s copy of the second operand. -/
def argW (c : Dev nD) (k : Fin 4096) (q : Fin 8192) : EReal := m ((c : Thread nD τ).loc main_arg1) (ix2 k q)
/-- Device `c`'s copy of the first scale, and of the second. -/
def argSx (c : Dev nD) : EReal := m ((c : Thread nD τ).loc main_arg2) i0
def argSw (c : Dev nD) : EReal := m ((c : Thread nD τ).loc main_arg3) i0

/-! ## The staged operands -/

/-- The staged block is the device's block of rows. -/
theorem xstg_apply (c : Dev nD) (r : Fin 128) (k : Fin 4096) : xstg m c (ix2 r k) = argX m c r k := by
  refine congrArg (m ((c : Thread nD τ).loc main_arg0)) (funext fun a => Fin.ext ?_)
  match a with
  | ⟨0, _⟩ => show 0 + 1 * r.val = r.val; omega
  | ⟨1, _⟩ => show 0 + 1 * k.val = k.val; omega

/-- The staged first scale is the launched one. -/
theorem sxv_eq (c : Dev nD) : sxv m c = argSx m c := congrArg (m ((c : Thread nD τ).loc main_arg2)) (idx_S1 _ _)
/-- The staged second scale is the launched one. -/
theorem swv_eq (c : Dev nD) : swv m c = argSw m c := congrArg (m ((c : Thread nD τ).loc main_arg3)) (idx_S1 _ _)

/-- The plane's columns, at a place: the second operand's column `q` places after the plane's first. -/
theorem WB_apply (c : Dev nD) (k : Fin 4096) (q : Fin 2048) (Q : Fin 8192) (hQ : Q.val = zz c 0 * 2048 + q.val) :
    WB m c (ix2 k q) = argW m c k Q := by
  refine congrArg (m ((c : Thread nD τ).loc main_arg1)) (funext fun a => Fin.ext ?_)
  match a with
  | ⟨0, _⟩ => show k0_off1 c 0 + 1 * k.val = k.val; rw [off1_eq c]; show 0 + 1 * k.val = k.val; omega
  | ⟨1, _⟩ => show k0_off1 c 1 + 1 * q.val = Q.val; rw [off1_eq c]; show zz c 0 * 2048 + 1 * q.val = Q.val; omega

/-! ## The payloads in exact arithmetic -/

/-- Over the reals narrowing the staged block changes no entry. -/
theorem pay2_apply (v : S128x4096.Idx → Elt Ideal .f32) (r : Fin 128) (k : Fin 4096) :
    k0_pay2 (F := Ideal) (k0_pay1 (F := Ideal) v) (ix3 (0 : Fin 1) r k) = v (ix2 r k) := by
  unfold k0_pay2 k0_pay1
  refine (shapeCast_apply _ _ (ix3 (0 : Fin 1) r k) (ix2 r k) ?_).trans ?_
  · rw [Shape.rowMajor_val_three, Shape.rowMajor_val_two]; simp [S1x128x4096, S128x4096]
  · exact shapeCast_apply v _ (ix2 r k) (ix2 r k) rfl

/-- A partial product: row by column, times the two scales. -/
theorem pay4_apply (a b : Elt Ideal .f32) (x : S1x128x4096.Idx → Elt Ideal .fp8e5m2) (w : S4096x2048.Idx → Elt Ideal .f32) (r : Fin 128) (q : Fin 2048) :
    k0_pay4 (F := Ideal) a b x w (ix3 (0 : Fin 1) r q) = ((∑ k : Fin 4096, (x (ix3 (0 : Fin 1) r k) : EReal) * w (ix2 k q)) * (a * b) : EReal) := by
  unfold k0_pay4 k0_pay3
  refine (shapeCast_apply _ _ (ix3 (0 : Fin 1) r q) (ix2 r q) ?_).trans ?_
  · rw [Shape.rowMajor_val_three, Shape.rowMajor_val_two]; simp [S1x128x2048, S128x2048]
  refine congrArg (fun e : EReal => e * (a * b)) ?_
  refine (congrFun (matmul_zero_eq_dotGeneral (DotDims.plain 128 4096 2048) none _ w) (ix2 r q)).trans ?_
  refine (StackMember.dotGeneral_plain_apply none _ w r q).trans (Finset.sum_congr rfl fun k _ => ?_)
  refine congrArg (fun e : EReal => e * w (ix2 k q)) ?_
  refine (shapeCast_apply x _ (ix2 r k) (ix3 (0 : Fin 1) r k) ?_)
  rw [Shape.rowMajor_val_three, Shape.rowMajor_val_two]; simp [S1x128x4096, S128x4096]

/-- Over the reals widening a piece changes no entry. -/
theorem pay5_apply (v : S1x128x256.Idx → Elt Ideal .bf16) (r : Fin 128) (b : Fin 256) :
    k0_pay5 (F := Ideal) v (ix2 r b) = v (ix3 (0 : Fin 1) r b) := by
  unfold k0_pay5
  refine shapeCast_apply v _ (ix2 r b) (ix3 (0 : Fin 1) r b) ?_
  rw [Shape.rowMajor_val_three, Shape.rowMajor_val_two]; simp [S1x128x256, S128x256]

/-! ## The result, entry by entry -/

/-- The partial product of slot `z` on device `c`: the rows of the device of plane `z` at `c`'s place, by the columns of `c`'s plane. -/
theorem STGv_apply (c : Dev nD) (z : ℕ) (r : Fin 128) (q : Fin 2048) (Q : Fin 8192) (hQ : Q.val = zz c 0 * 2048 + q.val) :
    STGv m c z (ix3 (0 : Fin 1) r q) = (∑ k : Fin 4096, argX m (devAt z (kk c 0)) r k * argW m c k Q) * (argSx m c * argSw m c) := by
  unfold STGv xslot
  refine (pay4_apply _ _ _ _ r q).trans ?_
  rw [sxv_eq, swv_eq]
  refine congrArg (fun e : EReal => e * (argSx m c * argSw m c)) (Finset.sum_congr rfl fun k _ => ?_)
  rw [pay2_apply, xstg_apply, WB_apply m c k q Q hQ]

/-- The device of which plane, and at which place, a row block of the result comes from. -/
theorem devAt_block (c : Dev nD) : ∀ D < 32, (devAt (D / 8 % 4) (D % 8)).val = D := fun D hD => by
  show D / 8 % 4 % 4 * 8 + D % 8 % 8 = D
  omega

/-- The entry of the result at row `R` and column `b` of device `c`: row `R % 128` of the first operand's block on device `R / 128`, by
    column `b` of the `c`-th block of columns of the second operand, times the two scales. -/
theorem OUT_apply (c d e : Dev nD) (R : Fin 4096) (b : Fin 256) (Q : Fin 8192) (hQ : Q.val = c.val * 256 + b.val)
    (hd : d.val = R.val / 128) (he : e = devAt (zz c 0) (R.val / 128 % 8)) :
    OUT m c (ix2 R b) = (∑ k : Fin 4096, argX m d ⟨R.val % 128, Nat.mod_lt _ (by decide)⟩ k * argW m e k Q) * (argSx m e * argSw m e) := by
  subst he
  have hD : R.val / 128 < 32 := by omega
  have hz := zz_devAt (zz c 0) (zz_lt c 0) (R.val / 128 % 8) (Nat.mod_lt _ (by decide)) 0 (by decide)
  have hk := kk_devAt (zz c 0) (zz_lt c 0) (R.val / 128 % 8) (Nat.mod_lt _ (by decide)) 0 (by decide)
  have hc := c.isLt
  have hq : Q.val = zz (devAt (zz c 0) (R.val / 128 % 8)) 0 * 2048 + (col (kk c 0) (kk_lt c 0) b).val := by
    rw [hz, hQ]
    show c.val * 256 + b.val = ((c.val / 8 + 0) % 4 + 0) % 4 * 2048 + ((c.val % 8 + 0) % 8 * 256 + b.val)
    have : c.val < 32 := hc
    omega
  have hdd : devAt (R.val / 128 / 8 % 4) (kk (devAt (zz c 0) (R.val / 128 % 8)) 0) = d := by
    apply Fin.ext
    rw [hk, hd, show (R.val / 128 % 8 + 0) % 8 = R.val / 128 % 8 by omega]
    exact devAt_block c _ hD
  refine (pay5_apply _ _ b).trans ?_
  refine (STGv_apply m _ (R.val / 128 / 8 % 4) _ (col (kk c 0) (kk_lt c 0) b) Q hq).trans ?_
  rw [hdd]

end Cert.A2A

end
-- ==== Proof.Agree.lean ====
/-
  The kernel's result on each device against the reference's: the same extended reals, each device
  holding its block of columns.
-/
module

public import proofs.«01_k».proof.Proof.Value
public import proofs.«01_k».proof.Proof.Gen.ReferenceIdeal.Run
public import Idealize.ShloMosaic.Lib.Layout

@[expose] public section

set_option maxRecDepth 20000

noncomputable section

namespace Cert.A2A

open Idealize.ShloMosaic hiding ix2 ix3 eq_ix2
open Idealize.ShloMosaic.TcCoe Idealize.ShloMosaic.ValueIdx

/-- The reference's result, of its four arguments. -/
def refOut (X : Cert.ReferenceIdeal.S4096x4096.Idx → Elt Ideal .f32) (W : Cert.ReferenceIdeal.S4096x8192.Idx → Elt Ideal .f32)
    (a b : Cert.ReferenceIdeal.S1.Idx → Elt Ideal .f32) : Cert.ReferenceIdeal.S4096x8192.Idx → Elt Ideal .f32 :=
  mulf (F := Ideal) (s := Cert.ReferenceIdeal.S4096x8192) (φ := .f32)
    (Host.dotGeneral (F := Ideal) (φ₁ := .f32) (φ₂ := .f32) Cert.ReferenceIdeal.dot_S4096x4096_S4096x8192_S4096x8192_1_0_0_1_n_n none X W)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf (F := Ideal) (s := Cert.ReferenceIdeal.S1) (φ := .f32) a b)))

/-- An entry of it: row by column, times the product of the two scales. -/
theorem refOut_apply (X : Cert.ReferenceIdeal.S4096x4096.Idx → Elt Ideal .f32) (W : Cert.ReferenceIdeal.S4096x8192.Idx → Elt Ideal .f32)
    (a b : Cert.ReferenceIdeal.S1.Idx → Elt Ideal .f32) (R : Fin 4096) (Q : Fin 8192) :
    refOut X W a b (ix2 R Q) = ((∑ k : Fin 4096, (X (ix2 R k) : EReal) * W (ix2 k Q)) * (a i0 * b i0) : EReal) := by
  have hd : Host.dotGeneral (F := Ideal) (φ₁ := .f32) (φ₂ := .f32) Cert.ReferenceIdeal.dot_S4096x4096_S4096x8192_S4096x8192_1_0_0_1_n_n none X W (ix2 R Q)
      = (∑ k : Fin 4096, (X (ix2 R k) : EReal) * W (ix2 k Q) : EReal) := StackMember.dotGeneral_plain_apply (φ₁ := .f32) (φ₂ := .f32) none X W R Q
  unfold refOut
  refine (congrArg (fun e : EReal => e * _) hd).trans ?_
  refine congrArg (fun e : EReal => _ * e) ?_
  exact (congrArg (fun i => (a i * b i : EReal)) (idx_S1 _ i0))

/-- Device `c`'s result is its block of columns of the reference's. -/
theorem agree (m : (ℓ : Loc Cert.KernelIdeal.nD Cert.KernelIdeal.τ Cert.KernelIdeal.sig) → Buf (Elt Ideal) ℓ)
    (X : Cert.ReferenceIdeal.S4096x4096.Idx → Elt Ideal .f32) (W : Cert.ReferenceIdeal.S4096x8192.Idx → Elt Ideal .f32)
    (a b : Cert.ReferenceIdeal.S1.Idx → Elt Ideal .f32)
    (hX : ∀ c : Dev Cert.KernelIdeal.nD, m ((c : Thread Cert.KernelIdeal.nD Cert.KernelIdeal.τ).loc Cert.KernelIdeal.main_arg0) = Layout.block ⟨2, ![128, 4096]⟩ ⟨2, ![4096, 4096]⟩ 0 32 c X)
    (hW : ∀ c : Dev Cert.KernelIdeal.nD, m ((c : Thread Cert.KernelIdeal.nD Cert.KernelIdeal.τ).loc Cert.KernelIdeal.main_arg1) = W)
    (ha : ∀ c : Dev Cert.KernelIdeal.nD, m ((c : Thread Cert.KernelIdeal.nD Cert.KernelIdeal.τ).loc Cert.KernelIdeal.main_arg2) = a)
    (hb : ∀ c : Dev Cert.KernelIdeal.nD, m ((c : Thread Cert.KernelIdeal.nD Cert.KernelIdeal.τ).loc Cert.KernelIdeal.main_arg3) = b)
    (c : Dev Cert.KernelIdeal.nD) :
    OUT m c = Layout.block ⟨2, ![4096, 256]⟩ ⟨2, ![4096, 8192]⟩ 1 32 c (refOut X W a b) := by
  funext i
  obtain ⟨R, q, rfl⟩ : ∃ (R : Fin 4096) (q : Fin 256), i = ix2 R q := ⟨i 0, i 1, eq_ix2 i⟩
  have hc : c.val < 32 := c.isLt
  let Q : Fin 8192 := ⟨c.val * 256 + q.val, by omega⟩
  let d : Dev Cert.KernelIdeal.nD := ⟨R.val / 128, by show R.val / 128 < 32; omega⟩
  refine (OUT_apply m c d _ R q Q rfl rfl rfl).trans ?_
  rw [Layout.block_apply, show (Layout.Tiles.idx (S := ⟨2, ![4096, 256]⟩) (T := ⟨2, ![4096, 8192]⟩) (a := 1) (k := 32) (by decide) c (ix2 R q)) = ix2 R Q from
    funext fun x => Fin.ext (by match x with | ⟨0, _⟩ => rfl | ⟨1, _⟩ => rfl), refOut_apply]
  unfold argX argW argSx argSw
  rw [hX, hW, ha, hb]
  refine congrArg (fun e : EReal => e * (a i0 * b i0)) (Finset.sum_congr rfl fun k _ => ?_)
  refine congrArg (fun e : EReal => e * W (ix2 k Q)) (congrArg X (funext fun x => Fin.ext ?_))
  match x with
  | ⟨0, _⟩ => show R.val / 128 * 128 + R.val % 128 = R.val; omega
  | ⟨1, _⟩ => rfl

end Cert.A2A

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

set_option maxRecDepth 20000

noncomputable section

namespace Cert.Proof

open Idealize.ShloMosaic Idealize.SL.Sem

/-- The printed program and its idealization have the same text: the kernel's body, -/
theorem body_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- the pipeline around it, -/
theorem defs_same {F : FTy → Type} [FloatOps F] : Cert.Kernel.defs (F := F) = Cert.KernelIdeal.defs (F := F) :=
  congrArg (fun d => Pipeline.defs (Cert.KernelIdeal.pcfgs (F := F)) d) (body_same (F := F))

/-- so the same runs. -/
theorem run_same {F : FTy → Type} [FloatOps F] (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun d => θ_run d (onTc (τ := Cert.KernelIdeal.τ) (Cert.KernelIdeal.main (F := F))) s Q) (defs_same (F := F))).mpr h

/-- The kernel's frame at the machine's floats: the run's own ending, the result forgotten. -/
theorem frame_kernel : Cert.quiescent_Kernel := fun m ρ _ =>
  run_same _ _ ((θ_run Cert.KernelIdeal.defs _ _).mono (fun _ h => ⟨fun c => (h.1 c).2, h.2⟩) (Cert.A2A.run_arrays (F := Bits) m ρ))

/-- The kernel's frame at the reals. -/
theorem frame_ideal : Cert.quiescent_KernelIdeal := fun m ρ _ =>
  (θ_run Cert.KernelIdeal.defs _ _).mono (fun _ h => ⟨fun c => (h.1 c).2, h.2⟩) (Cert.A2A.run_arrays (F := Ideal) m ρ)

/-- The reference's frame: a straight line of host operations that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten. -/
theorem same_program : Cert.preserves_Kernel_KernelIdeal := trivial

/-- Over the reals the kernel computes the reference: every device ends with its block of columns of the whole product, scaled. -/
theorem value : Cert.algebraic_KernelIdeal_ReferenceIdeal := fun m ρ m' ρ' _ hag =>
  ⟨Cert.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨(h.1 c).1.trans (Cert.A2A.agree m _ _ _ _ (fun c => (hag c).1) (fun c => (hag c).2.1) (fun c => (hag c).2.2.1) (fun c => (hag c).2.2.2) c), (h.1 c).2⟩)
      (Cert.A2A.run_arrays (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, same_program, value⟩

end Cert.Proof

end
